-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_InYRefIdeal (m : (ℓ : Loc Cert.InYRefIdeal.nD Cert.InYRefIdeal.τ Cert.InYRefIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_UpYRefIdeal (m : (ℓ : Loc Cert.UpYRefIdeal.nD Cert.UpYRefIdeal.τ Cert.UpYRefIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_DownYRefIdeal (m : (ℓ : Loc Cert.DownYRefIdeal.nD Cert.DownYRefIdeal.τ Cert.DownYRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_InYRefIdeal [hInYRefIdeal : Cert.InYRefIdeal.Facts] : Prop :=
  ∀ (m : (ℓ : Loc Cert.InYRefIdeal.nD Cert.InYRefIdeal.τ Cert.InYRefIdeal.sig) → Buf (Elt Ideal) ℓ) (g : Dev Cert.InYRefIdeal.nD → PrngReg), Pre_InYRefIdeal m →
    θ_run (Cert.InYRefIdeal.defs (F := Ideal)) (onTc (τ := Cert.InYRefIdeal.τ) (Cert.InYRefIdeal.main (F := Ideal))) ⟨m, fun _ => 0, g⟩ (fun r => (∀ c : Dev Cert.InYRefIdeal.nD,
      r.2.mem ((c.tc : Thread Cert.InYRefIdeal.nD Cert.InYRefIdeal.τ).loc Cert.InYRefIdeal.main_arg0) = m ((c.tc : Thread Cert.InYRefIdeal.nD Cert.InYRefIdeal.τ).loc Cert.InYRefIdeal.main_arg0)
      ∧ r.2.mem ((c.tc : Thread Cert.InYRefIdeal.nD Cert.InYRefIdeal.τ).loc Cert.InYRefIdeal.main_arg1) = m ((c.tc : Thread Cert.InYRefIdeal.nD Cert.InYRefIdeal.τ).loc Cert.InYRefIdeal.main_arg1))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ r.2.sem = fun _ => 0)

def quiescent_UpYRefIdeal [hUpYRefIdeal : Cert.UpYRefIdeal.Facts] : Prop :=
  ∀ (m : (ℓ : Loc Cert.UpYRefIdeal.nD Cert.UpYRefIdeal.τ Cert.UpYRefIdeal.sig) → Buf (Elt Ideal) ℓ) (g : Dev Cert.UpYRefIdeal.nD → PrngReg), Pre_UpYRefIdeal m →
    θ_run (Cert.UpYRefIdeal.defs (F := Ideal)) (onTc (τ := Cert.UpYRefIdeal.τ) (Cert.UpYRefIdeal.main (F := Ideal))) ⟨m, fun _ => 0, g⟩ (fun r => (∀ c : Dev Cert.UpYRefIdeal.nD,
      r.2.mem ((c.tc : Thread Cert.UpYRefIdeal.nD Cert.UpYRefIdeal.τ).loc Cert.UpYRefIdeal.main_arg0) = m ((c.tc : Thread Cert.UpYRefIdeal.nD Cert.UpYRefIdeal.τ).loc Cert.UpYRefIdeal.main_arg0)
      ∧ r.2.mem ((c.tc : Thread Cert.UpYRefIdeal.nD Cert.UpYRefIdeal.τ).loc Cert.UpYRefIdeal.main_arg1) = m ((c.tc : Thread Cert.UpYRefIdeal.nD Cert.UpYRefIdeal.τ).loc Cert.UpYRefIdeal.main_arg1))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1)
      ∧ r.2.mem ((c.tc : Thread Cert.DownY.nD Cert.DownY.τ).loc Cert.DownY.main_arg2) = m ((c.tc : Thread Cert.DownY.nD Cert.DownY.τ).loc Cert.DownY.main_arg2))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
      ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ r.2.sem = fun _ => 0)

def quiescent_DownYRefIdeal [hDownYRefIdeal : Cert.DownYRefIdeal.Facts] : Prop :=
  ∀ (m : (ℓ : Loc Cert.DownYRefIdeal.nD Cert.DownYRefIdeal.τ Cert.DownYRefIdeal.sig) → Buf (Elt Ideal) ℓ) (g : Dev Cert.DownYRefIdeal.nD → PrngReg), Pre_DownYRefIdeal m →
    θ_run (Cert.DownYRefIdeal.defs (F := Ideal)) (onTc (τ := Cert.DownYRefIdeal.τ) (Cert.DownYRefIdeal.main (F := Ideal))) ⟨m, fun _ => 0, g⟩ (fun r => (∀ c : Dev Cert.DownYRefIdeal.nD,
      r.2.mem ((c.tc : Thread Cert.DownYRefIdeal.nD Cert.DownYRefIdeal.τ).loc Cert.DownYRefIdeal.main_arg0) = m ((c.tc : Thread Cert.DownYRefIdeal.nD Cert.DownYRefIdeal.τ).loc Cert.DownYRefIdeal.main_arg0)
      ∧ r.2.mem ((c.tc : Thread Cert.DownYRefIdeal.nD Cert.DownYRefIdeal.τ).loc Cert.DownYRefIdeal.main_arg1) = m ((c.tc : Thread Cert.DownYRefIdeal.nD Cert.DownYRefIdeal.τ).loc Cert.DownYRefIdeal.main_arg1)
      ∧ r.2.mem ((c.tc : Thread Cert.DownYRefIdeal.nD Cert.DownYRefIdeal.τ).loc Cert.DownYRefIdeal.main_arg2) = m ((c.tc : Thread Cert.DownYRefIdeal.nD Cert.DownYRefIdeal.τ).loc Cert.DownYRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v5) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v5) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v4) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_InY_InYIdeal : Prop :=
  True

def algebraic_InYIdeal_InYRefIdeal [hInYIdeal : Cert.InYIdeal.Facts] [hInYRefIdeal : Cert.InYRefIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.InYRefIdeal.nD Cert.InYRefIdeal.τ Cert.InYRefIdeal.sig) → Buf (Elt Ideal) ℓ) (g' : Dev Cert.InYRefIdeal.nD → PrngReg), Pre_InYIdeal m →
    (∀ c : Dev Cert.InYIdeal.nD,
      m' ((c.tc : Thread Cert.InYRefIdeal.nD Cert.InYRefIdeal.τ).loc Cert.InYRefIdeal.main_arg0) = m ((c.tc : Thread Cert.InYIdeal.nD Cert.InYIdeal.τ).loc Cert.InYIdeal.main_arg0)
      ∧ m' ((c.tc : Thread Cert.InYRefIdeal.nD Cert.InYRefIdeal.τ).loc Cert.InYRefIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v0)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v0) = v0 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.InYRefIdeal.defs (F := Ideal)) (onTc (τ := Cert.InYRefIdeal.τ) (Cert.InYRefIdeal.main (F := Ideal))) ⟨m', fun _ => 0, g'⟩ (fun r => ∀ c : Dev Cert.InYRefIdeal.nD,
          r.2.mem ((c.tc : Thread Cert.InYRefIdeal.nD Cert.InYRefIdeal.τ).loc Cert.InYRefIdeal.main_v3) = v0 c
          ∧ r.2.mem ((c.tc : Thread Cert.InYRefIdeal.nD Cert.InYRefIdeal.τ).loc Cert.InYRefIdeal.main_arg0) = m' ((c.tc : Thread Cert.InYRefIdeal.nD Cert.InYRefIdeal.τ).loc Cert.InYRefIdeal.main_arg0)
          ∧ r.2.mem ((c.tc : Thread Cert.InYRefIdeal.nD Cert.InYRefIdeal.τ).loc Cert.InYRefIdeal.main_arg1) = m' ((c.tc : Thread Cert.InYRefIdeal.nD Cert.InYRefIdeal.τ).loc Cert.InYRefIdeal.main_arg1))

def preserves_UpY_UpYIdeal : Prop :=
  True

def algebraic_UpYIdeal_UpYRefIdeal [hUpYIdeal : Cert.UpYIdeal.Facts] [hUpYRefIdeal : Cert.UpYRefIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.UpYRefIdeal.nD Cert.UpYRefIdeal.τ Cert.UpYRefIdeal.sig) → Buf (Elt Ideal) ℓ) (g' : Dev Cert.UpYRefIdeal.nD → PrngReg), Pre_UpYIdeal m →
    (∀ c : Dev Cert.UpYIdeal.nD,
      m' ((c.tc : Thread Cert.UpYRefIdeal.nD Cert.UpYRefIdeal.τ).loc Cert.UpYRefIdeal.main_arg0) = m ((c.tc : Thread Cert.UpYIdeal.nD Cert.UpYIdeal.τ).loc Cert.UpYIdeal.main_arg0)
      ∧ m' ((c.tc : Thread Cert.UpYRefIdeal.nD Cert.UpYRefIdeal.τ).loc Cert.UpYRefIdeal.main_arg1) = m ((c.tc : Thread Cert.UpYIdeal.nD Cert.UpYIdeal.τ).loc Cert.UpYIdeal.main_arg1)) →
    ∃ (v0 : (c : Dev Cert.UpYIdeal.nD) → Buf (Elt Ideal) ((c.tc : Thread Cert.UpYIdeal.nD Cert.UpYIdeal.τ).loc Cert.UpYIdeal.main_v0)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v0) = v0 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ θ_run (Cert.UpYRefIdeal.defs (F := Ideal)) (onTc (τ := Cert.UpYRefIdeal.τ) (Cert.UpYRefIdeal.main (F := Ideal))) ⟨m', fun _ => 0, g'⟩ (fun r => ∀ c : Dev Cert.UpYRefIdeal.nD,
          r.2.mem ((c.tc : Thread Cert.UpYRefIdeal.nD Cert.UpYRefIdeal.τ).loc Cert.UpYRefIdeal.main_v4) = v0 c
          ∧ r.2.mem ((c.tc : Thread Cert.UpYRefIdeal.nD Cert.UpYRefIdeal.τ).loc Cert.UpYRefIdeal.main_arg0) = m' ((c.tc : Thread Cert.UpYRefIdeal.nD Cert.UpYRefIdeal.τ).loc Cert.UpYRefIdeal.main_arg0)
          ∧ r.2.mem ((c.tc : Thread Cert.UpYRefIdeal.nD Cert.UpYRefIdeal.τ).loc Cert.UpYRefIdeal.main_arg1) = m' ((c.tc : Thread Cert.UpYRefIdeal.nD Cert.UpYRefIdeal.τ).loc Cert.UpYRefIdeal.main_arg1))

def preserves_DownY_DownYIdeal : Prop :=
  True

def algebraic_DownYIdeal_DownYRefIdeal [hDownYIdeal : Cert.DownYIdeal.Facts] [hDownYRefIdeal : Cert.DownYRefIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.DownYRefIdeal.nD Cert.DownYRefIdeal.τ Cert.DownYRefIdeal.sig) → Buf (Elt Ideal) ℓ) (g' : Dev Cert.DownYRefIdeal.nD → PrngReg), Pre_DownYIdeal m →
    (∀ c : Dev Cert.DownYIdeal.nD,
      m' ((c.tc : Thread Cert.DownYRefIdeal.nD Cert.DownYRefIdeal.τ).loc Cert.DownYRefIdeal.main_arg0) = m ((c.tc : Thread Cert.DownYIdeal.nD Cert.DownYIdeal.τ).loc Cert.DownYIdeal.main_arg0)
      ∧ m' ((c.tc : Thread Cert.DownYRefIdeal.nD Cert.DownYRefIdeal.τ).loc Cert.DownYRefIdeal.main_arg1) = m ((c.tc : Thread Cert.DownYIdeal.nD Cert.DownYIdeal.τ).loc Cert.DownYIdeal.main_arg1)
      ∧ m' ((c.tc : Thread Cert.DownYRefIdeal.nD Cert.DownYRefIdeal.τ).loc Cert.DownYRefIdeal.main_arg2) = m ((c.tc : Thread Cert.DownYIdeal.nD Cert.DownYIdeal.τ).loc Cert.DownYIdeal.main_arg2)) →
    ∃ (v0 : (c : Dev Cert.DownYIdeal.nD) → Buf (Elt Ideal) ((c.tc : Thread Cert.DownYIdeal.nD Cert.DownYIdeal.τ).loc Cert.DownYIdeal.main_v0)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v0) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
          ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ θ_run (Cert.DownYRefIdeal.defs (F := Ideal)) (onTc (τ := Cert.DownYRefIdeal.τ) (Cert.DownYRefIdeal.main (F := Ideal))) ⟨m', fun _ => 0, g'⟩ (fun r => ∀ c : Dev Cert.DownYRefIdeal.nD,
          r.2.mem ((c.tc : Thread Cert.DownYRefIdeal.nD Cert.DownYRefIdeal.τ).loc Cert.DownYRefIdeal.main_v3) = v0 c
          ∧ r.2.mem ((c.tc : Thread Cert.DownYRefIdeal.nD Cert.DownYRefIdeal.τ).loc Cert.DownYRefIdeal.main_arg0) = m' ((c.tc : Thread Cert.DownYRefIdeal.nD Cert.DownYRefIdeal.τ).loc Cert.DownYRefIdeal.main_arg0)
          ∧ r.2.mem ((c.tc : Thread Cert.DownYRefIdeal.nD Cert.DownYRefIdeal.τ).loc Cert.DownYRefIdeal.main_arg1) = m' ((c.tc : Thread Cert.DownYRefIdeal.nD Cert.DownYRefIdeal.τ).loc Cert.DownYRefIdeal.main_arg1)
          ∧ r.2.mem ((c.tc : Thread Cert.DownYRefIdeal.nD Cert.DownYRefIdeal.τ).loc Cert.DownYRefIdeal.main_arg2) = m' ((c.tc : Thread Cert.DownYRefIdeal.nD Cert.DownYRefIdeal.τ).loc Cert.DownYRefIdeal.main_arg2))

def Claim : Prop :=
  ∃ (hKernel : Cert.Kernel.Facts) (hKernelIdeal : Cert.KernelIdeal.Facts) (hReferenceIdeal : Cert.ReferenceIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hDownW : Cert.DownW.Facts) (hDownWIdeal : Cert.DownWIdeal.Facts) (hDownWRefIdeal : Cert.DownWRefIdeal.Facts) (hDownX : Cert.DownX.Facts) (hDownXIdeal : Cert.DownXIdeal.Facts) (hDownXRefIdeal : Cert.DownXRefIdeal.Facts) (hInY : Cert.InY.Facts) (hInYIdeal : Cert.InYIdeal.Facts) (hInYRefIdeal : Cert.InYRefIdeal.Facts) (hUpY : Cert.UpY.Facts) (hUpYIdeal : Cert.UpYIdeal.Facts) (hUpYRefIdeal : Cert.UpYRefIdeal.Facts) (hDownY : Cert.DownY.Facts) (hDownYIdeal : Cert.DownYIdeal.Facts) (hDownYRefIdeal : Cert.DownYRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_DownW (hDownW := hDownW)
    ∧ quiescent_DownWIdeal (hDownWIdeal := hDownWIdeal)
    ∧ quiescent_DownWRefIdeal (hDownWRefIdeal := hDownWRefIdeal)
    ∧ quiescent_DownX (hDownX := hDownX)
    ∧ quiescent_DownXIdeal (hDownXIdeal := hDownXIdeal)
    ∧ quiescent_DownXRefIdeal (hDownXRefIdeal := hDownXRefIdeal)
    ∧ quiescent_InY (hInY := hInY)
    ∧ quiescent_InYIdeal (hInYIdeal := hInYIdeal)
    ∧ quiescent_InYRefIdeal (hInYRefIdeal := hInYRefIdeal)
    ∧ quiescent_UpY (hUpY := hUpY)
    ∧ quiescent_UpYIdeal (hUpYIdeal := hUpYIdeal)
    ∧ quiescent_UpYRefIdeal (hUpYRefIdeal := hUpYRefIdeal)
    ∧ quiescent_DownY (hDownY := hDownY)
    ∧ quiescent_DownYIdeal (hDownYIdeal := hDownYIdeal)
    ∧ quiescent_DownYRefIdeal (hDownYRefIdeal := hDownYRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_DownW_DownWIdeal
    ∧ algebraic_DownWIdeal_DownWRefIdeal (hDownWIdeal := hDownWIdeal) (hDownWRefIdeal := hDownWRefIdeal)
    ∧ preserves_DownX_DownXIdeal
    ∧ algebraic_DownXIdeal_DownXRefIdeal (hDownXIdeal := hDownXIdeal) (hDownXRefIdeal := hDownXRefIdeal)
    ∧ preserves_InY_InYIdeal
    ∧ algebraic_InYIdeal_InYRefIdeal (hInYIdeal := hInYIdeal) (hInYRefIdeal := hInYRefIdeal)
    ∧ preserves_UpY_UpYIdeal
    ∧ algebraic_UpYIdeal_UpYRefIdeal (hUpYIdeal := hUpYIdeal) (hUpYRefIdeal := hUpYRefIdeal)
    ∧ preserves_DownY_DownYIdeal
    ∧ algebraic_DownYIdeal_DownYRefIdeal (hDownYIdeal := hDownYIdeal) (hDownYRefIdeal := hDownYRefIdeal)
-- ==== Pre_finite.lean ====
abbrev S2x4224x8x64 : Shape := ⟨4, ![2, 4224, 8, 64]⟩
abbrev S2x4224x8 : Shape := ⟨3, ![2, 4224, 8]⟩
abbrev S_ : Shape := ⟨0, ![]⟩

class Facts : Prop where
  bcast_S_S2x4224x8x64 : S_.BroadcastsInDim S2x4224x8x64 (![] : Fin 0 → Fin S2x4224x8x64.rank)
  reducesTo_S2x4224x8x64_S_d0_1_2_3 : S2x4224x8x64.ReducesTo [0, 1, 2, 3] S_
  h_S_ : 0 < S_.numel
  bcast_S_S2x4224x8 : S_.BroadcastsInDim S2x4224x8 (![] : Fin 0 → Fin S2x4224x8.rank)
  reducesTo_S2x4224x8_S_d0_1_2 : S2x4224x8.ReducesTo [0, 1, 2] S_

variable [Facts]

def fn_part1 {F : FTy → Type} [FloatOps F] (main_arg4 : FVec F S2x4224x8x64 .f32) (main_v13 : IVec S_ 1) (main_v16 : IVec S2x4224x8 1) : IVec S_ 1 :=
  let main_c_5 : IVec S_ 1 := constantI S_ 1 1#1
  let main_v17 : IVec S_ 1 := (fun x v => Host.reduce IntOp.andi x v reducesTo_S2x4224x8_S_d0_1_2 h_S_) main_v16 main_c_5
  let main_v18 : IVec S_ 1 := andi main_v13 main_v17
  let main_v19 : FVec F S2x4224x8x64 .f32 := Host.absf main_arg4
  let main_cst_6 : FVec F S_ .f32 := constant S_ .f32 0x7F800000#32
  let main_v20 : FVec F S2x4224x8x64 .f32 := broadcastInDim S2x4224x8x64 ![] bcast_S_S2x4224x8x64 main_cst_6
  let main_v21 : IVec S2x4224x8x64 1 := cmpf .olt main_v19 main_v20
  let main_c_7 : IVec S_ 1 := constantI S_ 1 1#1
  let main_v22 : IVec S_ 1 := (fun x v => Host.reduce IntOp.andi x v reducesTo_S2x4224x8x64_S_d0_1_2_3 h_S_) main_v21 main_c_7
  let main_v23 : IVec S_ 1 := andi main_v18 main_v22
  main_v23

def fn {F : FTy → Type} [FloatOps F] (main_arg0 : FVec F S2x4224x8x64 .f32) (main_arg1 : FVec F S2x4224x8x64 .f32) (main_arg2 : FVec F S2x4224x8x64 .f32) (main_arg3 : FVec F S2x4224x8 .f32) (main_arg4 : FVec F S2x4224x8x64 .f32) : IVec S_ 1 :=
  let main_v0 : FVec F S2x4224x8x64 .f32 := Host.absf main_arg0
  let main_cst : FVec F S_ .f32 := constant S_ .f32 0x7F800000#32
  let main_v1 : FVec F S2x4224x8x64 .f32 := broadcastInDim S2x4224x8x64 ![] bcast_S_S2x4224x8x64 main_cst
  let main_v2 : IVec S2x4224x8x64 1 := cmpf .olt main_v0 main_v1
  let main_c : IVec S_ 1 := constantI S_ 1 1#1
  let main_v3 : IVec S_ 1 := (fun x v => Host.reduce IntOp.andi x v reducesTo_S2x4224x8x64_S_d0_1_2_3 h_S_) main_v2 main_c
  let main_v4 : FVec F S2x4224x8x64 .f32 := Host.absf main_arg1
  let main_cst_0 : FVec F S_ .f32 := constant S_ .f32 0x7F800000#32
  let main_v5 : FVec F S2x4224x8x64 .f32 := broadcastInDim S2x4224x8x64 ![] bcast_S_S2x4224x8x64 main_cst_0
  let main_v6 : IVec S2x4224x8x64 1 := cmpf .olt main_v4 main_v5
  let main_c_1 : IVec S_ 1 := constantI S_ 1 1#1
  let main_v7 : IVec S_ 1 := (fun x v => Host.reduce IntOp.andi x v reducesTo_S2x4224x8x64_S_d0_1_2_3 h_S_) main_v6 main_c_1
  let main_v8 : IVec S_ 1 := andi main_v3 main_v7
  let main_v9 : FVec F S2x4224x8x64 .f32 := Host.absf main_arg2
  let main_cst_2 : FVec F S_ .f32 := constant S_ .f32 0x7F800000#32
  let main_v10 : FVec F S2x4224x8x64 .f32 := broadcastInDim S2x4224x8x64 ![] bcast_S_S2x4224x8x64 main_cst_2
  let main_v11 : IVec S2x4224x8x64 1 := cmpf .olt main_v9 main_v10
  let main_c_3 : IVec S_ 1 := constantI S_ 1 1#1
  let main_v12 : IVec S_ 1 := (fun x v => Host.reduce IntOp.andi x v reducesTo_S2x4224x8x64_S_d0_1_2_3 h_S_) main_v11 main_c_3
  let main_v13 : IVec S_ 1 := andi main_v8 main_v12
  let main_v14 : FVec F S2x4224x8 .f32 := Host.absf main_arg3
  let main_cst_4 : FVec F S_ .f32 := constant S_ .f32 0x7F800000#32
  let main_v15 : FVec F S2x4224x8 .f32 := broadcastInDim S2x4224x8 ![] bcast_S_S2x4224x8 main_cst_4
  let main_v16 : IVec S2x4224x8 1 := cmpf .olt main_v14 main_v15
  fn_part1 (F := F) main_arg4 main_v13 main_v16
-- ==== Kernel.lean ====
abbrev S2x4224x8x64 : Shape := ⟨4, ![2, 4224, 8, 64]⟩
abbrev S2x4224x8 : Shape := ⟨3, ![2, 4224, 8]⟩
abbrev S2x8x4224x4224 : Shape := ⟨4, ![2, 8, 4224, 4224]⟩
abbrev S_ : Shape := ⟨0, ![]⟩
abbrev S2x8x4224 : Shape := ⟨3, ![2, 8, 4224]⟩
abbrev S2x8x4224x1 : Shape := ⟨4, ![2, 8, 4224, 1]⟩
abbrev S2x8x1x4224 : Shape := ⟨4, ![2, 8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S2x8x64x4224 : Shape := ⟨4, ![2, 8, 64, 4224]⟩
abbrev S8448x512 : Shape := ⟨2, ![8448, 512]⟩
abbrev S2x4x2x4224 : Shape := ⟨4, ![2, 4, 2, 4224]⟩
abbrev S2x4x4224x2 : Shape := ⟨4, ![2, 4, 4224, 2]⟩
abbrev S2x4x4224x128 : Shape := ⟨4, ![2, 4, 4224, 128]⟩
abbrev S2x4224x8x1 : Shape := ⟨4, ![2, 4224, 8, 1]⟩
abbrev S2x4224x8x3 : Shape := ⟨4, ![2, 4224, 8, 3]⟩
abbrev S2x4224x8x58 : Shape := ⟨4, ![2, 4224, 8, 58]⟩
abbrev S2x4224x8x128 : Shape := ⟨4, ![2, 4224, 8, 128]⟩
abbrev S8448x1024 : Shape := ⟨2, ![8448, 1024]⟩
abbrev S2x4x1x4224 : Shape := ⟨4, ![2, 4, 1, 4224]⟩
abbrev S384x256 : Shape := ⟨2, ![384, 256]⟩
abbrev S384x128 : Shape := ⟨2, ![384, 128]⟩
abbrev S4224x256 : Shape := ⟨2, ![4224, 256]⟩
abbrev S4224x128 : Shape := ⟨2, ![4224, 128]⟩
abbrev S1x1x4224x128 : Shape := ⟨4, ![1, 1, 4224, 128]⟩
abbrev S1x1x1x384 : Shape := ⟨4, ![1, 1, 1, 384]⟩
abbrev S1x128 : Shape := ⟨2, ![1, 128]⟩
abbrev S384x1 : Shape := ⟨2, ![384, 1]⟩
abbrev S1x384 : Shape := ⟨2, ![1, 384]⟩
abbrev S384x384 : Shape := ⟨2, ![384, 384]⟩
abbrev S1x1x384x128 : Shape := ⟨4, ![1, 1, 384, 128]⟩
abbrev S384 : Shape := ⟨1, ![384]⟩

abbrev nBuf : Space → Nat
  | .hbm => 86
  | .vmem => 22
  | .smem => 0
  | _ => 0

abbrev bufTy : (tb : Table) → Fin (tcTables nBuf tb) → BufTy
  | .hbm, ⟨0, _⟩ => ⟨S2x4224x8x64, .f32⟩
  | .hbm, ⟨1, _⟩ => ⟨S2x4224x8x64, .f32⟩
  | .hbm, ⟨2, _⟩ => ⟨S2x4224x8x64, .f32⟩
  | .hbm, ⟨3, _⟩ => ⟨S2x4224x8, .f32⟩
  | .hbm, ⟨4, _⟩ => ⟨S2x4224x8x64, .f32⟩
  | .hbm, ⟨5, _⟩ => ⟨S2x8x4224x4224, .f32⟩
  | .hbm, ⟨6, _⟩ => ⟨S_, .f32⟩
  | .hbm, ⟨7, _⟩ => ⟨S2x8x4224x4224, .f32⟩
  | .hbm, ⟨8, _⟩ => ⟨S2x8x4224x4224, .f32⟩
  | .hbm, ⟨9, _⟩ => ⟨S2x8x4224, .f32⟩
  | .hbm, ⟨10, _⟩ => ⟨S2x8x4224x1, .f32⟩
  | .hbm, ⟨11, _⟩ => ⟨S2x8x1x4224, .f32⟩
  | .hbm, ⟨12, _⟩ => ⟨S2x8x4224x4224, .f32⟩
  | .hbm, ⟨13, _⟩ => ⟨S2x8x4224x4224, .f32⟩
  | .hbm, ⟨14, _⟩ => ⟨S2x8x4224x4224, .f32⟩
  | .hbm, ⟨15, _⟩ => ⟨S2x8x4224x4224, .f32⟩
  | .hbm, ⟨16, _⟩ => ⟨S4224, .i32⟩
  | .hbm, ⟨17, _⟩ => ⟨S1x4224, .i32⟩
  | .hbm, ⟨18, _⟩ => ⟨S4224, .i32⟩
  | .hbm, ⟨19, _⟩ => ⟨S4224x1, .i32⟩
  | .hbm, ⟨20, _⟩ => ⟨S4224x4224, .i32⟩
  | .hbm, ⟨21, _⟩ => ⟨S4224x4224, .i32⟩
  | .hbm, ⟨22, _⟩ => ⟨S4224x4224, .i1⟩
  | .hbm, ⟨23, _⟩ => ⟨S_, .f32⟩
  | .hbm, ⟨24, _⟩ => ⟨S_, .f32⟩
  | .hbm, ⟨25, _⟩ => ⟨S2x8x4224x4224, .i1⟩
  | .hbm, ⟨26, _⟩ => ⟨S2x8x4224x4224, .f32⟩
  | .hbm, ⟨27, _⟩ => ⟨S2x8x4224x4224, .f32⟩
  | .hbm, ⟨28, _⟩ => ⟨S_, .f32⟩
  | .hbm, ⟨29, _⟩ => ⟨S2x8x4224, .f32⟩
  | .hbm, ⟨30, _⟩ => ⟨S2x8x4224x1, .f32⟩
  | .hbm, ⟨31, _⟩ => ⟨S2x8x4224x4224, .f32⟩
  | .hbm, ⟨32, _⟩ => ⟨S2x8x4224x4224, .f32⟩
  | .hbm, ⟨33, _⟩ => ⟨S2x8x4224x4224, .f32⟩
  | .hbm, ⟨34, _⟩ => ⟨S_, .f32⟩
  | .hbm, ⟨35, _⟩ => ⟨S2x8x4224, .f32⟩
  | .hbm, ⟨36, _⟩ => ⟨S2x8x4224x1, .f32⟩
  | .hbm, ⟨37, _⟩ => ⟨S2x8x4224x4224, .f32⟩
  | .hbm, ⟨38, _⟩ => ⟨S2x8x4224x4224, .f32⟩
  | .hbm, ⟨39, _⟩ => ⟨S2x8x64x4224, .f32⟩
  | .hbm, ⟨40, _⟩ => ⟨S2x4224x8x64, .f32⟩
  | .hbm, ⟨41, _⟩ => ⟨S8448x512, .f32⟩
  | .hbm, ⟨42, _⟩ => ⟨S2x8x4224, .f32⟩
  | .hbm, ⟨43, _⟩ => ⟨S2x8x4224, .f32⟩
  | .hbm, ⟨44, _⟩ => ⟨S2x4x2x4224, .f32⟩
  | .hbm, ⟨45, _⟩ => ⟨S2x4x4224x2, .f32⟩
  | .hbm, ⟨46, _⟩ => ⟨S_, .i32⟩
  | .hbm, ⟨47, _⟩ => ⟨S_, .f32⟩
  | .hbm, ⟨48, _⟩ => ⟨S2x4x4224x128, .f32⟩
  | .hbm, ⟨49, _⟩ => ⟨S_, .f32⟩
  | .hbm, ⟨50, _⟩ => ⟨S2x4224x8x1, .f32⟩
  | .hbm, ⟨51, _⟩ => ⟨S_, .f32⟩
  | .hbm, ⟨52, _⟩ => ⟨S2x4224x8x3, .f32⟩
  | .hbm, ⟨53, _⟩ => ⟨S2x4224x8x1, .f32⟩
  | .hbm, ⟨54, _⟩ => ⟨S_, .f32⟩
  | .hbm, ⟨55, _⟩ => ⟨S2x4224x8x58, .f32⟩
  | .hbm, ⟨56, _⟩ => ⟨S_, .f32⟩
  | .hbm, ⟨57, _⟩ => ⟨S2x4224x8x64, .f32⟩
  | .hbm, ⟨58, _⟩ => ⟨S2x4224x8x64, .f32⟩
  | .hbm, ⟨59, _⟩ => ⟨S2x4224x8x128, .f32⟩
  | .hbm, ⟨60, _⟩ => ⟨S8448x1024, .f32⟩
  | .hbm, ⟨61, _⟩ => ⟨S8448x1024, .bf16⟩
  | .hbm, ⟨62, _⟩ => ⟨S2x4224x8x1, .f32⟩
  | .hbm, ⟨63, _⟩ => ⟨S2x4224x8x128, .f32⟩
  | .hbm, ⟨64, _⟩ => ⟨S8448x1024, .f32⟩
  | .hbm, ⟨65, _⟩ => ⟨S8448x1024, .bf16⟩
  | .hbm, ⟨66, _⟩ => ⟨S8448x512, .f32⟩
  | .hbm, ⟨67, _⟩ => ⟨S8448x512, .bf16⟩
  | .hbm, ⟨68, _⟩ => ⟨S8448x512, .f32⟩
  | .hbm, ⟨69, _⟩ => ⟨S8448x512, .bf16⟩
  | .hbm, ⟨70, _⟩ => ⟨S8448x1024, .f32⟩
  | .hbm, ⟨71, _⟩ => ⟨S8448x1024, .f32⟩
  | .hbm, ⟨72, _⟩ => ⟨S8448x512, .f32⟩
  | .hbm, ⟨73, _⟩ => ⟨S2x4x1x4224, .f32⟩
  | .hbm, ⟨74, _⟩ => ⟨S2x4x1x4224, .f32⟩
  | .hbm, ⟨75, _⟩ => ⟨S2x4224x8x128, .f32⟩
  | .hbm, ⟨76, _⟩ => ⟨S2x4224x8x64, .f32⟩
  | .hbm, ⟨77, _⟩ => ⟨S_, .f32⟩
  | .hbm, ⟨78, _⟩ => ⟨S2x4224x8x64, .f32⟩
  | .hbm, ⟨79, _⟩ => ⟨S2x4224x8x64, .f32⟩
  | .hbm, ⟨80, _⟩ => ⟨S2x4224x8x128, .f32⟩
  | .hbm, ⟨81, _⟩ => ⟨S2x4224x8x64, .f32⟩
  | .hbm, ⟨82, _⟩ => ⟨S2x4224x8x64, .f32⟩
  | .hbm, ⟨83, _⟩ => ⟨S2x4x2x4224, .f32⟩
  | .hbm, ⟨84, _⟩ => ⟨S2x8x4224, .f32⟩
  | .hbm, ⟨85, _⟩ => ⟨S2x4224x8, .f32⟩
  | .local _ .vmem, ⟨0, _⟩ => ⟨S384x256, .bf16⟩
  | .local _ .vmem, ⟨1, _⟩ => ⟨S384x256, .bf16⟩
  | .local _ .vmem, ⟨2, _⟩ => ⟨S384x128, .bf16⟩
  | .local _ .vmem, ⟨3, _⟩ => ⟨S384x128, .bf16⟩
  | .local _ .vmem, ⟨4, _⟩ => ⟨S4224x256, .bf16⟩
  | .local _ .vmem, ⟨5, _⟩ => ⟨S4224x256, .bf16⟩
  | .local _ .vmem, ⟨6, _⟩ => ⟨S4224x128, .bf16⟩
  | .local _ .vmem, ⟨7, _⟩ => ⟨S4224x128, .bf16⟩
  | .local _ .vmem, ⟨8, _⟩ => ⟨S4224x128, .f32⟩
  | .local _ .vmem, ⟨9, _⟩ => ⟨S4224x128, .f32⟩
  | .local _ .vmem, ⟨10, _⟩ => ⟨S1x1x4224x128, .f32⟩
  | .local _ .vmem, ⟨11, _⟩ => ⟨S1x1x4224x128, .f32⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x128, .f32⟩
  | .local _ .vmem, ⟨17, _⟩ => ⟨S384x128, .f32⟩
  | .local _ .vmem, ⟨18, _⟩ => ⟨S1x1x1x384, .f32⟩
  | .local _ .vmem, ⟨19, _⟩ => ⟨S1x1x1x384, .f32⟩
  | .local _ .vmem, ⟨20, _⟩ => ⟨S1x1x1x384, .f32⟩
  | .local _ .vmem, ⟨21, _⟩ => ⟨S1x1x1x384, .f32⟩
  | _, _ => ⟨S2x4224x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call1_v0 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev main_v52_3 : Ref sig .tc := ⟨.hbm, 73, rfl⟩
abbrev main_v52_4 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 11], ![false, false, false]⟩

def k0_mult1 (i : grid0.Coords) : BitVec 32 :=
  let arg2 : BitVec 32 := BitVec.ofNat 32 (i 2).val
  let c384_i32 : BitVec 32 := 384#32
  let v31 : BitVec 32 := Scalar.muli arg2 c384_i32
  v31
def k0_off1 (i : grid0.Coords) : Fin 2 → Nat :=
  let arg2 : BitVec 32 := BitVec.ofNat 32 (i 2).val
  let c384_i32 : BitVec 32 := 384#32
  let v31 : BitVec 32 := Scalar.muli arg2 c384_i32
  let v32 : BitVec 32 := v31
  let v33 : Index := Scalar.indexCast v32
  let c0_7 : Index := 0#32
  ![v33.toNat, 0]
def k0_off2 (i : grid0.Coords) : Fin 4 → Nat :=
  let c0_9 : Index := 0#32
  let c0_10 : Index := 0#32
  let arg2 : BitVec 32 := BitVec.ofNat 32 (i 2).val
  let c384_i32 : BitVec 32 := 384#32
  let v31 : BitVec 32 := Scalar.muli arg2 c384_i32
  let v32 : BitVec 32 := v31
  let v39 : Index := Scalar.indexCast v32
  let c0_11 : Index := 0#32
  ![0, 0, v39.toNat, 0]
def k0_off3 (i : grid0.Coords) : Fin 2 → Nat :=
  let arg2 : BitVec 32 := BitVec.ofNat 32 (i 2).val
  let c384_i32 : BitVec 32 := 384#32
  let v31 : BitVec 32 := Scalar.muli arg2 c384_i32
  let v32 : BitVec 32 := v31
  let v42 : Index := Scalar.indexCast v32
  let c0_12 : Index := 0#32
  ![v42.toNat, 0]
def k0_off4 (i : grid0.Coords) : Fin 2 → Nat :=
  let arg2 : BitVec 32 := BitVec.ofNat 32 (i 2).val
  let c384_i32 : BitVec 32 := 384#32
  let v31 : BitVec 32 := Scalar.muli arg2 c384_i32
  let v32 : BitVec 32 := v31
  let v91 : Index := Scalar.indexCast v32
  let c128 : Index := 128#32
  ![v91.toNat, 128]
@[reducible] def k0_t1_loop (i : grid0.Coords) : Scf.Loop 32 :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_51 : BitVec 32 := 1#32
  ⟨v140, v145, c1_i32_51⟩
def k0_mult2 (i : grid0.Coords) (k0_t1 : Fin (k0_t1_loop i).trips) : BitVec 32 :=
  let arg2 : BitVec 32 := BitVec.ofNat 32 (i 2).val
  let c1_i32_48 : BitVec 32 := 1#32
  let v140 : BitVec 32 := Scalar.addi arg2 c1_i32_48
  let c1_i32_51 : BitVec 32 := 1#32
  let arg14 : BitVec 32 := Scf.iv v140 c1_i32_51 k0_t1
  let c384_i32_67 : BitVec 32 := 384#32
  let v157 : BitVec 32 := Scalar.muli arg14 c384_i32_67
  v157
def k0_off5 (i : grid0.Coords) (k0_t1 : Fin (k0_t1_loop i).trips) : Fin 2 → Nat :=
  let arg2 : BitVec 32 := BitVec.ofNat 32 (i 2).val
  let c1_i32_48 : BitVec 32 := 1#32
  let v140 : BitVec 32 := Scalar.addi arg2 c1_i32_48
  let c1_i32_51 : BitVec 32 := 1#32
  let arg14 : BitVec 32 := Scf.iv v140 c1_i32_51 k0_t1
  let c384_i32_67 : BitVec 32 := 384#32
  let v157 : BitVec 32 := Scalar.muli arg14 c384_i32_67
  let v158 : BitVec 32 := v157
  let v159 : Index := Scalar.indexCast v158
  let c0_68 : Index := 0#32
  ![v159.toNat, 0]
def k0_off6 (i : grid0.Coords) (k0_t1 : Fin (k0_t1_loop i).trips) : Fin 4 → Nat :=
  let c0_70 : Index := 0#32
  let c0_71 : Index := 0#32
  let arg2 : BitVec 32 := BitVec.ofNat 32 (i 2).val
  let c1_i32_48 : BitVec 32 := 1#32
  let v140 : BitVec 32 := Scalar.addi arg2 c1_i32_48
  let c1_i32_51 : BitVec 32 := 1#32
  let arg14 : BitVec 32 := Scf.iv v140 c1_i32_51 k0_t1
  let c384_i32_67 : BitVec 32 := 384#32
  let v157 : BitVec 32 := Scalar.muli arg14 c384_i32_67
  let v158 : BitVec 32 := v157
  let v165 : Index := Scalar.indexCast v158
  let c0_72 : Index := 0#32
  ![0, 0, v165.toNat, 0]
def k0_off7 (i : grid0.Coords) (k0_t1 : Fin (k0_t1_loop i).trips) : Fin 2 → Nat :=
  let arg2 : BitVec 32 := BitVec.ofNat 32 (i 2).val
  let c1_i32_48 : BitVec 32 := 1#32
  let v140 : BitVec 32 := Scalar.addi arg2 c1_i32_48
  let c1_i32_51 : BitVec 32 := 1#32
  let arg14 : BitVec 32 := Scf.iv v140 c1_i32_51 k0_t1
  let c384_i32_67 : BitVec 32 := 384#32
  let v157 : BitVec 32 := Scalar.muli arg14 c384_i32_67
  let v158 : BitVec 32 := v157
  let v168 : Index := Scalar.indexCast v158
  let c0_73 : Index := 0#32
  ![v168.toNat, 0]
def k0_off8 (i : grid0.Coords) (k0_t1 : Fin (k0_t1_loop i).trips) : Fin 2 → Nat :=
  let arg2 : BitVec 32 := BitVec.ofNat 32 (i 2).val
  let c1_i32_48 : BitVec 32 := 1#32
  let v140 : BitVec 32 := Scalar.addi arg2 c1_i32_48
  let c1_i32_51 : BitVec 32 := 1#32
  let arg14 : BitVec 32 := Scf.iv v140 c1_i32_51 k0_t1
  let c384_i32_67 : BitVec 32 := 384#32
  let v157 : BitVec 32 := Scalar.muli arg14 c384_i32_67
  let v158 : BitVec 32 := v157
  let v215 : Index := Scalar.indexCast v158
  let c128_90 : Index := 128#32
  ![v215.toNat, 128]
@[reducible] def k0_t2_loop (i : grid0.Coords) : Scf.Loop 32 :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let v142 : BitVec 32 := Scalar.addi v140 v141
  let c1_i32_52 : BitVec 32 := 1#32
  ⟨v145, v142, c1_i32_52⟩
def k0_mult3 (i : grid0.Coords) (k0_t2 : Fin (k0_t2_loop i).trips) : BitVec 32 :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_52 : BitVec 32 := 1#32
  let arg14 : BitVec 32 := Scf.iv v145 c1_i32_52 k0_t2
  let c384_i32_67 : BitVec 32 := 384#32
  let v157 : BitVec 32 := Scalar.muli arg14 c384_i32_67
  v157
def k0_off9 (i : grid0.Coords) (k0_t2 : Fin (k0_t2_loop i).trips) : Fin 2 → Nat :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_52 : BitVec 32 := 1#32
  let arg14 : BitVec 32 := Scf.iv v145 c1_i32_52 k0_t2
  let c384_i32_67 : BitVec 32 := 384#32
  let v157 : BitVec 32 := Scalar.muli arg14 c384_i32_67
  let v158 : BitVec 32 := v157
  let v159 : Index := Scalar.indexCast v158
  let c0_68 : Index := 0#32
  ![v159.toNat, 0]
def k0_off10 (i : grid0.Coords) (k0_t2 : Fin (k0_t2_loop i).trips) : Fin 4 → Nat :=
  let c0_70 : Index := 0#32
  let c0_71 : Index := 0#32
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_52 : BitVec 32 := 1#32
  let arg14 : BitVec 32 := Scf.iv v145 c1_i32_52 k0_t2
  let c384_i32_67 : BitVec 32 := 384#32
  let v157 : BitVec 32 := Scalar.muli arg14 c384_i32_67
  let v158 : BitVec 32 := v157
  let v165 : Index := Scalar.indexCast v158
  let c0_72 : Index := 0#32
  ![0, 0, v165.toNat, 0]
def k0_off11 (i : grid0.Coords) (k0_t2 : Fin (k0_t2_loop i).trips) : Fin 2 → Nat :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_52 : BitVec 32 := 1#32
  let arg14 : BitVec 32 := Scf.iv v145 c1_i32_52 k0_t2
  let c384_i32_67 : BitVec 32 := 384#32
  let v157 : BitVec 32 := Scalar.muli arg14 c384_i32_67
  let v158 : BitVec 32 := v157
  let v168 : Index := Scalar.indexCast v158
  let c0_73 : Index := 0#32
  ![v168.toNat, 0]
def k0_off12 (i : grid0.Coords) (k0_t2 : Fin (k0_t2_loop i).trips) : Fin 2 → Nat :=
  let arg2 : BitVec 32 := BitVec.ofNat 32 (i 2).val
  let c1_i32_48 : BitVec 32 := 1#32
  let v140 : BitVec 32 := Scalar.addi arg2 c1_i32_48
  let c11_i32 : BitVec 32 := 11#32
  let v141 : BitVec 32 := Scalar.subi c11_i32 v140
  let c1_i32_50 : BitVec 32 := 1#32
  let v143 : BitVec 32 := Scalar.divsi v141 c1_i32_50
  let v144 : BitVec 32 := Scalar.muli v143 c1_i32_50
  let v145 : BitVec 32 := Scalar.addi v140 v144
  let c1_i32_52 : BitVec 32 := 1#32
  let arg14 : BitVec 32 := Scf.iv v145 c1_i32_52 k0_t2
  let c384_i32_67 : BitVec 32 := 384#32
  let v157 : BitVec 32 := Scalar.muli arg14 c384_i32_67
  let v158 : BitVec 32 := v157
  let v215 : Index := Scalar.indexCast v158
  let c128_90 : Index := 128#32
  ![v215.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4224x8x64 : Shape := ⟨4, ![2, 4224, 8, 64]⟩
abbrev S2x4224x8 : Shape := ⟨3, ![2, 4224, 8]⟩
abbrev S2x8x4224x4224 : Shape := ⟨4, ![2, 8, 4224, 4224]⟩
abbrev S_ : Shape := ⟨0, ![]⟩
abbrev S2x8x4224 : Shape := ⟨3, ![2, 8, 4224]⟩
abbrev S2x8x4224x1 : Shape := ⟨4, ![2, 8, 4224, 1]⟩
abbrev S2x8x1x4224 : Shape := ⟨4, ![2, 8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S2x8x64x4224 : Shape := ⟨4, ![2, 8, 64, 4224]⟩
abbrev S2x8x4224x64 : Shape := ⟨4, ![2, 8, 4224, 64]⟩

abbrev nBuf : Space → Nat
  | .hbm => 111
  | .vmem => 0
  | .smem => 0
  | _ => 0

abbrev bufTy : (tb : Table) → Fin (tcTables nBuf tb) → BufTy
  | .hbm, ⟨0, _⟩ => ⟨S2x4224x8x64, .f32⟩
  | .hbm, ⟨1, _⟩ => ⟨S2x4224x8x64, .f32⟩
  | .hbm, ⟨2, _⟩ => ⟨S2x4224x8x64, .f32⟩
  | .hbm, ⟨3, _⟩ => ⟨S2x4224x8, .f32⟩
  | .hbm, ⟨4, _⟩ => ⟨S2x4224x8x64, .f32⟩
  | .hbm, ⟨5, _⟩ => ⟨S2x8x4224x4224, .f32⟩
  | .hbm, ⟨6, _⟩ => ⟨S_, .f32⟩
  | .hbm, ⟨7, _⟩ => ⟨S2x8x4224x4224, .f32⟩
  | .hbm, ⟨8, _⟩ => ⟨S2x8x4224x4224, .f32⟩
  | .hbm, ⟨9, _⟩ => ⟨S2x8x4224, .f32⟩
  | .hbm, ⟨10, _⟩ => ⟨S2x8x4224x1, .f32⟩
  | .hbm, ⟨11, _⟩ => ⟨S2x8x1x4224, .f32⟩
  | .hbm, ⟨12, _⟩ => ⟨S2x8x4224x4224, .f32⟩
  | .hbm, ⟨13, _⟩ => ⟨S2x8x4224x4224, .f32⟩
  | .hbm, ⟨14, _⟩ => ⟨S2x8x4224x4224, .f32⟩
  | .hbm, ⟨15, _⟩ => ⟨S2x8x4224x4224, .f32⟩
  | .hbm, ⟨16, _⟩ => ⟨S4224, .i32⟩
  | .hbm, ⟨17, _⟩ => ⟨S1x4224, .i32⟩
  | .hbm, ⟨18, _⟩ => ⟨S4224, .i32⟩
  | .hbm, ⟨19, _⟩ => ⟨S4224x1, .i32⟩
  | .hbm, ⟨20, _⟩ => ⟨S4224x4224, .i32⟩
  | .hbm, ⟨21, _⟩ => ⟨S4224x4224, .i32⟩
  | .hbm, ⟨22, _⟩ => ⟨S4224x4224, .i1⟩
  | .hbm, ⟨23, _⟩ => ⟨S_, .f32⟩
  | .hbm, ⟨24, _⟩ => ⟨S_, .f32⟩
  | .hbm, ⟨25, _⟩ => ⟨S2x8x4224x4224, .i1⟩
  | .hbm, ⟨26, _⟩ => ⟨S2x8x4224x4224, .f32⟩
  | .hbm, ⟨27, _⟩ => ⟨S2x8x4224x4224, .f32⟩
  | .hbm, ⟨28, _⟩ => ⟨S_, .f32⟩
  | .hbm, ⟨29, _⟩ => ⟨S2x8x4224x4224, .f32⟩
  | .hbm, ⟨30, _⟩ => ⟨S_, .f32⟩
  | .hbm, ⟨31, _⟩ => ⟨S2x8x4224, .f32⟩
  | .hbm, ⟨32, _⟩ => ⟨S2x8x4224x1, .f32⟩
  | .hbm, ⟨33, _⟩ => ⟨S2x8x4224x4224, .f32⟩
  | .hbm, ⟨34, _⟩ => ⟨S2x8x4224x4224, .i1⟩
  | .hbm, ⟨35, _⟩ => ⟨S2x8x4224x4224, .f32⟩
  | .hbm, ⟨36, _⟩ => ⟨S_, .f32⟩
  | .hbm, ⟨37, _⟩ => ⟨S2x8x4224, .f32⟩
  | .hbm, ⟨38, _⟩ => ⟨S_, .f32⟩
  | .hbm, ⟨39, _⟩ => ⟨S2x8x4224, .f32⟩
  | .hbm, ⟨40, _⟩ => ⟨S2x8x4224, .f32⟩
  | .hbm, ⟨41, _⟩ => ⟨S_, .f32⟩
  | .hbm, ⟨42, _⟩ => ⟨S2x8x4224, .f32⟩
  | .hbm, ⟨43, _⟩ => ⟨S2x8x4224, .i1⟩
  | .hbm, ⟨44, _⟩ => ⟨S_, .f32⟩
  | .hbm, ⟨45, _⟩ => ⟨S2x8x4224, .f32⟩
  | .hbm, ⟨46, _⟩ => ⟨S2x8x4224, .i1⟩
  | .hbm, ⟨47, _⟩ => ⟨S_, .f32⟩
  | .hbm, ⟨48, _⟩ => ⟨S2x8x4224, .f32⟩
  | .hbm, ⟨49, _⟩ => ⟨S_, .f32⟩
  | .hbm, ⟨50, _⟩ => ⟨S2x8x4224, .f32⟩
  | .hbm, ⟨51, _⟩ => ⟨S_, .f32⟩
  | .hbm, ⟨52, _⟩ => ⟨S2x8x4224, .f32⟩
  | .hbm, ⟨53, _⟩ => ⟨S2x8x4224, .f32⟩
  | .hbm, ⟨54, _⟩ => ⟨S2x8x4224, .f32⟩
  | .hbm, ⟨55, _⟩ => ⟨S2x8x4224x1, .f32⟩
  | .hbm, ⟨56, _⟩ => ⟨S2x8x4224x4224, .f32⟩
  | .hbm, ⟨57, _⟩ => ⟨S2x8x4224x4224, .f32⟩
  | .hbm, ⟨58, _⟩ => ⟨S2x8x4224x4224, .f32⟩
  | .hbm, ⟨59, _⟩ => ⟨S_, .f32⟩
  | .hbm, ⟨60, _⟩ => ⟨S2x8x4224, .f32⟩
  | .hbm, ⟨61, _⟩ => ⟨S2x8x4224x1, .f32⟩
  | .hbm, ⟨62, _⟩ => ⟨S2x8x4224x4224, .f32⟩
  | .hbm, ⟨63, _⟩ => ⟨S2x8x4224x4224, .f32⟩
  | .hbm, ⟨64, _⟩ => ⟨S2x8x4224x1, .f32⟩
  | .hbm, ⟨65, _⟩ => ⟨S_, .f32⟩
  | .hbm, ⟨66, _⟩ => ⟨S2x8x4224x1, .f32⟩
  | .hbm, ⟨67, _⟩ => ⟨S2x8x4224x1, .f32⟩
  | .hbm, ⟨68, _⟩ => ⟨S2x8x64x4224, .f32⟩
  | .hbm, ⟨69, _⟩ => ⟨S2x4224x8x64, .f32⟩
  | .hbm, ⟨70, _⟩ => ⟨S2x8x64x4224, .f32⟩
  | .hbm, ⟨71, _⟩ => ⟨S2x8x4224x4224, .f32⟩
  | .hbm, ⟨72, _⟩ => ⟨S2x8x64x4224, .f32⟩
  | .hbm, ⟨73, _⟩ => ⟨S2x4224x8x64, .f32⟩
  | .hbm, ⟨74, _⟩ => ⟨S2x8x4224x4224, .f32⟩
  | .hbm, ⟨75, _⟩ => ⟨S2x8x4224x4224, .f32⟩
  | .hbm, ⟨76, _⟩ => ⟨S2x8x4224x4224, .f32⟩
  | .hbm, ⟨77, _⟩ => ⟨S_, .f32⟩
  | .hbm, ⟨78, _⟩ => ⟨S2x8x4224, .f32⟩
  | .hbm, ⟨79, _⟩ => ⟨S2x8x4224x1, .f32⟩
  | .hbm, ⟨80, _⟩ => ⟨S2x8x4224x1, .f32⟩
  | .hbm, ⟨81, _⟩ => ⟨S2x8x4224x4224, .f32⟩
  | .hbm, ⟨82, _⟩ => ⟨S2x8x4224x4224, .f32⟩
  | .hbm, ⟨83, _⟩ => ⟨S_, .f32⟩
  | .hbm, ⟨84, _⟩ => ⟨S2x8x4224, .f32⟩
  | .hbm, ⟨85, _⟩ => ⟨S2x8x4224x4224, .f32⟩
  | .hbm, ⟨86, _⟩ => ⟨S2x8x4224x4224, .f32⟩
  | .hbm, ⟨87, _⟩ => ⟨S2x8x4224x4224, .f32⟩
  | .hbm, ⟨88, _⟩ => ⟨S_, .f32⟩
  | .hbm, ⟨89, _⟩ => ⟨S2x8x4224x4224, .f32⟩
  | .hbm, ⟨90, _⟩ => ⟨S2x8x4224x4224, .f32⟩
  | .hbm, ⟨91, _⟩ => ⟨S_, .f32⟩
  | .hbm, ⟨92, _⟩ => ⟨S2x8x4224, .f32⟩
  | .hbm, ⟨93, _⟩ => ⟨S2x8x4224x1, .f32⟩
  | .hbm, ⟨94, _⟩ => ⟨S2x8x4224x4224, .f32⟩
  | .hbm, ⟨95, _⟩ => ⟨S_, .f32⟩
  | .hbm, ⟨96, _⟩ => ⟨S2x8x4224, .f32⟩
  | .hbm, ⟨97, _⟩ => ⟨S2x8x1x4224, .f32⟩
  | .hbm, ⟨98, _⟩ => ⟨S_, .f32⟩
  | .hbm, ⟨99, _⟩ => ⟨S2x8x4224, .f32⟩
  | .hbm, ⟨100, _⟩ => ⟨S_, .f32⟩
  | .hbm, ⟨101, _⟩ => ⟨S2x8x4224, .f32⟩
  | .hbm, ⟨102, _⟩ => ⟨S2x8x4224, .f32⟩
  | .hbm, ⟨103, _⟩ => ⟨S2x4224x8, .f32⟩
  | .hbm, ⟨104, _⟩ => ⟨S_, .f32⟩
  | .hbm, ⟨105, _⟩ => ⟨S2x8x4224x4224, .f32⟩
  | .hbm, ⟨106, _⟩ => ⟨S2x8x4224x4224, .f32⟩
  | .hbm, ⟨107, _⟩ => ⟨S2x8x4224x64, .f32⟩
  | .hbm, ⟨108, _⟩ => ⟨S2x4224x8x64, .f32⟩
  | .hbm, ⟨109, _⟩ => ⟨S2x8x4224x64, .f32⟩
  | .hbm, ⟨110, _⟩ => ⟨S2x4224x8x64, .f32⟩
  | _, _ => ⟨S2x4224x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== UpW.lean ====
abbrev S8448x5632 : Shape := ⟨2, ![8448, 5632]⟩
abbrev S8448x1024 : Shape := ⟨2, ![8448, 1024]⟩
abbrev S5632x1024 : Shape := ⟨2, ![5632, 1024]⟩
abbrev S1408x1408 : Shape := ⟨2, ![1408, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S5632x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8448x5632 : Shape := ⟨2, ![8448, 5632]⟩
abbrev S8448x1024 : Shape := ⟨2, ![8448, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S5632x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S8448x5632 : Shape := ⟨2, ![8448, 5632]⟩
abbrev S5632x1024 : Shape := ⟨2, ![5632, 1024]⟩
abbrev S8448x1024 : Shape := ⟨2, ![8448, 1024]⟩
abbrev S1408x1408 : Shape := ⟨2, ![1408, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S5632x1024, .bf16⟩
  | .hbm, ⟨2, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXRefIdeal.lean ====
abbrev S8448x5632 : Shape := ⟨2, ![8448, 5632]⟩
abbrev S5632x1024 : Shape := ⟨2, ![5632, 1024]⟩
abbrev S1024x5632 : Shape := ⟨2, ![1024, 5632]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x1024, .bf16⟩
  | .hbm, ⟨2, _⟩ => ⟨S1024x5632, .bf16⟩
  | .hbm, ⟨3, _⟩ => ⟨S_, .f32⟩
  | .hbm, ⟨4, _⟩ => ⟨S8448x1024, .f32⟩
  | .hbm, ⟨5, _⟩ => ⟨S1024x5632, .f32⟩
  | .hbm, ⟨6, _⟩ => ⟨S8448x5632, .f32⟩
  | .hbm, ⟨7, _⟩ => ⟨S8448x5632, .f32⟩
  | .hbm, ⟨8, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InW.lean ====
abbrev S8448x5760 : Shape := ⟨2, ![8448, 5760]⟩
abbrev S8448x1024 : Shape := ⟨2, ![8448, 1024]⟩
abbrev S5760x1024 : Shape := ⟨2, ![5760, 1024]⟩
abbrev S1408x1152 : Shape := ⟨2, ![1408, 1152]⟩
abbrev S1408x1024 : Shape := ⟨2, ![1408, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x5760, .bf16⟩
  | .hbm, ⟨1, _⟩ => ⟨S8448x1024, .bf16⟩
  | .hbm, ⟨2, _⟩ => ⟨S5760x1024, .f32⟩
  | .local _ .vmem, ⟨0, _⟩ => ⟨S1408x1152, .bf16⟩
  | .local _ .vmem, ⟨1, _⟩ => ⟨S1408x1152, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1024, .f32⟩
  | .local _ .vmem, ⟨5, _⟩ => ⟨S1152x1024, .f32⟩
  | _, _ => ⟨S8448x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8448x5760 : Shape := ⟨2, ![8448, 5760]⟩
abbrev S8448x1024 : Shape := ⟨2, ![8448, 1024]⟩
abbrev S_ : Shape := ⟨0, ![]⟩
abbrev S1024x5760 : Shape := ⟨2, ![1024, 5760]⟩
abbrev S5760x1024 : Shape := ⟨2, ![5760, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x5760, .bf16⟩
  | .hbm, ⟨1, _⟩ => ⟨S8448x1024, .bf16⟩
  | .hbm, ⟨2, _⟩ => ⟨S_, .f32⟩
  | .hbm, ⟨3, _⟩ => ⟨S1024x5760, .f32⟩
  | .hbm, ⟨4, _⟩ => ⟨S8448x1024, .f32⟩
  | .hbm, ⟨5, _⟩ => ⟨S8448x5760, .f32⟩
  | .hbm, ⟨6, _⟩ => ⟨S8448x5760, .f32⟩
  | .hbm, ⟨7, _⟩ => ⟨S5760x1024, .f32⟩
  | .hbm, ⟨8, _⟩ => ⟨S1024x5760, .f32⟩
  | .hbm, ⟨9, _⟩ => ⟨S5760x1024, .f32⟩
  | _, _ => ⟨S8448x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InX.lean ====
abbrev S8448x5760 : Shape := ⟨2, ![8448, 5760]⟩
abbrev S5760x1024 : Shape := ⟨2, ![5760, 1024]⟩
abbrev S8448x1024 : Shape := ⟨2, ![8448, 1024]⟩
abbrev S1408x1920 : Shape := ⟨2, ![1408, 1920]⟩
abbrev S1920x1024 : Shape := ⟨2, ![1920, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x5760, .bf16⟩
  | .hbm, ⟨1, _⟩ => ⟨S5760x1024, .bf16⟩
  | .hbm, ⟨2, _⟩ => ⟨S8448x1024, .f32⟩
  | .local _ .vmem, ⟨0, _⟩ => ⟨S1408x1920, .bf16⟩
  | .local _ .vmem, ⟨1, _⟩ => ⟨S1408x1920, .bf16⟩
  | .local _ .vmem, ⟨2, _⟩ => ⟨S1920x1024, .bf16⟩
  | .local _ .vmem, ⟨3, _⟩ => ⟨S1920x1024, .bf16⟩
  | .local _ .vmem, ⟨4, _⟩ => ⟨S1408x1024, .f32⟩
  | .local _ .vmem, ⟨5, _⟩ => ⟨S1408x1024, .f32⟩
  | _, _ => ⟨S8448x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S8448x5760 : Shape := ⟨2, ![8448, 5760]⟩
abbrev S5760x1024 : Shape := ⟨2, ![5760, 1024]⟩
abbrev S1024x5760 : Shape := ⟨2, ![1024, 5760]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x5760, .bf16⟩
  | .hbm, ⟨1, _⟩ => ⟨S5760x1024, .bf16⟩
  | .hbm, ⟨2, _⟩ => ⟨S1024x5760, .bf16⟩
  | .hbm, ⟨3, _⟩ => ⟨S_, .f32⟩
  | .hbm, ⟨4, _⟩ => ⟨S8448x1024, .f32⟩
  | .hbm, ⟨5, _⟩ => ⟨S1024x5760, .f32⟩
  | .hbm, ⟨6, _⟩ => ⟨S8448x5760, .f32⟩
  | .hbm, ⟨7, _⟩ => ⟨S8448x5760, .f32⟩
  | .hbm, ⟨8, _⟩ => ⟨S8448x1024, .f32⟩
  | _, _ => ⟨S8448x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownW.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S1024x2816, .f32⟩
  | .hbm, ⟨7, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownX.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S8448x2816, .bf16⟩
  | .local _ .vmem, ⟨0, _⟩ => ⟨S1408x1024, .f32⟩
  | .local _ .vmem, ⟨1, _⟩ => ⟨S1408x1024, .f32⟩
  | .local _ .vmem, ⟨2, _⟩ => ⟨S1408x1024, .bf16⟩
  | .local _ .vmem, ⟨3, _⟩ => ⟨S1408x1024, .bf16⟩
  | .local _ .vmem, ⟨4, _⟩ => ⟨S1408x1408, .bf16⟩
  | .local _ .vmem, ⟨5, _⟩ => ⟨S1408x1408, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x2816, .f32⟩
  | .hbm, ⟨7, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InY.lean ====
abbrev S8448x1024 : Shape := ⟨2, ![8448, 1024]⟩
abbrev S5760x1024 : Shape := ⟨2, ![5760, 1024]⟩
abbrev S8448x5760 : Shape := ⟨2, ![8448, 5760]⟩
abbrev S1408x1024 : Shape := ⟨2, ![1408, 1024]⟩
abbrev S1152x1024 : Shape := ⟨2, ![1152, 1024]⟩
abbrev S1408x1152 : Shape := ⟨2, ![1408, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S5760x1024, .bf16⟩
  | .hbm, ⟨2, _⟩ => ⟨S8448x5760, .f32⟩
  | .local _ .vmem, ⟨0, _⟩ => ⟨S1408x1024, .bf16⟩
  | .local _ .vmem, ⟨1, _⟩ => ⟨S1408x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1408x1152, .f32⟩
  | .local _ .vmem, ⟨5, _⟩ => ⟨S1408x1152, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InYRefIdeal.lean ====
abbrev S8448x1024 : Shape := ⟨2, ![8448, 1024]⟩
abbrev S5760x1024 : Shape := ⟨2, ![5760, 1024]⟩
abbrev S1024x5760 : Shape := ⟨2, ![1024, 5760]⟩
abbrev S8448x5760 : Shape := ⟨2, ![8448, 5760]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S5760x1024, .bf16⟩
  | .hbm, ⟨2, _⟩ => ⟨S8448x1024, .f32⟩
  | .hbm, ⟨3, _⟩ => ⟨S1024x5760, .bf16⟩
  | .hbm, ⟨4, _⟩ => ⟨S1024x5760, .f32⟩
  | .hbm, ⟨5, _⟩ => ⟨S8448x5760, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpY.lean ====
abbrev S8448x1024 : Shape := ⟨2, ![8448, 1024]⟩
abbrev S5632x1024 : Shape := ⟨2, ![5632, 1024]⟩
abbrev S8448x5632 : Shape := ⟨2, ![8448, 5632]⟩
abbrev S1408x1024 : Shape := ⟨2, ![1408, 1024]⟩
abbrev S1408x1408 : Shape := ⟨2, ![1408, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .bf16⟩
  | .local _ .vmem, ⟨5, _⟩ => ⟨S1408x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpYRefIdeal.lean ====
abbrev S8448x1024 : Shape := ⟨2, ![8448, 1024]⟩
abbrev S5632x1024 : Shape := ⟨2, ![5632, 1024]⟩
abbrev S1024x5632 : Shape := ⟨2, ![1024, 5632]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x1024, .f32⟩
  | .hbm, ⟨3, _⟩ => ⟨S1024x5632, .bf16⟩
  | .hbm, ⟨4, _⟩ => ⟨S1024x5632, .f32⟩
  | .hbm, ⟨5, _⟩ => ⟨S8448x5632, .f32⟩
  | .hbm, ⟨6, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownY.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownYRefIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.WordFirst.lean ====
module

public import proofs.«01_k».proof.Proof.Gen.Kernel.Frame
public import proofs.«01_k».proof.Proof.Gen.Kernel.Skeleton
public import proofs.«01_k».proof.Proof.Gen.Kernel.Loops

@[expose] public section

/-! # The kernel on words at the first key tile

The kernel as written, its mask a word, at any reading of the floats: the body at the first key tile runs to its end
and leaves its inputs alone. What it writes is not named, since this part only shows that the launch ends with the
arguments unchanged. -/

set_option maxRecDepth 16384

noncomputable section

namespace Cert.FoxBwd.Word

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's one conditional on the grid: the key tile is the first. -/
abbrev first (i : grid0.Coords) : Prop :=
  (Scalar.cmpi .ne (Scalar.extui (Scalar.cmpi .eq (BitVec.ofNat 32 (i 2).val) 0#32)) 0#32) = 1#1

/-- It holds at the points that are multiples of 11. -/
theorem first_iff : ∀ t : Fin cfg0.N, first (grid0.coords t) ↔ t.val % 11 = 0 :=
  (fun t => by
    have ht : t.val < 88 := Nat.lt_of_lt_of_eq t.isLt N_0
    have e2 : (grid0.coords t 2).val = t.val / 1 % 11 := Pipeline.Grid.coords_val t 2 (by decide) rfl
    simp only [first, e2]
    word_cmp
   : ∀ t : Fin grid0.N, first (grid0.coords t) ↔ t.val % 11 = 0)

set_option maxHeartbeats 1000000 in
/-- The body at the first key tile: from whole staging buffers, the inputs' at their contents, it runs to the end with the inputs as they were and each output at some contents. -/
theorem run_first (c : Dev nD) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole) (hc0 : first i)
    (x0 : Vec F S384x256 .bf16) (x1 : Vec F S384x128 .bf16) (x2 : Vec F S4224x256 .bf16) (x3 : Vec F S4224x128 .bf16) (x4 : Vec F S4224x128 .f32) (x5 : Vec F S1x1x4224x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBwd.Word

end
-- ==== Proof.WordLater.lean ====
module

public import proofs.«01_k».proof.Proof.WordFirst

@[expose] public section

/-! # The kernel on words at the later key tiles

As in the module before, where the key tile is not the first: the block of query gradients then holds what the tile
before left. -/

set_option maxRecDepth 16384

noncomputable section

namespace Cert.FoxBwd.Word

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a later key tile: from whole staging buffers, the inputs' at their contents, it runs to the end with the inputs as they were and each output at some contents. -/
theorem run_later (c : Dev nD) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole) (hc0 : ¬first i)
    (x0 : Vec F S384x256 .bf16) (x1 : Vec F S384x128 .bf16) (x2 : Vec F S4224x256 .bf16) (x3 : Vec F S4224x128 .bf16) (x4 : Vec F S4224x128 .f32) (x5 : Vec F S1x1x4224x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K := by
    intro E K
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.FoxBwd.Word

end
-- ==== Proof.WordFrame.lean ====
module

public import proofs.«01_k».proof.Proof.WordLater
public import Idealize.ShloMosaic.Lib.Claim

@[expose] public section

/-! # The kernel on words ends with its arguments unchanged

The body meets its obligation at every point with the five outputs left open, so the launch ends, no semaphore holds
anything and the five arguments are as they were. -/

set_option maxRecDepth 16384

noncomputable section

namespace Cert.FoxBwd.Word

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers -/

/-- The staging buffer of window 0 at point `t`. -/
abbrev buf0 (t : Fin cfg0.N) : Memref sig .tc .vmem S384x256 .bf16 := win0_0.stage (cfg0.slots t 0)
/-- The staging buffer of window 1 at point `t`. -/
abbrev buf1 (t : Fin cfg0.N) : Memref sig .tc .vmem S384x128 .bf16 := win0_1.stage (cfg0.slots t 1)
/-- The staging buffer of window 2 at point `t`. -/
abbrev buf2 (t : Fin cfg0.N) : Memref sig .tc .vmem S4224x256 .bf16 := win0_2.stage (cfg0.slots t 2)
/-- The staging buffer of window 3 at point `t`. -/
abbrev buf3 (t : Fin cfg0.N) : Memref sig .tc .vmem S4224x128 .bf16 := win0_3.stage (cfg0.slots t 3)
/-- The staging buffer of window 4 at point `t`. -/
abbrev buf4 (t : Fin cfg0.N) : Memref sig .tc .vmem S4224x128 .f32 := win0_4.stage (cfg0.slots t 4)
/-- The staging buffer of window 5 at point `t`. -/
abbrev buf5 (t : Fin cfg0.N) : Memref sig .tc .vmem S1x1x4224x128 .f32 := win0_5.stage (cfg0.slots t 5)
/-- The staging buffer of window 6 at point `t`. -/
abbrev buf6 (t : Fin cfg0.N) : Memref sig .tc .vmem S4224x256 .f32 := win0_6.stage (cfg0.slots t 6)
/-- The staging buffer of window 7 at point `t`. -/
abbrev buf7 (t : Fin cfg0.N) : Memref sig .tc .vmem S384x256 .f32 := win0_7.stage (cfg0.slots t 7)
/-- The staging buffer of window 8 at point `t`. -/
abbrev buf8 (t : Fin cfg0.N) : Memref sig .tc .vmem S384x128 .f32 := win0_8.stage (cfg0.slots t 8)
/-- The staging buffer of window 9 at point `t`. -/
abbrev buf9 (t : Fin cfg0.N) : Memref sig .tc .vmem S1x1x1x384 .f32 := win0_9.stage (cfg0.slots t 9)
/-- The staging buffer of window 10 at point `t`. -/
abbrev buf10 (t : Fin cfg0.N) : Memref sig .tc .vmem S1x1x1x384 .f32 := win0_10.stage (cfg0.slots t 10)

/-! ## The lines after the call -/

/-- The buffers the lines after the call write. -/
def written : Finset (Ref sig .tc) := {main_cst_7, main_v53, main_v54, main_v55, main_v56, main_v57, main_v58, main_v59, main_v60, main_v61, main_v62}

/-- They write no others. -/
theorem tail_writes : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-! ## The proof data -/

/-- The windows whose contents are left open: the five outputs. -/
def open_windows : Fin 11 → Bool := fun w => w.val == 6 || w.val == 7 || w.val == 8 || w.val == 9 || w.val == 10

/-- The proof data: the arrays as the call finds them; each input its block after every point, the outputs open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- Its arrays are those the call finds. -/
theorem A_eq (c : Dev nD) (w : Fin cfg0.W) : (dats m 0 c).A w = V m c (Pipeline.arrRef spec0 w) := by
  dsimp only [dats]

/-- What the body leaves in each input's buffer: its block. -/
theorem after0 (c : Dev nD) (t : Fin cfg0.N) : (dats m 0 c).after 0 t = iblk m c 0 t := by dsimp only [dats]
/-- The same of input 1. -/
theorem after1 (c : Dev nD) (t : Fin cfg0.N) : (dats m 0 c).after 1 t = iblk m c 1 t := by dsimp only [dats]
/-- The same of input 2. -/
theorem after2 (c : Dev nD) (t : Fin cfg0.N) : (dats m 0 c).after 2 t = iblk m c 2 t := by dsimp only [dats]
/-- The same of input 3. -/
theorem after3 (c : Dev nD) (t : Fin cfg0.N) : (dats m 0 c).after 3 t = iblk m c 3 t := by dsimp only [dats]
/-- The same of input 4. -/
theorem after4 (c : Dev nD) (t : Fin cfg0.N) : (dats m 0 c).after 4 t = iblk m c 4 t := by dsimp only [dats]
/-- The same of input 5. -/
theorem after5 (c : Dev nD) (t : Fin cfg0.N) : (dats m 0 c).after 5 t = iblk m c 5 t := by dsimp only [dats]

/-- What each input's buffer holds before the body: its block. -/
theorem before0 (c : Dev nD) (t : Fin cfg0.N) (d) : (dats m 0 c).before 0 t d = iblk m c 0 t :=
  before0_0_of m (dats m 0 c) (A_eq m c 0) (after0 m c) t d
/-- The same of input 1. -/
theorem before1 (c : Dev nD) (t : Fin cfg0.N) (d) : (dats m 0 c).before 1 t d = iblk m c 1 t :=
  before0_1_of m (dats m 0 c) (A_eq m c 1) (after1 m c) t d
/-- The same of input 2. -/
theorem before2 (c : Dev nD) (t : Fin cfg0.N) (d) : (dats m 0 c).before 2 t d = iblk m c 2 t :=
  before0_2_of m (dats m 0 c) (A_eq m c 2) (after2 m c) t d
/-- The same of input 3. -/
theorem before3 (c : Dev nD) (t : Fin cfg0.N) (d) : (dats m 0 c).before 3 t d = iblk m c 3 t :=
  before0_3_of m (dats m 0 c) (A_eq m c 3) (after3 m c) t d
/-- The same of input 4. -/
theorem before4 (c : Dev nD) (t : Fin cfg0.N) (d) : (dats m 0 c).before 4 t d = iblk m c 4 t :=
  before0_4_of m (dats m 0 c) (A_eq m c 4) (after4 m c) t d
/-- The same of input 5. -/
theorem before5 (c : Dev nD) (t : Fin cfg0.N) (d) : (dats m 0 c).before 5 t d = iblk m c 5 t :=
  before0_5_of m (dats m 0 c) (A_eq m c 5) (after5 m c) t d

/-! ## The body at a point -/

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare d)
    ∗ (∃ d, owns (c : Thread nD τ) (buf7 t) fullShare d)
    ∗ (∃ d, owns (c : Thread nD τ) (buf8 t) fullShare d)
    ∗ (∃ d, owns (c : Thread nD τ) (buf9 t) fullShare d)
    ∗ (∃ d, owns (c : Thread nD τ) (buf10 t) fullShare d))

/-- What it returns. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ (∃ d, owns (c : Thread nD τ) (buf6 t) fullShare d)
    ∗ (∃ d, owns (c : Thread nD τ) (buf7 t) fullShare d)
    ∗ (∃ d, owns (c : Thread nD τ) (buf8 t) fullShare d)
    ∗ (∃ d, owns (c : Thread nD τ) (buf9 t) fullShare d)
    ∗ (∃ d, owns (c : Thread nD τ) (buf10 t) fullShare d))

set_option maxHeartbeats 1600000 in
/-- The body takes the one to the other, at the first key tile and at the later ones. -/
theorem body_triple (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 88 := lt_of_lt_of_eq t.isLt (show cfg0.N = 88 from N_0)
  by_cases h0 : t.val % 11 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_first c (grid0.coords t) _ _ _ _ _ _ _ _ _ _ _ _ _ _ _ _ _ _ _ _ _ _ ((first_iff t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((run_later c (grid0.coords t) _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body called at point `t`. -/
theorem body_row (t : Fin cfg0.N) :
    defs₀ (F := F) .tc cfg0.body (cfg0.bodyArgs t (cfg0.slots t)) = bodyAt0 t := by
  unfold defs₀; rw [Defs.onTc_tc]

/-- The body meets its obligation at every point. -/
theorem body_holds (c : Dev nD) : BodyObligation (dats (F := F) m 0 c) (defs₀ (F := F)) Variants.none () Set.univ open_windows := fun t => by
  rw [bigSep_W0, bigSep_W0, body_row]
  exact triple_restated (body_triple m c t) rfl .rfl fun _ => .rfl

/-! ## The launch -/

set_option backward.isDefEq.respectTransparency.types false in
set_option maxHeartbeats 800000 in
/-- The launch ends, with every input array and every buffer not written later as the call found it, and with every semaphore at zero. -/
theorem launch_ends : θ_run defs (onTc (τ := τ) (main (F := F))) (s₀ m ρ) (fun r => (Pipeline.RDat.FramePostR (cfgs 0) (fun c => (dats m 0 c).toRForget open_windows) written (V m)) r ∧ r.2.sem = fun _ => 0) :=
  Pipeline.θ_run_frame_around_T_forget (Q' := _) cfgs (dats m) (0 : Fin 1) launch0 defs₀ Variants.none open_windows written m ρ main
    (hbody := fun c => (body_holds m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- Every run of the kernel on words ends, with its five arguments unchanged and no semaphore holding anything. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (launch_ends m ρ)

end Cert.FoxBwd.Word

end
-- ==== Proof.Sums.lean ====
module

public import Idealize.ShloMosaic.Lib.Pipeline.Value
public import Idealize.ShloMosaic.PureOps.Ideal

@[expose] public section

/-! # A product summed tile by tile

A long sum cut into tiles of equal length, and the accumulator that a run of grid points leaves when each point adds
one tile's sum. -/

noncomputable section

namespace Cert.Products

open Idealize.ShloMosaic

/-- A sum over `n` tiles of `T` terms is the sum over all `n * T` terms. -/
theorem sum_tiles {β : Type*} [AddCommMonoid β] (n T : ℕ) (f : ℕ → β) :
    ∑ s ∈ Finset.range n, ∑ k : Fin T, f (s * T + k.val) = ∑ k : Fin (n * T), f k.val := by
  rw [Finset.sum_range, ← Fintype.sum_prod_type' (f := fun (s : Fin n) (k : Fin T) => f (s.val * T + k.val)),
    ← finProdFinEquiv.sum_comp]
  refine Finset.sum_congr rfl fun p _ => congrArg f ?_
  show _ = p.2.val + T * p.1.val
  rw [Nat.mul_comm, Nat.add_comm]

/-- An accumulator that starts with a tile's sum over `Z` and to which each later point of the run adds its tile's sum holds, after
the run's `n` points, `Z` and the whole sum. -/
theorem fold_sum {N n T : ℕ} (hn : 0 < n) {ι β : Type*} [AddCommMonoid β] (a : (p : ℕ) → p < N → ι → β)
    (g : (p : ℕ) → p < N → (ι → β) → ι → β) (Z : ι → β) (f : ι → ℕ → β) (b : ℕ)
    (ha : ∀ (h : b < N) (i : ι), a b h i = Z i + ∑ k : Fin T, f i k.val)
    (hg : ∀ (s : ℕ) (h : b + s < N) (acc : ι → β) (i : ι), 0 < s → s < n → g (b + s) h acc i = acc i + ∑ k : Fin T, f i (s * T + k.val))
    (e : ℕ) (he : e + 1 = n) (h : b + e < N) (i : ι) :
    Pipeline.accAt a g b e h i = Z i + ∑ k : Fin (n * T), f i k.val := by
  subst he
  rw [Pipeline.accAt_add_apply a g Z (fun p i => ∑ k : Fin T, f i ((p - b) * T + k.val)) b e
    (fun h i => by rw [ha]; simp) (fun p h acc i h0 h1 => by
      obtain ⟨s, rfl⟩ := Nat.exists_eq_add_of_lt h0
      have := hg (s + 1) (by omega) acc i (by omega) (by omega)
      rw [show b + s + 1 - b = s + 1 by omega]; exact this) e le_rfl h i]
  simp only [Nat.add_sub_cancel_left]
  rw [sum_tiles]

/-- A family over `Fin K` as a sequence. -/
def seq {β : Type*} [Zero β] {K : ℕ} (f : Fin K → β) (k : ℕ) : β := if h : k < K then f ⟨k, h⟩ else 0

theorem seq_of_lt {β : Type*} [Zero β] {K : ℕ} (f : Fin K → β) (k : ℕ) (h : k < K) : seq f k = f ⟨k, h⟩ := dif_pos h

theorem sum_seq {β : Type*} [AddCommMonoid β] {K : ℕ} (f : Fin K → β) : ∑ k : Fin K, seq f k.val = ∑ k, f k :=
  Finset.sum_congr rfl fun k _ => seq_of_lt f k.val k.isLt

end Cert.Products

end
-- ==== Proof.UpW.lean ====
module

public import proofs.«01_k».proof.Defs
public import proofs.«01_k».proof.Proof.Sums
public import proofs.«01_k».proof.Proof.Gen.UpW
public import proofs.«01_k».proof.Proof.Gen.UpWIdeal.Value
public import proofs.«01_k».proof.Proof.Gen.UpWIdeal.Frame
public import proofs.«01_k».proof.Proof.Gen.UpWRefIdeal.Run
public import Idealize.ShloMosaic.Lib.Pointwise
public import Idealize.ShloMosaic.Lib.Pipeline.ValueKit

@[expose] public section

/-! # The gradient of the up projection's weight

The tiles of the product over the positions add up to the product over all of them. -/

set_option maxRecDepth 16384

noncomputable section

namespace Cert.Products.UpW

open Idealize.ShloMosaic Idealize.ShloMosaic.TcCoe Idealize.SL.Sem
open Cert.UpWIdeal Cert.UpWIdeal.Gen Cert.UpWIdeal.Value

variable (m : (ℓ : Loc nD τ sig) → Buf (Elt Ideal) ℓ) (ρ : Dev nD → PrngReg)

/-- The blocks that each point reads and writes. -/
theorem idx : ∀ t : Fin cfg0.N, win0_0.index t = ![t.val % 6, t.val / 6] ∧ win0_1.index t = ![t.val % 6, 0] :=
  (by decide +kernel : ∀ t : Fin grid0.N, _)

/-- The arrays and a point's blocks of them, as functions into the extended reals. -/
def lhs (c : Dev nD) : S8448x5632.Idx → EReal := m ((c : Thread nD τ).loc main_arg0)
def rhs (c : Dev nD) : S8448x1024.Idx → EReal := m ((c : Thread nD τ).loc main_arg1)
def lhsBlk (c : Dev nD) (t : Fin cfg0.N) : S1408x1408.Idx → EReal := iblk m c 0 t
def rhsBlk (c : Dev nD) (t : Fin cfg0.N) : S1408x1024.Idx → EReal := iblk m c 1 t

/-- The term of position `k` in the product's entry at row `r` and column `y`. -/
def term (c : Dev nD) (r : Fin 5632) (y : Fin 1024) (k : Fin 8448) : EReal := lhs m c (ix2 k r) * rhs m c (ix2 k y)

/-- One tile's product, at an index. -/
theorem pay (acc : Vec Ideal S1408x1024 .f32) (x0 : Vec Ideal S1408x1408 .bf16) (x1 : Vec Ideal S1408x1024 .bf16) (y : S1408x1024.Idx) :
    (k0_pay2 acc x0 x1 y : EReal) = acc y + ∑ k : Fin 1408, (x0 (ix2 k (y 0)) : EReal) * x1 (ix2 k (y 1)) := by
  pointwise [k0_pay2]

/-- One tile's product, in the arrays' entries. -/
theorem tile (c : Dev nD) (t : Fin cfg0.N) (r : Fin 5632) (y : S1408x1024.Idx) (hr : r.val = t.val / 6 * 1408 + (y 0).val) (s : ℕ)
    (hs : t.val % 6 = s) :
    ∑ k : Fin 1408, lhsBlk m c t (ix2 k (y 0)) * rhsBlk m c t (ix2 k (y 1)) =
      ∑ k : Fin 1408, seq (term m c r (y 1)) (s * 1408 + k.val) := by
  refine Finset.sum_congr rfl fun k _ => ?_
  rw [seq_of_lt _ _ (by omega : s * 1408 + k.val < 8448)]
  unfold term lhsBlk rhsBlk lhs rhs
  congr 1 <;> blk_ext [iblk, V, idx t]

/-- What the array ends holding. -/
theorem result (c : Dev nD) (r : Fin 5632) (y : Fin 1024) :
    (G2 m c (ix2 r y) : EReal) = ∑ k : Fin 8448, term m c r y k := by
  have hb : 6 * run2Of (ix2 r y) + 5 < cfg0.N := by show 6 * (1 * (r.val / 1408 - 0) + 1 * (y.val / 1024 - 0)) + 5 < 24; omega
  have hrun : run2Of (ix2 r y) = r.val / 1408 := by show 1 * (r.val / 1408 - 0) + 1 * (y.val / 1024 - 0) = _; omega
  unfold G2
  rw [dif_pos hb]
  have row (y' : S1408x1024.Idx) : r.val / 1408 * 1408 + (y' 0).val < 5632 := by have : (y' 0).val < 1408 := (y' 0).isLt; omega
  have h := fold_sum (N := cfg0.N) (n := 6) (T := 1408) (by omega) (ι := S1408x1024.Idx) (β := EReal) (reset2 m c) (step2 m c) (fun _ => 0)
    (fun y' => seq (term m c ⟨r.val / 1408 * 1408 + (y' 0).val, row y'⟩ (y' 1))) (6 * run2Of (ix2 r y))
    (fun h y' => by
      have := tile m c ⟨_, h⟩ ⟨_, row y'⟩ y' (by show _ = 6 * run2Of (ix2 r y) / 6 * 1408 + (y' 0).val; rw [hrun, Nat.mul_div_cancel_left _ (by omega)]) 0 (by show 6 * run2Of (ix2 r y) % 6 = 0; omega)
      simp only [Nat.zero_mul, Nat.zero_add] at this
      rw [← this]
      exact (pay _ _ _ y').trans (by congr 1; pointwise [k0_pay1]))
    (fun s h acc y' h0 h1 => by
      have := tile m c ⟨_, h⟩ ⟨_, row y'⟩ y' (by show _ = (6 * run2Of (ix2 r y) + s) / 6 * 1408 + (y' 0).val; rw [hrun, Nat.mul_add_div (by omega), Nat.div_eq_of_lt h1, Nat.add_zero]) s (by show (6 * run2Of (ix2 r y) + s) % 6 = s; omega)
      rw [← this]
      exact pay _ _ _ y')
    5 rfl hb (loc2Of (ix2 r y))
  refine h.trans ?_
  rw [zero_add, ← sum_seq (term m c r y)]
  have e : (⟨r.val / 1408 * 1408 + (loc2Of (ix2 r y) 0).val, row _⟩ : Fin 5632) = r :=
    Fin.ext (by show r.val / 1408 * 1408 + r.val % 1408 = r.val; omega)
  have e' : (loc2Of (ix2 r y) 1 : Fin 1024) = y := Fin.ext (by show y.val % 1024 = y.val; omega)
  show ∑ k : Fin 8448, seq (term m c _ (loc2Of (ix2 r y) 1)) k.val = _
  rw [e, e']

/-- The reference's entry is the same sum. -/
theorem reference (a : Vec Ideal S8448x5632 .bf16) (b : Vec Ideal S8448x1024 .bf16) (r : Fin 5632) (y : Fin 1024) :
    ((transpose Cert.UpWRefIdeal.S5632x1024 [1, 0] (transpose Cert.UpWRefIdeal.S1024x5632 [1, 0] (Host.dotGeneral Cert.UpWRefIdeal.dot_S8448x5632_S8448x1024_S5632x1024_0_0_1_1_n_n none (extf .f32 a Cert.UpWRefIdeal.Gen.bitsLt_bf16_f32 : FVec Ideal _ _) (extf .f32 b Cert.UpWRefIdeal.Gen.bitsLt_bf16_f32)) Cert.UpWRefIdeal.Gen.transposes_S5632x1024_S1024x5632_1_0) Cert.UpWRefIdeal.Gen.transposes_S1024x5632_S5632x1024_1_0 : FVec Ideal Cert.UpWRefIdeal.S5632x1024 .f32) (ix2 r y) : EReal) =
      ∑ k : Fin 8448, (a (ix2 k r) : EReal) * b (ix2 k y) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.UpWIdeal.Gen.frame m ρ

section
attribute [local instance] Cert.UpW.Gen.facts Cert.UpWIdeal.Gen.facts
theorem bodies_eq : Cert.UpW.defs₀ (F := Bits) = defs₀ (F := Bits) := by
  unfold Cert.UpW.defs₀ Cert.UpWIdeal.defs₀
  congr 1
  funext l a
  match l, a with
  | 0, (t, s) => rfl
/-- The two printed programs are the same. -/
theorem defs_eq : Cert.UpW.defs (F := Bits) = defs (F := Bits) := congrArg (Pipeline.defs (pcfgs (F := Bits))) bodies_eq
end

theorem word_frame : Cert.quiescent_UpW (hUpW := Cert.UpW.Gen.facts) := fun m ρ _ => by rw [defs_eq]; exact frame (F := Bits) ρ m
theorem ideal_frame : Cert.quiescent_UpWIdeal (hUpWIdeal := Cert.UpWIdeal.Gen.facts) := fun m ρ _ => frame ρ m
theorem reference_frame : Cert.quiescent_UpWRefIdeal (hUpWRefIdeal := Cert.UpWRefIdeal.Gen.facts) := fun m ρ _ =>
  (θ_run Cert.UpWRefIdeal.defs _ _).mono (fun r h => ⟨fun c => (h c).2, sem_eq_zero_of_no_sems (by decide) _⟩) (Cert.UpWRefIdeal.Value.run m ρ)

/-- The kernel ends with the reference's gradient. -/
theorem algebraic : Cert.algebraic_UpWIdeal_UpWRefIdeal (hUpWIdeal := Cert.UpWIdeal.Gen.facts) (hUpWRefIdeal := Cert.UpWRefIdeal.Gen.facts) :=
  fun m ρ m' ρ' _ hargs => ⟨_, run m ρ, (θ_run Cert.UpWRefIdeal.defs _ _).mono (fun r h c => by
    obtain ⟨e0, e1⟩ := hargs c
    refine ⟨(h c).1.trans ?_, (h c).2⟩
    funext i
    obtain ⟨r, y, rfl⟩ : ∃ (r : Fin 5632) (y : Fin 1024), i = ix2 r y := ⟨i 0, i 1, by blk_ext⟩
    refine Eq.trans ?_ (result m c r y).symm
    exact (reference _ _ r y).trans (by rw [e0, e1]; rfl)) (Cert.UpWRefIdeal.Value.run m' ρ')⟩

end Cert.Products.UpW

end
-- ==== Proof.UpX.lean ====
module

public import proofs.«01_k».proof.Defs
public import proofs.«01_k».proof.Proof.Sums
public import proofs.«01_k».proof.Proof.Gen.UpX
public import proofs.«01_k».proof.Proof.Gen.UpXIdeal.Value
public import proofs.«01_k».proof.Proof.Gen.UpXIdeal.Frame
public import proofs.«01_k».proof.Proof.Gen.UpXRefIdeal.Run
public import Idealize.ShloMosaic.Lib.Pointwise
public import Idealize.ShloMosaic.Lib.Pipeline.ValueKit

@[expose] public section

/-! # The gradient of the up projection's input

The tiles of the product over the projection's columns add up to the product over all of them. -/

set_option maxRecDepth 16384

noncomputable section

namespace Cert.Products.UpX

open Idealize.ShloMosaic Idealize.ShloMosaic.TcCoe Idealize.SL.Sem
open Cert.UpXIdeal Cert.UpXIdeal.Gen Cert.UpXIdeal.Value

variable (m : (ℓ : Loc nD τ sig) → Buf (Elt Ideal) ℓ) (ρ : Dev nD → PrngReg)

/-- The blocks that each point reads and writes. -/
theorem idx : ∀ t : Fin cfg0.N, win0_0.index t = ![t.val / 4, t.val % 4] ∧ win0_1.index t = ![t.val % 4, 0] :=
  (by decide +kernel : ∀ t : Fin grid0.N, _)

/-- The arrays and a point's blocks of them, as functions into the extended reals. -/
def lhs (c : Dev nD) : S8448x5632.Idx → EReal := m ((c : Thread nD τ).loc main_arg0)
def rhs (c : Dev nD) : S5632x1024.Idx → EReal := m ((c : Thread nD τ).loc main_arg1)
def lhsBlk (c : Dev nD) (t : Fin cfg0.N) : S1408x1408.Idx → EReal := iblk m c 0 t
def rhsBlk (c : Dev nD) (t : Fin cfg0.N) : S1408x1024.Idx → EReal := iblk m c 1 t

/-- Term `k` of the product's entry at row `r` and column `y`. -/
def term (c : Dev nD) (r : Fin 8448) (y : Fin 1024) (k : Fin 5632) : EReal := lhs m c (ix2 r k) * rhs m c (ix2 k y)

/-- One tile's product, at an index. -/
theorem pay (acc : Vec Ideal S1408x1024 .f32) (x0 : Vec Ideal S1408x1408 .bf16) (x1 : Vec Ideal S1408x1024 .bf16) (y : S1408x1024.Idx) :
    (k0_pay2 acc x0 x1 y : EReal) = acc y + ∑ k : Fin 1408, (x0 (ix2 (y 0) k) : EReal) * x1 (ix2 k (y 1)) := by
  pointwise [k0_pay2]

/-- One tile's product, in the arrays' entries. -/
theorem tile (c : Dev nD) (t : Fin cfg0.N) (r : Fin 8448) (y : S1408x1024.Idx) (hr : r.val = t.val / 4 * 1408 + (y 0).val) (s : ℕ)
    (hs : t.val % 4 = s) :
    ∑ k : Fin 1408, lhsBlk m c t (ix2 (y 0) k) * rhsBlk m c t (ix2 k (y 1)) =
      ∑ k : Fin 1408, seq (term m c r (y 1)) (s * 1408 + k.val) := by
  refine Finset.sum_congr rfl fun k _ => ?_
  rw [seq_of_lt _ _ (by omega : s * 1408 + k.val < 5632)]
  unfold term lhsBlk rhsBlk lhs rhs
  congr 1 <;> blk_ext [iblk, V, idx t]

/-- What the array ends holding. -/
theorem result (c : Dev nD) (r : Fin 8448) (y : Fin 1024) :
    (G2 m c (ix2 r y) : EReal) = ∑ k : Fin 5632, term m c r y k := by
  have hb : 4 * run2Of (ix2 r y) + 3 < cfg0.N := by show 4 * (1 * (r.val / 1408 - 0) + 1 * (y.val / 1024 - 0)) + 3 < 24; omega
  have hrun : run2Of (ix2 r y) = r.val / 1408 := by show 1 * (r.val / 1408 - 0) + 1 * (y.val / 1024 - 0) = _; omega
  unfold G2
  rw [dif_pos hb]
  have row (y' : S1408x1024.Idx) : r.val / 1408 * 1408 + (y' 0).val < 8448 := by have : (y' 0).val < 1408 := (y' 0).isLt; omega
  have h := fold_sum (N := cfg0.N) (n := 4) (T := 1408) (by omega) (ι := S1408x1024.Idx) (β := EReal) (reset2 m c) (step2 m c) (fun _ => 0)
    (fun y' => seq (term m c ⟨r.val / 1408 * 1408 + (y' 0).val, row y'⟩ (y' 1))) (4 * run2Of (ix2 r y))
    (fun h y' => by
      have := tile m c ⟨_, h⟩ ⟨_, row y'⟩ y' (by show _ = 4 * run2Of (ix2 r y) / 4 * 1408 + (y' 0).val; rw [hrun, Nat.mul_div_cancel_left _ (by omega)]) 0 (by show 4 * run2Of (ix2 r y) % 4 = 0; omega)
      simp only [Nat.zero_mul, Nat.zero_add] at this
      rw [← this]
      exact (pay _ _ _ y').trans (by congr 1; pointwise [k0_pay1]))
    (fun s h acc y' h0 h1 => by
      have := tile m c ⟨_, h⟩ ⟨_, row y'⟩ y' (by show _ = (4 * run2Of (ix2 r y) + s) / 4 * 1408 + (y' 0).val; rw [hrun, Nat.mul_add_div (by omega), Nat.div_eq_of_lt h1, Nat.add_zero]) s (by show (4 * run2Of (ix2 r y) + s) % 4 = s; omega)
      rw [← this]
      exact pay _ _ _ y')
    3 rfl hb (loc2Of (ix2 r y))
  refine h.trans ?_
  rw [zero_add, ← sum_seq (term m c r y)]
  have e : (⟨r.val / 1408 * 1408 + (loc2Of (ix2 r y) 0).val, row _⟩ : Fin 8448) = r :=
    Fin.ext (by show r.val / 1408 * 1408 + r.val % 1408 = r.val; omega)
  have e' : (loc2Of (ix2 r y) 1 : Fin 1024) = y := Fin.ext (by show y.val % 1024 = y.val; omega)
  show ∑ k : Fin 5632, seq (term m c _ (loc2Of (ix2 r y) 1)) k.val = _
  rw [e, e']

/-- The reference's entry is the same sum. -/
theorem reference (a : Vec Ideal S8448x5632 .bf16) (b : Vec Ideal S5632x1024 .bf16) (r : Fin 8448) (y : Fin 1024) :
    ((Host.dotGeneral Cert.UpXRefIdeal.dot_S8448x5632_S1024x5632_S8448x1024_1_1_0_0_n_n none (extf .f32 a Cert.UpXRefIdeal.Gen.bitsLt_bf16_f32 : FVec Ideal _ _) (extf .f32 (transpose Cert.UpXRefIdeal.S1024x5632 [1, 0] b Cert.UpXRefIdeal.Gen.transposes_S5632x1024_S1024x5632_1_0) Cert.UpXRefIdeal.Gen.bitsLt_bf16_f32 : FVec Ideal _ _) : FVec Ideal Cert.UpXRefIdeal.S8448x1024 .f32) (ix2 r y) : EReal) =
      ∑ k : Fin 5632, (a (ix2 r k) : EReal) * b (ix2 k y) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.UpXIdeal.Gen.frame m ρ

section
attribute [local instance] Cert.UpX.Gen.facts Cert.UpXIdeal.Gen.facts
theorem bodies_eq : Cert.UpX.defs₀ (F := Bits) = defs₀ (F := Bits) := by
  unfold Cert.UpX.defs₀ Cert.UpXIdeal.defs₀
  congr 1
  funext l a
  match l, a with
  | 0, (t, s) => rfl
/-- The two printed programs are the same. -/
theorem defs_eq : Cert.UpX.defs (F := Bits) = defs (F := Bits) := congrArg (Pipeline.defs (pcfgs (F := Bits))) bodies_eq
end

theorem word_frame : Cert.quiescent_UpX (hUpX := Cert.UpX.Gen.facts) := fun m ρ _ => by rw [defs_eq]; exact frame (F := Bits) ρ m
theorem ideal_frame : Cert.quiescent_UpXIdeal (hUpXIdeal := Cert.UpXIdeal.Gen.facts) := fun m ρ _ => frame ρ m
theorem reference_frame : Cert.quiescent_UpXRefIdeal (hUpXRefIdeal := Cert.UpXRefIdeal.Gen.facts) := fun m ρ _ =>
  (θ_run Cert.UpXRefIdeal.defs _ _).mono (fun r h => ⟨fun c => (h c).2, sem_eq_zero_of_no_sems (by decide) _⟩) (Cert.UpXRefIdeal.Value.run m ρ)

/-- The kernel ends with the reference's gradient. -/
theorem algebraic : Cert.algebraic_UpXIdeal_UpXRefIdeal (hUpXIdeal := Cert.UpXIdeal.Gen.facts) (hUpXRefIdeal := Cert.UpXRefIdeal.Gen.facts) :=
  fun m ρ m' ρ' _ hargs => ⟨_, run m ρ, (θ_run Cert.UpXRefIdeal.defs _ _).mono (fun r h c => by
    obtain ⟨e0, e1⟩ := hargs c
    refine ⟨(h c).1.trans ?_, (h c).2⟩
    funext i
    obtain ⟨r, y, rfl⟩ : ∃ (r : Fin 8448) (y : Fin 1024), i = ix2 r y := ⟨i 0, i 1, by blk_ext⟩
    refine Eq.trans ?_ (result m c r y).symm
    exact (reference _ _ r y).trans (by rw [e0, e1]; rfl)) (Cert.UpXRefIdeal.Value.run m' ρ')⟩

end Cert.Products.UpX

end
-- ==== Proof.InX.lean ====
module

public import proofs.«01_k».proof.Defs
public import proofs.«01_k».proof.Proof.Sums
public import proofs.«01_k».proof.Proof.Gen.InX
public import proofs.«01_k».proof.Proof.Gen.InXIdeal.Value
public import proofs.«01_k».proof.Proof.Gen.InXIdeal.Frame
public import proofs.«01_k».proof.Proof.Gen.InXRefIdeal.Run
public import Idealize.ShloMosaic.Lib.Pointwise
public import Idealize.ShloMosaic.Lib.Pipeline.ValueKit

@[expose] public section

/-! # The gradient of the input projection's input

The tiles of the product over the projection's columns add up to the product over all of them. -/

set_option maxRecDepth 16384

noncomputable section

namespace Cert.Products.InX

open Idealize.ShloMosaic Idealize.ShloMosaic.TcCoe Idealize.SL.Sem
open Cert.InXIdeal Cert.InXIdeal.Gen Cert.InXIdeal.Value

variable (m : (ℓ : Loc nD τ sig) → Buf (Elt Ideal) ℓ) (ρ : Dev nD → PrngReg)

/-- The blocks that each point reads and writes. -/
theorem idx : ∀ t : Fin cfg0.N, win0_0.index t = ![t.val / 3, t.val % 3] ∧ win0_1.index t = ![t.val % 3, 0] :=
  (by decide +kernel : ∀ t : Fin grid0.N, _)

/-- The arrays and a point's blocks of them, as functions into the extended reals. -/
def lhs (c : Dev nD) : S8448x5760.Idx → EReal := m ((c : Thread nD τ).loc main_arg0)
def rhs (c : Dev nD) : S5760x1024.Idx → EReal := m ((c : Thread nD τ).loc main_arg1)
def lhsBlk (c : Dev nD) (t : Fin cfg0.N) : S1408x1920.Idx → EReal := iblk m c 0 t
def rhsBlk (c : Dev nD) (t : Fin cfg0.N) : S1920x1024.Idx → EReal := iblk m c 1 t

/-- Term `k` of the product's entry at row `r` and column `y`. -/
def term (c : Dev nD) (r : Fin 8448) (y : Fin 1024) (k : Fin 5760) : EReal := lhs m c (ix2 r k) * rhs m c (ix2 k y)

/-- One tile's product, at an index. -/
theorem pay (acc : Vec Ideal S1408x1024 .f32) (x0 : Vec Ideal S1408x1920 .bf16) (x1 : Vec Ideal S1920x1024 .bf16) (y : S1408x1024.Idx) :
    (k0_pay2 acc x0 x1 y : EReal) = acc y + ∑ k : Fin 1920, (x0 (ix2 (y 0) k) : EReal) * x1 (ix2 k (y 1)) := by
  pointwise [k0_pay2]

/-- One tile's product, in the arrays' entries. -/
theorem tile (c : Dev nD) (t : Fin cfg0.N) (r : Fin 8448) (y : S1408x1024.Idx) (hr : r.val = t.val / 3 * 1408 + (y 0).val) (s : ℕ)
    (hs : t.val % 3 = s) :
    ∑ k : Fin 1920, lhsBlk m c t (ix2 (y 0) k) * rhsBlk m c t (ix2 k (y 1)) =
      ∑ k : Fin 1920, seq (term m c r (y 1)) (s * 1920 + k.val) := by
  refine Finset.sum_congr rfl fun k _ => ?_
  rw [seq_of_lt _ _ (by omega : s * 1920 + k.val < 5760)]
  unfold term lhsBlk rhsBlk lhs rhs
  congr 1 <;> blk_ext [iblk, V, idx t]

/-- What the array ends holding. -/
theorem result (c : Dev nD) (r : Fin 8448) (y : Fin 1024) :
    (G2 m c (ix2 r y) : EReal) = ∑ k : Fin 5760, term m c r y k := by
  have hb : 3 * run2Of (ix2 r y) + 2 < cfg0.N := by show 3 * (1 * (r.val / 1408 - 0) + 1 * (y.val / 1024 - 0)) + 2 < 18; omega
  have hrun : run2Of (ix2 r y) = r.val / 1408 := by show 1 * (r.val / 1408 - 0) + 1 * (y.val / 1024 - 0) = _; omega
  unfold G2
  rw [dif_pos hb]
  have row (y' : S1408x1024.Idx) : r.val / 1408 * 1408 + (y' 0).val < 8448 := by have : (y' 0).val < 1408 := (y' 0).isLt; omega
  have h := fold_sum (N := cfg0.N) (n := 3) (T := 1920) (by omega) (ι := S1408x1024.Idx) (β := EReal) (reset2 m c) (step2 m c) (fun _ => 0)
    (fun y' => seq (term m c ⟨r.val / 1408 * 1408 + (y' 0).val, row y'⟩ (y' 1))) (3 * run2Of (ix2 r y))
    (fun h y' => by
      have := tile m c ⟨_, h⟩ ⟨_, row y'⟩ y' (by show _ = 3 * run2Of (ix2 r y) / 3 * 1408 + (y' 0).val; rw [hrun, Nat.mul_div_cancel_left _ (by omega)]) 0 (by show 3 * run2Of (ix2 r y) % 3 = 0; omega)
      simp only [Nat.zero_mul, Nat.zero_add] at this
      rw [← this]
      exact (pay _ _ _ y').trans (by congr 1; pointwise [k0_pay1]))
    (fun s h acc y' h0 h1 => by
      have := tile m c ⟨_, h⟩ ⟨_, row y'⟩ y' (by show _ = (3 * run2Of (ix2 r y) + s) / 3 * 1408 + (y' 0).val; rw [hrun, Nat.mul_add_div (by omega), Nat.div_eq_of_lt h1, Nat.add_zero]) s (by show (3 * run2Of (ix2 r y) + s) % 3 = s; omega)
      rw [← this]
      exact pay _ _ _ y')
    2 rfl hb (loc2Of (ix2 r y))
  refine h.trans ?_
  rw [zero_add, ← sum_seq (term m c r y)]
  have e : (⟨r.val / 1408 * 1408 + (loc2Of (ix2 r y) 0).val, row _⟩ : Fin 8448) = r :=
    Fin.ext (by show r.val / 1408 * 1408 + r.val % 1408 = r.val; omega)
  have e' : (loc2Of (ix2 r y) 1 : Fin 1024) = y := Fin.ext (by show y.val % 1024 = y.val; omega)
  show ∑ k : Fin 5760, seq (term m c _ (loc2Of (ix2 r y) 1)) k.val = _
  rw [e, e']

/-- The reference's entry is the same sum. -/
theorem reference (a : Vec Ideal S8448x5760 .bf16) (b : Vec Ideal S5760x1024 .bf16) (r : Fin 8448) (y : Fin 1024) :
    ((Host.dotGeneral Cert.InXRefIdeal.dot_S8448x5760_S1024x5760_S8448x1024_1_1_0_0_n_n none (extf .f32 a Cert.InXRefIdeal.Gen.bitsLt_bf16_f32 : FVec Ideal _ _) (extf .f32 (transpose Cert.InXRefIdeal.S1024x5760 [1, 0] b Cert.InXRefIdeal.Gen.transposes_S5760x1024_S1024x5760_1_0) Cert.InXRefIdeal.Gen.bitsLt_bf16_f32 : FVec Ideal _ _) : FVec Ideal Cert.InXRefIdeal.S8448x1024 .f32) (ix2 r y) : EReal) =
      ∑ k : Fin 5760, (a (ix2 r k) : EReal) * b (ix2 k y) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.InXIdeal.Gen.frame m ρ

section
attribute [local instance] Cert.InX.Gen.facts Cert.InXIdeal.Gen.facts
theorem bodies_eq : Cert.InX.defs₀ (F := Bits) = defs₀ (F := Bits) := by
  unfold Cert.InX.defs₀ Cert.InXIdeal.defs₀
  congr 1
  funext l a
  match l, a with
  | 0, (t, s) => rfl
/-- The two printed programs are the same. -/
theorem defs_eq : Cert.InX.defs (F := Bits) = defs (F := Bits) := congrArg (Pipeline.defs (pcfgs (F := Bits))) bodies_eq
end

theorem word_frame : Cert.quiescent_InX (hInX := Cert.InX.Gen.facts) := fun m ρ _ => by rw [defs_eq]; exact frame (F := Bits) ρ m
theorem ideal_frame : Cert.quiescent_InXIdeal (hInXIdeal := Cert.InXIdeal.Gen.facts) := fun m ρ _ => frame ρ m
theorem reference_frame : Cert.quiescent_InXRefIdeal (hInXRefIdeal := Cert.InXRefIdeal.Gen.facts) := fun m ρ _ =>
  (θ_run Cert.InXRefIdeal.defs _ _).mono (fun r h => ⟨fun c => (h c).2, sem_eq_zero_of_no_sems (by decide) _⟩) (Cert.InXRefIdeal.Value.run m ρ)

/-- The kernel ends with the reference's gradient. -/
theorem algebraic : Cert.algebraic_InXIdeal_InXRefIdeal (hInXIdeal := Cert.InXIdeal.Gen.facts) (hInXRefIdeal := Cert.InXRefIdeal.Gen.facts) :=
  fun m ρ m' ρ' _ hargs => ⟨_, run m ρ, (θ_run Cert.InXRefIdeal.defs _ _).mono (fun r h c => by
    obtain ⟨e0, e1⟩ := hargs c
    refine ⟨(h c).1.trans ?_, (h c).2⟩
    funext i
    obtain ⟨r, y, rfl⟩ : ∃ (r : Fin 8448) (y : Fin 1024), i = ix2 r y := ⟨i 0, i 1, by blk_ext⟩
    refine Eq.trans ?_ (result m c r y).symm
    exact (reference _ _ r y).trans (by rw [e0, e1]; rfl)) (Cert.InXRefIdeal.Value.run m' ρ')⟩

end Cert.Products.InX

end
-- ==== Proof.InW.lean ====
module

public import proofs.«01_k».proof.Defs
public import proofs.«01_k».proof.Proof.Sums
public import proofs.«01_k».proof.Proof.Gen.InW
public import proofs.«01_k».proof.Proof.Gen.InWIdeal.Value
public import proofs.«01_k».proof.Proof.Gen.InWIdeal.Frame
public import proofs.«01_k».proof.Proof.Gen.InWRefIdeal.Run
public import Idealize.ShloMosaic.Lib.Pointwise
public import Idealize.ShloMosaic.Lib.Pipeline.ValueKit

@[expose] public section

/-! # The gradient of the input projection's weight

The tiles of the product over the positions add up to the product over all of them. -/

set_option maxRecDepth 16384

noncomputable section

namespace Cert.Products.InW

open Idealize.ShloMosaic Idealize.ShloMosaic.TcCoe Idealize.SL.Sem
open Cert.InWIdeal Cert.InWIdeal.Gen Cert.InWIdeal.Value

variable (m : (ℓ : Loc nD τ sig) → Buf (Elt Ideal) ℓ) (ρ : Dev nD → PrngReg)

/-- The blocks that each point reads and writes. -/
theorem idx : ∀ t : Fin cfg0.N, win0_0.index t = ![t.val % 6, t.val / 6] ∧ win0_1.index t = ![t.val % 6, 0] :=
  (by decide +kernel : ∀ t : Fin grid0.N, _)

/-- The arrays and a point's blocks of them, as functions into the extended reals. -/
def lhs (c : Dev nD) : S8448x5760.Idx → EReal := m ((c : Thread nD τ).loc main_arg0)
def rhs (c : Dev nD) : S8448x1024.Idx → EReal := m ((c : Thread nD τ).loc main_arg1)
def lhsBlk (c : Dev nD) (t : Fin cfg0.N) : S1408x1152.Idx → EReal := iblk m c 0 t
def rhsBlk (c : Dev nD) (t : Fin cfg0.N) : S1408x1024.Idx → EReal := iblk m c 1 t

/-- Term `k` of the product's entry at row `r` and column `y`. -/
def term (c : Dev nD) (r : Fin 5760) (y : Fin 1024) (k : Fin 8448) : EReal := lhs m c (ix2 k r) * rhs m c (ix2 k y)

/-- One tile's product, at an index. -/
theorem pay (acc : Vec Ideal S1152x1024 .f32) (x0 : Vec Ideal S1408x1152 .bf16) (x1 : Vec Ideal S1408x1024 .bf16) (y : S1152x1024.Idx) :
    (k0_pay2 acc x0 x1 y : EReal) = acc y + ∑ k : Fin 1408, (x0 (ix2 k (y 0)) : EReal) * x1 (ix2 k (y 1)) := by
  pointwise [k0_pay2]

/-- One tile's product, in the arrays' entries. -/
theorem tile (c : Dev nD) (t : Fin cfg0.N) (r : Fin 5760) (y : S1152x1024.Idx) (hr : r.val = t.val / 6 * 1152 + (y 0).val) (s : ℕ)
    (hs : t.val % 6 = s) :
    ∑ k : Fin 1408, lhsBlk m c t (ix2 k (y 0)) * rhsBlk m c t (ix2 k (y 1)) =
      ∑ k : Fin 1408, seq (term m c r (y 1)) (s * 1408 + k.val) := by
  refine Finset.sum_congr rfl fun k _ => ?_
  rw [seq_of_lt _ _ (by omega : s * 1408 + k.val < 8448)]
  unfold term lhsBlk rhsBlk lhs rhs
  congr 1 <;> blk_ext [iblk, V, idx t]

/-- What the array ends holding. -/
theorem result (c : Dev nD) (r : Fin 5760) (y : Fin 1024) :
    (G2 m c (ix2 r y) : EReal) = ∑ k : Fin 8448, term m c r y k := by
  have hb : 6 * run2Of (ix2 r y) + 5 < cfg0.N := by show 6 * (1 * (r.val / 1152 - 0) + 1 * (y.val / 1024 - 0)) + 5 < 30; omega
  have hrun : run2Of (ix2 r y) = r.val / 1152 := by show 1 * (r.val / 1152 - 0) + 1 * (y.val / 1024 - 0) = _; omega
  unfold G2
  rw [dif_pos hb]
  have row (y' : S1152x1024.Idx) : r.val / 1152 * 1152 + (y' 0).val < 5760 := by have : (y' 0).val < 1152 := (y' 0).isLt; omega
  have h := fold_sum (N := cfg0.N) (n := 6) (T := 1408) (by omega) (ι := S1152x1024.Idx) (β := EReal) (reset2 m c) (step2 m c) (fun _ => 0)
    (fun y' => seq (term m c ⟨r.val / 1152 * 1152 + (y' 0).val, row y'⟩ (y' 1))) (6 * run2Of (ix2 r y))
    (fun h y' => by
      have := tile m c ⟨_, h⟩ ⟨_, row y'⟩ y' (by show _ = 6 * run2Of (ix2 r y) / 6 * 1152 + (y' 0).val; rw [hrun, Nat.mul_div_cancel_left _ (by omega)]) 0 (by show 6 * run2Of (ix2 r y) % 6 = 0; omega)
      simp only [Nat.zero_mul, Nat.zero_add] at this
      rw [← this]
      exact (pay _ _ _ y').trans (by congr 1; pointwise [k0_pay1]))
    (fun s h acc y' h0 h1 => by
      have := tile m c ⟨_, h⟩ ⟨_, row y'⟩ y' (by show _ = (6 * run2Of (ix2 r y) + s) / 6 * 1152 + (y' 0).val; rw [hrun, Nat.mul_add_div (by omega), Nat.div_eq_of_lt h1, Nat.add_zero]) s (by show (6 * run2Of (ix2 r y) + s) % 6 = s; omega)
      rw [← this]
      exact pay _ _ _ y')
    5 rfl hb (loc2Of (ix2 r y))
  refine h.trans ?_
  rw [zero_add, ← sum_seq (term m c r y)]
  have e : (⟨r.val / 1152 * 1152 + (loc2Of (ix2 r y) 0).val, row _⟩ : Fin 5760) = r :=
    Fin.ext (by show r.val / 1152 * 1152 + r.val % 1152 = r.val; omega)
  have e' : (loc2Of (ix2 r y) 1 : Fin 1024) = y := Fin.ext (by show y.val % 1024 = y.val; omega)
  show ∑ k : Fin 8448, seq (term m c _ (loc2Of (ix2 r y) 1)) k.val = _
  rw [e, e']

/-- The reference's entry is the same sum. -/
theorem reference (a : Vec Ideal S8448x5760 .bf16) (b : Vec Ideal S8448x1024 .bf16) (r : Fin 5760) (y : Fin 1024) :
    ((transpose Cert.InWRefIdeal.S5760x1024 [1, 0] (transpose Cert.InWRefIdeal.S1024x5760 [1, 0] (Host.dotGeneral Cert.InWRefIdeal.dot_S8448x5760_S8448x1024_S5760x1024_0_0_1_1_n_n none (extf .f32 a Cert.InWRefIdeal.Gen.bitsLt_bf16_f32 : FVec Ideal _ _) (extf .f32 b Cert.InWRefIdeal.Gen.bitsLt_bf16_f32 : FVec Ideal _ _)) Cert.InWRefIdeal.Gen.transposes_S5760x1024_S1024x5760_1_0) Cert.InWRefIdeal.Gen.transposes_S1024x5760_S5760x1024_1_0 : FVec Ideal Cert.InWRefIdeal.S5760x1024 .f32) (ix2 r y) : EReal) =
      ∑ k : Fin 8448, (a (ix2 k r) : EReal) * b (ix2 k y) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.InWIdeal.Gen.frame m ρ

section
attribute [local instance] Cert.InW.Gen.facts Cert.InWIdeal.Gen.facts
theorem bodies_eq : Cert.InW.defs₀ (F := Bits) = defs₀ (F := Bits) := by
  unfold Cert.InW.defs₀ Cert.InWIdeal.defs₀
  congr 1
  funext l a
  match l, a with
  | 0, (t, s) => rfl
/-- The two printed programs are the same. -/
theorem defs_eq : Cert.InW.defs (F := Bits) = defs (F := Bits) := congrArg (Pipeline.defs (pcfgs (F := Bits))) bodies_eq
end

theorem word_frame : Cert.quiescent_InW (hInW := Cert.InW.Gen.facts) := fun m ρ _ => by rw [defs_eq]; exact frame (F := Bits) ρ m
theorem ideal_frame : Cert.quiescent_InWIdeal (hInWIdeal := Cert.InWIdeal.Gen.facts) := fun m ρ _ => frame ρ m
theorem reference_frame : Cert.quiescent_InWRefIdeal (hInWRefIdeal := Cert.InWRefIdeal.Gen.facts) := fun m ρ _ =>
  (θ_run Cert.InWRefIdeal.defs _ _).mono (fun r h => ⟨fun c => (h c).2, sem_eq_zero_of_no_sems (by decide) _⟩) (Cert.InWRefIdeal.Value.run m ρ)

/-- The kernel ends with the reference's gradient. -/
theorem algebraic : Cert.algebraic_InWIdeal_InWRefIdeal (hInWIdeal := Cert.InWIdeal.Gen.facts) (hInWRefIdeal := Cert.InWRefIdeal.Gen.facts) :=
  fun m ρ m' ρ' _ hargs => ⟨_, run m ρ, (θ_run Cert.InWRefIdeal.defs _ _).mono (fun r h c => by
    obtain ⟨e0, e1⟩ := hargs c
    refine ⟨(h c).1.trans ?_, (h c).2⟩
    funext i
    obtain ⟨r, y, rfl⟩ : ∃ (r : Fin 5760) (y : Fin 1024), i = ix2 r y := ⟨i 0, i 1, by blk_ext⟩
    refine Eq.trans ?_ (result m c r y).symm
    exact (reference _ _ r y).trans (by rw [e0, e1]; rfl)) (Cert.InWRefIdeal.Value.run m' ρ')⟩

end Cert.Products.InW

end
-- ==== Proof.DownW.lean ====
module

public import proofs.«01_k».proof.Defs
public import proofs.«01_k».proof.Proof.Sums
public import proofs.«01_k».proof.Proof.Gen.DownW
public import proofs.«01_k».proof.Proof.Gen.DownWIdeal.Value
public import proofs.«01_k».proof.Proof.Gen.DownWIdeal.Frame
public import proofs.«01_k».proof.Proof.Gen.DownWRefIdeal.Run
public import Idealize.ShloMosaic.Lib.Pointwise
public import Idealize.ShloMosaic.Lib.Pipeline.ValueKit

@[expose] public section

/-! # The gradient of the down projection's weight

The tiles of the product over the positions add up to the product over all of them. -/

set_option maxRecDepth 16384

noncomputable section

namespace Cert.Products.DownW

open Idealize.ShloMosaic Idealize.ShloMosaic.TcCoe Idealize.SL.Sem
open Cert.DownWIdeal Cert.DownWIdeal.Gen Cert.DownWIdeal.Value

variable (m : (ℓ : Loc nD τ sig) → Buf (Elt Ideal) ℓ) (ρ : Dev nD → PrngReg)

/-- The blocks that each point reads and writes. -/
theorem idx : ∀ t : Fin cfg0.N, win0_0.index t = ![t.val % 6, t.val / 6] ∧ win0_1.index t = ![t.val % 6, 0] :=
  (by decide +kernel : ∀ t : Fin grid0.N, _)

/-- The arrays and a point's blocks of them, as functions into the extended reals. -/
def lhs (c : Dev nD) : S8448x2816.Idx → EReal := m ((c : Thread nD τ).loc main_arg0)
def rhs (c : Dev nD) : S8448x1024.Idx → EReal := m ((c : Thread nD τ).loc main_arg1)
def lhsBlk (c : Dev nD) (t : Fin cfg0.N) : S1408x1408.Idx → EReal := iblk m c 0 t
def rhsBlk (c : Dev nD) (t : Fin cfg0.N) : S1408x1024.Idx → EReal := iblk m c 1 t

/-- Term `k` of the product's entry at row `r` and column `y`. -/
def term (c : Dev nD) (r : Fin 2816) (y : Fin 1024) (k : Fin 8448) : EReal := lhs m c (ix2 k r) * rhs m c (ix2 k y)

/-- One tile's product, at an index. -/
theorem pay (acc : Vec Ideal S1408x1024 .f32) (x0 : Vec Ideal S1408x1408 .bf16) (x1 : Vec Ideal S1408x1024 .f32) (y : S1408x1024.Idx) :
    (k0_pay2 acc x0 x1 y : EReal) = acc y + ∑ k : Fin 1408, (x0 (ix2 k (y 0)) : EReal) * x1 (ix2 k (y 1)) := by
  pointwise [k0_pay2]

/-- One tile's product, in the arrays' entries. -/
theorem tile (c : Dev nD) (t : Fin cfg0.N) (r : Fin 2816) (y : S1408x1024.Idx) (hr : r.val = t.val / 6 * 1408 + (y 0).val) (s : ℕ)
    (hs : t.val % 6 = s) :
    ∑ k : Fin 1408, lhsBlk m c t (ix2 k (y 0)) * rhsBlk m c t (ix2 k (y 1)) =
      ∑ k : Fin 1408, seq (term m c r (y 1)) (s * 1408 + k.val) := by
  refine Finset.sum_congr rfl fun k _ => ?_
  rw [seq_of_lt _ _ (by omega : s * 1408 + k.val < 8448)]
  unfold term lhsBlk rhsBlk lhs rhs
  congr 1 <;> blk_ext [iblk, V, idx t]

/-- What the array ends holding. -/
theorem result (c : Dev nD) (r : Fin 2816) (y : Fin 1024) :
    (G2 m c (ix2 r y) : EReal) = ∑ k : Fin 8448, term m c r y k := by
  have hb : 6 * run2Of (ix2 r y) + 5 < cfg0.N := by show 6 * (1 * (r.val / 1408 - 0) + 1 * (y.val / 1024 - 0)) + 5 < 12; omega
  have hrun : run2Of (ix2 r y) = r.val / 1408 := by show 1 * (r.val / 1408 - 0) + 1 * (y.val / 1024 - 0) = _; omega
  unfold G2
  rw [dif_pos hb]
  have row (y' : S1408x1024.Idx) : r.val / 1408 * 1408 + (y' 0).val < 2816 := by have : (y' 0).val < 1408 := (y' 0).isLt; omega
  have h := fold_sum (N := cfg0.N) (n := 6) (T := 1408) (by omega) (ι := S1408x1024.Idx) (β := EReal) (reset2 m c) (step2 m c) (fun _ => 0)
    (fun y' => seq (term m c ⟨r.val / 1408 * 1408 + (y' 0).val, row y'⟩ (y' 1))) (6 * run2Of (ix2 r y))
    (fun h y' => by
      have := tile m c ⟨_, h⟩ ⟨_, row y'⟩ y' (by show _ = 6 * run2Of (ix2 r y) / 6 * 1408 + (y' 0).val; rw [hrun, Nat.mul_div_cancel_left _ (by omega)]) 0 (by show 6 * run2Of (ix2 r y) % 6 = 0; omega)
      simp only [Nat.zero_mul, Nat.zero_add] at this
      rw [← this]
      exact (pay _ _ _ y').trans (by congr 1; pointwise [k0_pay1]))
    (fun s h acc y' h0 h1 => by
      have := tile m c ⟨_, h⟩ ⟨_, row y'⟩ y' (by show _ = (6 * run2Of (ix2 r y) + s) / 6 * 1408 + (y' 0).val; rw [hrun, Nat.mul_add_div (by omega), Nat.div_eq_of_lt h1, Nat.add_zero]) s (by show (6 * run2Of (ix2 r y) + s) % 6 = s; omega)
      rw [← this]
      exact pay _ _ _ y')
    5 rfl hb (loc2Of (ix2 r y))
  refine h.trans ?_
  rw [zero_add, ← sum_seq (term m c r y)]
  have e : (⟨r.val / 1408 * 1408 + (loc2Of (ix2 r y) 0).val, row _⟩ : Fin 2816) = r :=
    Fin.ext (by show r.val / 1408 * 1408 + r.val % 1408 = r.val; omega)
  have e' : (loc2Of (ix2 r y) 1 : Fin 1024) = y := Fin.ext (by show y.val % 1024 = y.val; omega)
  show ∑ k : Fin 8448, seq (term m c _ (loc2Of (ix2 r y) 1)) k.val = _
  rw [e, e']

/-- The reference's entry is the same sum. -/
theorem reference (a : Vec Ideal S8448x2816 .bf16) (b : Vec Ideal S8448x1024 .f32) (r : Fin 2816) (y : Fin 1024) :
    ((transpose Cert.DownWRefIdeal.S2816x1024 [1, 0] (Host.dotGeneral Cert.DownWRefIdeal.dot_S8448x1024_S8448x2816_S1024x2816_0_0_1_1_n_n none (φ₁ := .f32) b (extf .f32 a Cert.DownWRefIdeal.Gen.bitsLt_bf16_f32 : FVec Ideal _ _)) Cert.DownWRefIdeal.Gen.transposes_S1024x2816_S2816x1024_1_0 : FVec Ideal Cert.DownWRefIdeal.S2816x1024 .f32) (ix2 r y) : EReal) =
      ∑ k : Fin 8448, (a (ix2 k r) : EReal) * b (ix2 k y) := by
  pointwise
  exact Finset.sum_congr rfl fun k _ => mul_comm _ _

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.DownWIdeal.Gen.frame m ρ

section
attribute [local instance] Cert.DownW.Gen.facts Cert.DownWIdeal.Gen.facts
theorem bodies_eq : Cert.DownW.defs₀ (F := Bits) = defs₀ (F := Bits) := by
  unfold Cert.DownW.defs₀ Cert.DownWIdeal.defs₀
  congr 1
  funext l a
  match l, a with
  | 0, (t, s) => rfl
/-- The two printed programs are the same. -/
theorem defs_eq : Cert.DownW.defs (F := Bits) = defs (F := Bits) := congrArg (Pipeline.defs (pcfgs (F := Bits))) bodies_eq
end

theorem word_frame : Cert.quiescent_DownW (hDownW := Cert.DownW.Gen.facts) := fun m ρ _ => by rw [defs_eq]; exact frame (F := Bits) ρ m
theorem ideal_frame : Cert.quiescent_DownWIdeal (hDownWIdeal := Cert.DownWIdeal.Gen.facts) := fun m ρ _ => frame ρ m
theorem reference_frame : Cert.quiescent_DownWRefIdeal (hDownWRefIdeal := Cert.DownWRefIdeal.Gen.facts) := fun m ρ _ =>
  (θ_run Cert.DownWRefIdeal.defs _ _).mono (fun r h => ⟨fun c => (h c).2, sem_eq_zero_of_no_sems (by decide) _⟩) (Cert.DownWRefIdeal.Value.run m ρ)

/-- The kernel ends with the reference's gradient. -/
theorem algebraic : Cert.algebraic_DownWIdeal_DownWRefIdeal (hDownWIdeal := Cert.DownWIdeal.Gen.facts) (hDownWRefIdeal := Cert.DownWRefIdeal.Gen.facts) :=
  fun m ρ m' ρ' _ hargs => ⟨_, run m ρ, (θ_run Cert.DownWRefIdeal.defs _ _).mono (fun r h c => by
    obtain ⟨e0, e1⟩ := hargs c
    refine ⟨(h c).1.trans ?_, (h c).2⟩
    funext i
    obtain ⟨r, y, rfl⟩ : ∃ (r : Fin 2816) (y : Fin 1024), i = ix2 r y := ⟨i 0, i 1, by blk_ext⟩
    refine Eq.trans ?_ (result m c r y).symm
    exact (reference _ _ r y).trans (by rw [e0, e1]; rfl)) (Cert.DownWRefIdeal.Value.run m' ρ')⟩

end Cert.Products.DownW

end
-- ==== Proof.DownX.lean ====
module

public import proofs.«01_k».proof.Defs
public import proofs.«01_k».proof.Proof.Sums
public import proofs.«01_k».proof.Proof.Gen.DownX
public import proofs.«01_k».proof.Proof.Gen.DownXIdeal.Value
public import proofs.«01_k».proof.Proof.Gen.DownXIdeal.Frame
public import proofs.«01_k».proof.Proof.Gen.DownXRefIdeal.Run
public import Idealize.ShloMosaic.Lib.Pointwise
public import Idealize.ShloMosaic.Lib.Pipeline.ValueKit

@[expose] public section

/-! # The gradient of the down projection's input

Each point computes one block of the product; the blocks cover it. -/

set_option maxRecDepth 16384

noncomputable section

namespace Cert.Products.DownX

open Idealize.ShloMosaic Idealize.ShloMosaic.TcCoe Idealize.SL.Sem
open Cert.DownXIdeal Cert.DownXIdeal.Gen Cert.DownXIdeal.Value

variable (m : (ℓ : Loc nD τ sig) → Buf (Elt Ideal) ℓ) (ρ : Dev nD → PrngReg)

/-- The blocks that each point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arrays, as functions into the extended reals. -/
def lhs (c : Dev nD) : S8448x1024.Idx → EReal := m ((c : Thread nD τ).loc main_arg0)
def rhs (c : Dev nD) : S2816x1024.Idx → EReal := m ((c : Thread nD τ).loc main_arg1)

/-- The product's entries. -/
def entries (c : Dev nD) (i : S8448x2816.Idx) : EReal := ∑ k : Fin 1024, lhs m c (ix2 (i 0) k) * rhs m c (ix2 (i 1) k)

/-- One point's product, at an index. -/
theorem pay (x0 : Vec Ideal S1408x1024 .f32) (x1 : Vec Ideal S1408x1024 .bf16) (y : S1408x1408.Idx) :
    (k0_pay1 x0 x1 y : EReal) = ∑ k : Fin 1024, (x0 (ix2 (y 0) k) : EReal) * x1 (ix2 (y 1) k) := by
  pointwise [k0_pay1]

/-- What a point stores, whole. -/
theorem stored (x0 : Vec Ideal S1408x1024 .f32) (x1 : Vec Ideal S1408x1024 .bf16) : out0_2 (F := Ideal) x0 x1 = k0_pay1 x0 x1 := by
  unfold out0_2
  rw [View.canon_cons_unit_lit _ _ _ (by decide), View.ld_unit_lit _ _ (by decide), View.ld_unit_lit _ _ (by decide)]

/-- What a point writes back is its block of the product. -/
theorem flushed (c : Dev nD) (t : Fin cfg0.N) :
    (dats m 0 c).flushed 2 t = ((cfg0.win 2).blk t).view.read (Elt Ideal) (entries m c) := by
  rw [Value.flushed2, stored]
  funext y
  refine (pay _ _ ((cfg0.win 2).xinj (grid0.coords t) y)).trans ?_
  show _ = entries m c (((cfg0.win 2).blk t).view.emb y)
  refine Finset.sum_congr rfl fun k _ => ?_
  unfold lhs rhs
  congr 1 <;> blk_ext [iblk, V, idx t]

/-- The points' blocks cover the array. -/
theorem covered (i : S8448x2816.Idx) : ∃ t : Fin cfg0.N, (cfg0.win 2).flush t = true ∧ i ∈ ((cfg0.win 2).blk t).view.set := by
  have h0 : (i 0).val < 8448 := (i 0).isLt
  have h1 : (i 1).val < 2816 := (i 1).isLt
  have hN : (i 0).val / 1408 * 2 + (i 1).val / 1408 < cfg0.N := by show _ < 12; omega
  refine ⟨⟨_, hN⟩, flush0_2 _, ?_⟩
  show i ∈ ((View.whole main_v0).slice (win0_2.rect ⟨_, hN⟩)).set
  rw [View.set_slice_whole, Rect.mem_set_unit]
  have e := (idx ⟨_, hN⟩).2.2
  intro a
  match a with
  | ⟨0, _⟩ =>
    show win0_2.index _ (0 : Fin 2) * 1408 ≤ (i 0).val ∧ (i 0).val < win0_2.index _ (0 : Fin 2) * 1408 + 1408
    have e0 : win0_2.index ⟨_, hN⟩ (0 : Fin 2) = ((i 0).val / 1408 * 2 + (i 1).val / 1408) / 2 := congrFun e 0
    rw [e0]; omega
  | ⟨1, _⟩ =>
    show win0_2.index _ (1 : Fin 2) * 1408 ≤ (i 1).val ∧ (i 1).val < win0_2.index _ (1 : Fin 2) * 1408 + 1408
    have e1 : win0_2.index ⟨_, hN⟩ (1 : Fin 2) = ((i 0).val / 1408 * 2 + (i 1).val / 1408) % 2 := congrFun e 1
    rw [e1]; omega

/-- What the array ends holding. -/
theorem result (c : Dev nD) : (dats m 0 c).arrAt 2 cfg0.N = entries m c :=
  (dats m 0 c).arrAt_eq_of_cover 2 _ (fun t _ => flushed m c t) (covered)

/-- The reference's entry is the same sum. -/
theorem reference (a : Vec Ideal S8448x1024 .f32) (b : Vec Ideal S2816x1024 .bf16) (r : Fin 8448) (y : Fin 2816) :
    ((truncf .bf16 (Host.dotGeneral Cert.DownXRefIdeal.dot_S8448x1024_S2816x1024_S8448x2816_1_1_0_0_n_n none (φ₁ := .f32) a (extf .f32 b Cert.DownXRefIdeal.Gen.bitsLt_bf16_f32 : FVec Ideal _ _) : FVec Ideal _ _) Cert.DownXRefIdeal.Gen.bitsLt_bf16_f32 : FVec Ideal Cert.DownXRefIdeal.S8448x2816 .bf16) (ix2 r y) : EReal) =
      ∑ k : Fin 1024, (a (ix2 r k) : EReal) * b (ix2 y k) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.DownXIdeal.Gen.frame m ρ

section
attribute [local instance] Cert.DownX.Gen.facts Cert.DownXIdeal.Gen.facts
theorem bodies_eq : Cert.DownX.defs₀ (F := Bits) = defs₀ (F := Bits) := by
  unfold Cert.DownX.defs₀ Cert.DownXIdeal.defs₀
  congr 1
  funext l a
  match l, a with
  | 0, (t, s) => rfl
/-- The two printed programs are the same. -/
theorem defs_eq : Cert.DownX.defs (F := Bits) = defs (F := Bits) := congrArg (Pipeline.defs (pcfgs (F := Bits))) bodies_eq
end

theorem word_frame : Cert.quiescent_DownX (hDownX := Cert.DownX.Gen.facts) := fun m ρ _ => by rw [defs_eq]; exact frame (F := Bits) ρ m
theorem ideal_frame : Cert.quiescent_DownXIdeal (hDownXIdeal := Cert.DownXIdeal.Gen.facts) := fun m ρ _ => frame ρ m
theorem reference_frame : Cert.quiescent_DownXRefIdeal (hDownXRefIdeal := Cert.DownXRefIdeal.Gen.facts) := fun m ρ _ =>
  (θ_run Cert.DownXRefIdeal.defs _ _).mono (fun r h => ⟨fun c => (h c).2, sem_eq_zero_of_no_sems (by decide) _⟩) (Cert.DownXRefIdeal.Value.run m ρ)

/-- The kernel ends with the reference's gradient. -/
theorem algebraic : Cert.algebraic_DownXIdeal_DownXRefIdeal (hDownXIdeal := Cert.DownXIdeal.Gen.facts) (hDownXRefIdeal := Cert.DownXRefIdeal.Gen.facts) :=
  fun m ρ m' ρ' _ hargs => ⟨_, run_blocks m ρ, (θ_run Cert.DownXRefIdeal.defs _ _).mono (fun r h c => by
    obtain ⟨e0, e1⟩ := hargs c
    refine ⟨(h c).1.trans ?_, (h c).2⟩
    funext i
    obtain ⟨r, y, rfl⟩ : ∃ (r : Fin 8448) (y : Fin 2816), i = ix2 r y := ⟨i 0, i 1, by blk_ext⟩
    refine Eq.trans ?_ (congrFun (result m c) (ix2 r y)).symm
    exact (reference _ _ r y).trans (by rw [e0, e1]; rfl)) (Cert.DownXRefIdeal.Value.run m' ρ')⟩

end Cert.Products.DownX

end
-- ==== Proof.InY.lean ====
module

public import proofs.«01_k».proof.Defs
public import proofs.«01_k».proof.Proof.Sums
public import proofs.«01_k».proof.Proof.Gen.InY
public import proofs.«01_k».proof.Proof.Gen.InYIdeal.Value
public import proofs.«01_k».proof.Proof.Gen.InYIdeal.Frame
public import proofs.«01_k».proof.Proof.Gen.InYRefIdeal.Run
public import Idealize.ShloMosaic.Lib.Pointwise
public import Idealize.ShloMosaic.Lib.Pipeline.ValueKit

@[expose] public section

/-! # The input projection

Each point computes one block of the product; the blocks cover it. -/

set_option maxRecDepth 16384

noncomputable section

namespace Cert.Products.InY

open Idealize.ShloMosaic Idealize.ShloMosaic.TcCoe Idealize.SL.Sem
open Cert.InYIdeal Cert.InYIdeal.Gen Cert.InYIdeal.Value

variable (m : (ℓ : Loc nD τ sig) → Buf (Elt Ideal) ℓ) (ρ : Dev nD → PrngReg)

/-- The blocks that each point reads and writes. -/
theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

/-- The arrays, as functions into the extended reals. -/
def lhs (c : Dev nD) : S8448x1024.Idx → EReal := m ((c : Thread nD τ).loc main_arg0)
def rhs (c : Dev nD) : S5760x1024.Idx → EReal := m ((c : Thread nD τ).loc main_arg1)

/-- The product's entries. -/
def entries (c : Dev nD) (i : S8448x5760.Idx) : EReal := ∑ k : Fin 1024, lhs m c (ix2 (i 0) k) * rhs m c (ix2 (i 1) k)

/-- One point's product, at an index. -/
theorem pay (x0 : Vec Ideal S1408x1024 .bf16) (x1 : Vec Ideal S1152x1024 .bf16) (y : S1408x1152.Idx) :
    (k0_pay1 x0 x1 y : EReal) = ∑ k : Fin 1024, (x0 (ix2 (y 0) k) : EReal) * x1 (ix2 (y 1) k) := by
  pointwise [k0_pay1]

/-- What a point stores, whole. -/
theorem stored (x0 : Vec Ideal S1408x1024 .bf16) (x1 : Vec Ideal S1152x1024 .bf16) : out0_2 (F := Ideal) x0 x1 = k0_pay1 x0 x1 := by
  unfold out0_2
  rw [View.canon_cons_unit_lit _ _ _ (by decide), View.ld_unit_lit _ _ (by decide), View.ld_unit_lit _ _ (by decide)]

/-- What a point writes back is its block of the product. -/
theorem flushed (c : Dev nD) (t : Fin cfg0.N) :
    (dats m 0 c).flushed 2 t = ((cfg0.win 2).blk t).view.read (Elt Ideal) (entries m c) := by
  rw [Value.flushed2, stored]
  funext y
  refine (pay _ _ ((cfg0.win 2).xinj (grid0.coords t) y)).trans ?_
  show _ = entries m c (((cfg0.win 2).blk t).view.emb y)
  refine Finset.sum_congr rfl fun k _ => ?_
  unfold lhs rhs
  congr 1 <;> blk_ext [iblk, V, idx t]

/-- The points' blocks cover the array. -/
theorem covered (i : S8448x5760.Idx) : ∃ t : Fin cfg0.N, (cfg0.win 2).flush t = true ∧ i ∈ ((cfg0.win 2).blk t).view.set := by
  have h0 : (i 0).val < 8448 := (i 0).isLt
  have h1 : (i 1).val < 5760 := (i 1).isLt
  have hN : (i 0).val / 1408 * 5 + (i 1).val / 1152 < cfg0.N := by show _ < 30; omega
  refine ⟨⟨_, hN⟩, flush0_2 _, ?_⟩
  show i ∈ ((View.whole main_v0).slice (win0_2.rect ⟨_, hN⟩)).set
  rw [View.set_slice_whole, Rect.mem_set_unit]
  have e := (idx ⟨_, hN⟩).2.2
  intro a
  match a with
  | ⟨0, _⟩ =>
    show win0_2.index _ (0 : Fin 2) * 1408 ≤ (i 0).val ∧ (i 0).val < win0_2.index _ (0 : Fin 2) * 1408 + 1408
    have e0 : win0_2.index ⟨_, hN⟩ (0 : Fin 2) = ((i 0).val / 1408 * 5 + (i 1).val / 1152) / 5 := congrFun e 0
    rw [e0]; omega
  | ⟨1, _⟩ =>
    show win0_2.index _ (1 : Fin 2) * 1152 ≤ (i 1).val ∧ (i 1).val < win0_2.index _ (1 : Fin 2) * 1152 + 1152
    have e1 : win0_2.index ⟨_, hN⟩ (1 : Fin 2) = ((i 0).val / 1408 * 5 + (i 1).val / 1152) % 5 := congrFun e 1
    rw [e1]; omega

/-- What the array ends holding. -/
theorem result (c : Dev nD) : (dats m 0 c).arrAt 2 cfg0.N = entries m c :=
  (dats m 0 c).arrAt_eq_of_cover 2 _ (fun t _ => flushed m c t) (covered)

/-- The reference's entry is the same sum. -/
theorem reference (a : Vec Ideal S8448x1024 .bf16) (b : Vec Ideal S5760x1024 .bf16) (r : Fin 8448) (y : Fin 5760) :
    ((Host.dotGeneral Cert.InYRefIdeal.dot_S8448x1024_S1024x5760_S8448x5760_1_0_0_1_n_n none (extf .f32 a Cert.InYRefIdeal.Gen.bitsLt_bf16_f32 : FVec Ideal _ _) (extf .f32 (transpose Cert.InYRefIdeal.S1024x5760 [1, 0] b Cert.InYRefIdeal.Gen.transposes_S5760x1024_S1024x5760_1_0) Cert.InYRefIdeal.Gen.bitsLt_bf16_f32 : FVec Ideal _ _) : FVec Ideal Cert.InYRefIdeal.S8448x5760 .f32) (ix2 r y) : EReal) =
      ∑ k : Fin 1024, (a (ix2 r k) : EReal) * b (ix2 y k) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.InYIdeal.Gen.frame m ρ

section
attribute [local instance] Cert.InY.Gen.facts Cert.InYIdeal.Gen.facts
theorem bodies_eq : Cert.InY.defs₀ (F := Bits) = defs₀ (F := Bits) := by
  unfold Cert.InY.defs₀ Cert.InYIdeal.defs₀
  congr 1
  funext l a
  match l, a with
  | 0, (t, s) => rfl
/-- The two printed programs are the same. -/
theorem defs_eq : Cert.InY.defs (F := Bits) = defs (F := Bits) := congrArg (Pipeline.defs (pcfgs (F := Bits))) bodies_eq
end

theorem word_frame : Cert.quiescent_InY (hInY := Cert.InY.Gen.facts) := fun m ρ _ => by rw [defs_eq]; exact frame (F := Bits) ρ m
theorem ideal_frame : Cert.quiescent_InYIdeal (hInYIdeal := Cert.InYIdeal.Gen.facts) := fun m ρ _ => frame ρ m
theorem reference_frame : Cert.quiescent_InYRefIdeal (hInYRefIdeal := Cert.InYRefIdeal.Gen.facts) := fun m ρ _ =>
  (θ_run Cert.InYRefIdeal.defs _ _).mono (fun r h => ⟨fun c => (h c).2, sem_eq_zero_of_no_sems (by decide) _⟩) (Cert.InYRefIdeal.Value.run m ρ)

/-- The kernel ends with the reference's gradient. -/
theorem algebraic : Cert.algebraic_InYIdeal_InYRefIdeal (hInYIdeal := Cert.InYIdeal.Gen.facts) (hInYRefIdeal := Cert.InYRefIdeal.Gen.facts) :=
  fun m ρ m' ρ' _ hargs => ⟨_, run_blocks m ρ, (θ_run Cert.InYRefIdeal.defs _ _).mono (fun r h c => by
    obtain ⟨e0, e1⟩ := hargs c
    refine ⟨(h c).1.trans ?_, (h c).2⟩
    funext i
    obtain ⟨r, y, rfl⟩ : ∃ (r : Fin 8448) (y : Fin 5760), i = ix2 r y := ⟨i 0, i 1, by blk_ext⟩
    refine Eq.trans ?_ (congrFun (result m c) (ix2 r y)).symm
    exact (reference _ _ r y).trans (by rw [e0, e1]; rfl)) (Cert.InYRefIdeal.Value.run m' ρ')⟩

end Cert.Products.InY

end
-- ==== Proof.UpY.lean ====
module

public import proofs.«01_k».proof.Defs
public import proofs.«01_k».proof.Proof.Sums
public import proofs.«01_k».proof.Proof.Gen.UpY
public import proofs.«01_k».proof.Proof.Gen.UpYIdeal.Value
public import proofs.«01_k».proof.Proof.Gen.UpYIdeal.Frame
public import proofs.«01_k».proof.Proof.Gen.UpYRefIdeal.Run
public import Idealize.ShloMosaic.Lib.Pointwise
public import Idealize.ShloMosaic.Lib.Pipeline.ValueKit

@[expose] public section

/-! # The up projection

Each point computes one block of the product; the blocks cover it. -/

set_option maxRecDepth 16384

noncomputable section

namespace Cert.Products.UpY

open Idealize.ShloMosaic Idealize.ShloMosaic.TcCoe Idealize.SL.Sem
open Cert.UpYIdeal Cert.UpYIdeal.Gen Cert.UpYIdeal.Value

variable (m : (ℓ : Loc nD τ sig) → Buf (Elt Ideal) ℓ) (ρ : Dev nD → PrngReg)

/-- The blocks that each point reads and writes. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The arrays, as functions into the extended reals. -/
def lhs (c : Dev nD) : S8448x1024.Idx → EReal := m ((c : Thread nD τ).loc main_arg0)
def rhs (c : Dev nD) : S5632x1024.Idx → EReal := m ((c : Thread nD τ).loc main_arg1)

/-- The product's entries. -/
def entries (c : Dev nD) (i : S8448x5632.Idx) : EReal := ∑ k : Fin 1024, lhs m c (ix2 (i 0) k) * rhs m c (ix2 (i 1) k)

/-- One point's product, at an index. -/
theorem pay (x0 : Vec Ideal S1408x1024 .bf16) (x1 : Vec Ideal S1408x1024 .bf16) (y : S1408x1408.Idx) :
    (k0_pay1 x0 x1 y : EReal) = ∑ k : Fin 1024, (x0 (ix2 (y 0) k) : EReal) * x1 (ix2 (y 1) k) := by
  pointwise [k0_pay1]

/-- What a point stores, whole. -/
theorem stored (x0 : Vec Ideal S1408x1024 .bf16) (x1 : Vec Ideal S1408x1024 .bf16) : out0_2 (F := Ideal) x0 x1 = k0_pay1 x0 x1 := by
  unfold out0_2
  rw [View.canon_cons_unit_lit _ _ _ (by decide), View.ld_unit_lit _ _ (by decide), View.ld_unit_lit _ _ (by decide)]

/-- What a point writes back is its block of the product. -/
theorem flushed (c : Dev nD) (t : Fin cfg0.N) :
    (dats m 0 c).flushed 2 t = ((cfg0.win 2).blk t).view.read (Elt Ideal) (entries m c) := by
  rw [Value.flushed2, stored]
  funext y
  refine (pay _ _ ((cfg0.win 2).xinj (grid0.coords t) y)).trans ?_
  show _ = entries m c (((cfg0.win 2).blk t).view.emb y)
  refine Finset.sum_congr rfl fun k _ => ?_
  unfold lhs rhs
  congr 1 <;> blk_ext [iblk, V, idx t]

/-- The points' blocks cover the array. -/
theorem covered (i : S8448x5632.Idx) : ∃ t : Fin cfg0.N, (cfg0.win 2).flush t = true ∧ i ∈ ((cfg0.win 2).blk t).view.set := by
  have h0 : (i 0).val < 8448 := (i 0).isLt
  have h1 : (i 1).val < 5632 := (i 1).isLt
  have hN : (i 0).val / 1408 * 4 + (i 1).val / 1408 < cfg0.N := by show _ < 24; omega
  refine ⟨⟨_, hN⟩, flush0_2 _, ?_⟩
  show i ∈ ((View.whole main_v0).slice (win0_2.rect ⟨_, hN⟩)).set
  rw [View.set_slice_whole, Rect.mem_set_unit]
  have e := (idx ⟨_, hN⟩).2.2
  intro a
  match a with
  | ⟨0, _⟩ =>
    show win0_2.index _ (0 : Fin 2) * 1408 ≤ (i 0).val ∧ (i 0).val < win0_2.index _ (0 : Fin 2) * 1408 + 1408
    have e0 : win0_2.index ⟨_, hN⟩ (0 : Fin 2) = ((i 0).val / 1408 * 4 + (i 1).val / 1408) / 4 := congrFun e 0
    rw [e0]; omega
  | ⟨1, _⟩ =>
    show win0_2.index _ (1 : Fin 2) * 1408 ≤ (i 1).val ∧ (i 1).val < win0_2.index _ (1 : Fin 2) * 1408 + 1408
    have e1 : win0_2.index ⟨_, hN⟩ (1 : Fin 2) = ((i 0).val / 1408 * 4 + (i 1).val / 1408) % 4 := congrFun e 1
    rw [e1]; omega

/-- What the array ends holding. -/
theorem result (c : Dev nD) : (dats m 0 c).arrAt 2 cfg0.N = entries m c :=
  (dats m 0 c).arrAt_eq_of_cover 2 _ (fun t _ => flushed m c t) (covered)

/-- The reference's entry is the same sum. -/
theorem reference (a : Vec Ideal S8448x1024 .bf16) (b : Vec Ideal S5632x1024 .bf16) (r : Fin 8448) (y : Fin 5632) :
    ((truncf .bf16 (Host.dotGeneral Cert.UpYRefIdeal.dot_S8448x1024_S1024x5632_S8448x5632_1_0_0_1_n_n none (extf .f32 a Cert.UpYRefIdeal.Gen.bitsLt_bf16_f32 : FVec Ideal _ _) (extf .f32 (transpose Cert.UpYRefIdeal.S1024x5632 [1, 0] b Cert.UpYRefIdeal.Gen.transposes_S5632x1024_S1024x5632_1_0) Cert.UpYRefIdeal.Gen.bitsLt_bf16_f32 : FVec Ideal _ _) : FVec Ideal _ _) Cert.UpYRefIdeal.Gen.bitsLt_bf16_f32 : FVec Ideal Cert.UpYRefIdeal.S8448x5632 .bf16) (ix2 r y) : EReal) =
      ∑ k : Fin 1024, (a (ix2 r k) : EReal) * b (ix2 y k) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.UpYIdeal.Gen.frame m ρ

section
attribute [local instance] Cert.UpY.Gen.facts Cert.UpYIdeal.Gen.facts
theorem bodies_eq : Cert.UpY.defs₀ (F := Bits) = defs₀ (F := Bits) := by
  unfold Cert.UpY.defs₀ Cert.UpYIdeal.defs₀
  congr 1
  funext l a
  match l, a with
  | 0, (t, s) => rfl
/-- The two printed programs are the same. -/
theorem defs_eq : Cert.UpY.defs (F := Bits) = defs (F := Bits) := congrArg (Pipeline.defs (pcfgs (F := Bits))) bodies_eq
end

theorem word_frame : Cert.quiescent_UpY (hUpY := Cert.UpY.Gen.facts) := fun m ρ _ => by rw [defs_eq]; exact frame (F := Bits) ρ m
theorem ideal_frame : Cert.quiescent_UpYIdeal (hUpYIdeal := Cert.UpYIdeal.Gen.facts) := fun m ρ _ => frame ρ m
theorem reference_frame : Cert.quiescent_UpYRefIdeal (hUpYRefIdeal := Cert.UpYRefIdeal.Gen.facts) := fun m ρ _ =>
  (θ_run Cert.UpYRefIdeal.defs _ _).mono (fun r h => ⟨fun c => (h c).2, sem_eq_zero_of_no_sems (by decide) _⟩) (Cert.UpYRefIdeal.Value.run m ρ)

/-- The kernel ends with the reference's gradient. -/
theorem algebraic : Cert.algebraic_UpYIdeal_UpYRefIdeal (hUpYIdeal := Cert.UpYIdeal.Gen.facts) (hUpYRefIdeal := Cert.UpYRefIdeal.Gen.facts) :=
  fun m ρ m' ρ' _ hargs => ⟨_, run_blocks m ρ, (θ_run Cert.UpYRefIdeal.defs _ _).mono (fun r h c => by
    obtain ⟨e0, e1⟩ := hargs c
    refine ⟨(h c).1.trans ?_, (h c).2⟩
    funext i
    obtain ⟨r, y, rfl⟩ : ∃ (r : Fin 8448) (y : Fin 5632), i = ix2 r y := ⟨i 0, i 1, by blk_ext⟩
    refine Eq.trans ?_ (congrFun (result m c) (ix2 r y)).symm
    exact (reference _ _ r y).trans (by rw [e0, e1]; rfl)) (Cert.UpYRefIdeal.Value.run m' ρ')⟩

end Cert.Products.UpY

end
-- ==== Proof.DownY.lean ====
module

public import proofs.«01_k».proof.Defs
public import proofs.«01_k».proof.Proof.Sums
public import proofs.«01_k».proof.Proof.Gen.DownY
public import proofs.«01_k».proof.Proof.Gen.DownYIdeal.Value
public import proofs.«01_k».proof.Proof.Gen.DownYIdeal.Frame
public import proofs.«01_k».proof.Proof.Gen.DownYRefIdeal.Run
public import Idealize.ShloMosaic.Lib.Pointwise
public import Idealize.ShloMosaic.Lib.Pipeline.ValueKit

@[expose] public section

/-! # The down projection with its residual

The tiles of the product over the columns, added to the residual, add up to the product over all of them. -/

set_option maxRecDepth 16384

noncomputable section

namespace Cert.Products.DownY

open Idealize.ShloMosaic Idealize.ShloMosaic.TcCoe Idealize.SL.Sem
open Cert.DownYIdeal Cert.DownYIdeal.Gen Cert.DownYIdeal.Value

variable (m : (ℓ : Loc nD τ sig) → Buf (Elt Ideal) ℓ) (ρ : Dev nD → PrngReg)

/-- The blocks that each point reads and writes. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The arrays and a point's blocks of them, as functions into the extended reals. -/
def lhs (c : Dev nD) : S8448x2816.Idx → EReal := m ((c : Thread nD τ).loc main_arg0)
def rhs (c : Dev nD) : S2816x1024.Idx → EReal := m ((c : Thread nD τ).loc main_arg1)
def res (c : Dev nD) : S8448x1024.Idx → EReal := m ((c : Thread nD τ).loc main_arg2)
def lhsBlk (c : Dev nD) (t : Fin cfg0.N) : S768x1408.Idx → EReal := iblk m c 0 t
def rhsBlk (c : Dev nD) (t : Fin cfg0.N) : S1408x1024.Idx → EReal := iblk m c 1 t

/-- Term `k` of the product's entry at row `r` and column `y`. -/
def term (c : Dev nD) (r : Fin 8448) (y : Fin 1024) (k : Fin 2816) : EReal := lhs m c (ix2 r k) * rhs m c (ix2 k y)

/-- One tile's product, at an index. -/
theorem pay (acc : Vec Ideal S768x1024 .f32) (x0 : Vec Ideal S768x1408 .bf16) (x1 : Vec Ideal S1408x1024 .bf16) (y : S768x1024.Idx) :
    (k0_pay1 acc x0 x1 y : EReal) = acc y + ∑ k : Fin 1408, (x0 (ix2 (y 0) k) : EReal) * x1 (ix2 k (y 1)) := by
  pointwise [k0_pay1]

/-- One tile's product, in the arrays' entries. -/
theorem tile (c : Dev nD) (t : Fin cfg0.N) (r : Fin 8448) (y : S768x1024.Idx) (hr : r.val = t.val / 2 * 768 + (y 0).val) (s : ℕ)
    (hs : t.val % 2 = s) :
    ∑ k : Fin 1408, lhsBlk m c t (ix2 (y 0) k) * rhsBlk m c t (ix2 k (y 1)) =
      ∑ k : Fin 1408, seq (term m c r (y 1)) (s * 1408 + k.val) := by
  refine Finset.sum_congr rfl fun k _ => ?_
  rw [seq_of_lt _ _ (by omega : s * 1408 + k.val < 2816)]
  unfold term lhsBlk rhsBlk lhs rhs
  congr 1 <;> blk_ext [iblk, V, idx t]

/-- The residual's block, in the array's entries. -/
theorem start (c : Dev nD) (t : Fin cfg0.N) (r : Fin 8448) (y : S768x1024.Idx) (hr : r.val = t.val / 2 * 768 + (y 0).val) :
    (iblk m c 2 t y : EReal) = res m c (ix2 r (y 1)) := by
  unfold res
  blk_ext [iblk, V, idx t]

/-- What the array ends holding. -/
theorem result (c : Dev nD) (r : Fin 8448) (y : Fin 1024) :
    (G3 m c (ix2 r y) : EReal) = res m c (ix2 r y) + ∑ k : Fin 2816, term m c r y k := by
  have hb : 2 * run3Of (ix2 r y) + 1 < cfg0.N := by show 2 * (1 * (r.val / 768 - 0) + 1 * (y.val / 1024 - 0)) + 1 < 22; omega
  have hrun : run3Of (ix2 r y) = r.val / 768 := by show 1 * (r.val / 768 - 0) + 1 * (y.val / 1024 - 0) = _; omega
  unfold G3
  rw [dif_pos hb]
  have row (y' : S768x1024.Idx) : r.val / 768 * 768 + (y' 0).val < 8448 := by have : (y' 0).val < 768 := (y' 0).isLt; omega
  have h := fold_sum (N := cfg0.N) (n := 2) (T := 1408) (by omega) (ι := S768x1024.Idx) (β := EReal) (reset3 m c) (step3 m c)
    (fun y' => res m c (ix2 ⟨r.val / 768 * 768 + (y' 0).val, row y'⟩ (y' 1)))
    (fun y' => seq (term m c ⟨r.val / 768 * 768 + (y' 0).val, row y'⟩ (y' 1))) (2 * run3Of (ix2 r y))
    (fun h y' => by
      have := tile m c ⟨_, h⟩ ⟨_, row y'⟩ y' (by show _ = 2 * run3Of (ix2 r y) / 2 * 768 + (y' 0).val; rw [hrun, Nat.mul_div_cancel_left _ (by omega)]) 0 (by show 2 * run3Of (ix2 r y) % 2 = 0; omega)
      simp only [Nat.zero_mul, Nat.zero_add] at this
      rw [← this]
      exact (pay _ _ _ y').trans (congrArg (· + _) (start m c ⟨_, h⟩ ⟨_, row y'⟩ y' (by show _ = 2 * run3Of (ix2 r y) / 2 * 768 + (y' 0).val; rw [hrun, Nat.mul_div_cancel_left _ (by omega)]))))
    (fun s h acc y' h0 h1 => by
      have := tile m c ⟨_, h⟩ ⟨_, row y'⟩ y' (by show _ = (2 * run3Of (ix2 r y) + s) / 2 * 768 + (y' 0).val; rw [hrun, Nat.mul_add_div (by omega), Nat.div_eq_of_lt h1, Nat.add_zero]) s (by show (2 * run3Of (ix2 r y) + s) % 2 = s; omega)
      rw [← this]
      exact pay _ _ _ y')
    1 rfl hb (loc3Of (ix2 r y))
  refine h.trans ?_
  rw [← sum_seq (term m c r y)]
  have e : (⟨r.val / 768 * 768 + (loc3Of (ix2 r y) 0).val, row _⟩ : Fin 8448) = r :=
    Fin.ext (by show r.val / 768 * 768 + r.val % 768 = r.val; omega)
  have e' : (loc3Of (ix2 r y) 1 : Fin 1024) = y := Fin.ext (by show y.val % 1024 = y.val; omega)
  show res m c (ix2 _ (loc3Of (ix2 r y) 1)) + ∑ k : Fin 2816, seq (term m c _ (loc3Of (ix2 r y) 1)) k.val = _
  rw [e, e']

/-- The reference's entry is the same sum. -/
theorem reference (a : Vec Ideal S8448x2816 .bf16) (b : Vec Ideal S2816x1024 .bf16) (r0 : Vec Ideal S8448x1024 .f32) (r : Fin 8448) (y : Fin 1024) :
    ((addf r0 (Host.dotGeneral Cert.DownYRefIdeal.dot_S8448x2816_S2816x1024_S8448x1024_1_0_0_1_n_n none (extf .f32 a Cert.DownYRefIdeal.Gen.bitsLt_bf16_f32 : FVec Ideal _ _) (extf .f32 b Cert.DownYRefIdeal.Gen.bitsLt_bf16_f32 : FVec Ideal _ _) : FVec Ideal _ _) : FVec Ideal Cert.DownYRefIdeal.S8448x1024 .f32) (ix2 r y) : EReal) =
      r0 (ix2 r y) + ∑ k : Fin 2816, (a (ix2 r k) : EReal) * b (ix2 k y) := by
  pointwise

/-- The run's frame, over any floats. -/
theorem frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := Cert.DownYIdeal.Gen.frame m ρ

section
attribute [local instance] Cert.DownY.Gen.facts Cert.DownYIdeal.Gen.facts
theorem bodies_eq : Cert.DownY.defs₀ (F := Bits) = defs₀ (F := Bits) := by
  unfold Cert.DownY.defs₀ Cert.DownYIdeal.defs₀
  congr 1
  funext l a
  match l, a with
  | 0, (t, s) => rfl
/-- The two printed programs are the same. -/
theorem defs_eq : Cert.DownY.defs (F := Bits) = defs (F := Bits) := congrArg (Pipeline.defs (pcfgs (F := Bits))) bodies_eq
end

theorem word_frame : Cert.quiescent_DownY (hDownY := Cert.DownY.Gen.facts) := fun m ρ _ => by rw [defs_eq]; exact frame (F := Bits) ρ m
theorem ideal_frame : Cert.quiescent_DownYIdeal (hDownYIdeal := Cert.DownYIdeal.Gen.facts) := fun m ρ _ => frame ρ m
theorem reference_frame : Cert.quiescent_DownYRefIdeal (hDownYRefIdeal := Cert.DownYRefIdeal.Gen.facts) := fun m ρ _ =>
  (θ_run Cert.DownYRefIdeal.defs _ _).mono (fun r h => ⟨fun c => (h c).2, sem_eq_zero_of_no_sems (by decide) _⟩) (Cert.DownYRefIdeal.Value.run m ρ)

/-- The kernel ends with the reference's gradient. -/
theorem algebraic : Cert.algebraic_DownYIdeal_DownYRefIdeal (hDownYIdeal := Cert.DownYIdeal.Gen.facts) (hDownYRefIdeal := Cert.DownYRefIdeal.Gen.facts) :=
  fun m ρ m' ρ' _ hargs => ⟨_, run m ρ, (θ_run Cert.DownYRefIdeal.defs _ _).mono (fun r h c => by
    obtain ⟨e0, e1, e2⟩ := hargs c
    refine ⟨(h c).1.trans ?_, (h c).2⟩
    funext i
    obtain ⟨r, y, rfl⟩ : ∃ (r : Fin 8448) (y : Fin 1024), i = ix2 r y := ⟨i 0, i 1, by blk_ext⟩
    refine Eq.trans ?_ (result m c r y).symm
    exact (reference _ _ _ r y).trans (by rw [e0, e1, e2]; rfl)) (Cert.DownYRefIdeal.Value.run m' ρ')⟩

end Cert.Products.DownY

end
-- ==== Proof.Products.lean ====
module

public import proofs.«01_k».proof.Proof.UpW
public import proofs.«01_k».proof.Proof.UpX
public import proofs.«01_k».proof.Proof.InX
public import proofs.«01_k».proof.Proof.InW
public import proofs.«01_k».proof.Proof.DownW
public import proofs.«01_k».proof.Proof.DownX
public import proofs.«01_k».proof.Proof.InY
public import proofs.«01_k».proof.Proof.UpY
public import proofs.«01_k».proof.Proof.DownY

/-! # The products of the step's large projections, one module each -/

@[expose] public section

end
-- ==== Proof.RunFirst.lean ====
module

public import proofs.«01_k».proof.Proof.Gen.KernelIdeal.Loops
public import proofs.«01_k».proof.Proof.Gen.KernelIdeal.Frame

@[expose] public section

/-! # The body of the idealized attention backward, run once

Whole-body runs of `cc0_fox_bwd`: at the first key tile (where the query gradient's block is filled with zeros) and at
every later one. Each run names the pieces it leaves in every output buffer, as functions of the blocks read (and, at a
later tile, of what the query gradient's buffer held at entry). -/

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The condition of the body's one conditional on the grid: the key tile is the first. -/
abbrev first (i : grid0.Coords) : Prop :=
  (Scalar.cmpi .ne (Scalar.extui (Scalar.cmpi .eq (BitVec.ofNat 32 (i 2).val) 0#32)) 0#32) = 1#1

/-- It holds at the points that are multiples of 11. -/
theorem first_iff : ∀ t : Fin cfg0.N, first (grid0.coords t) ↔ t.val % 11 = 0 :=
  (fun t => by
    have ht : t.val < 88 := Nat.lt_of_lt_of_eq t.isLt N_0
    have e2 : (grid0.coords t 2).val = t.val / 1 % 11 := Pipeline.Grid.coords_val t 2 (by decide) rfl
    simp only [first, e2]
    word_cmp
   : ∀ t : Fin grid0.N, first (grid0.coords t) ↔ t.val % 11 = 0)

set_option maxHeartbeats 2000000 in
/-- The body at the first key tile: from whole staging buffers, the inputs' at their contents, it runs to the end with the inputs as they were and each output holding the pieces named here. -/
noncomputable def runFirst (c : Dev nD) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole) (hc0 : first i)
    (x0 : Vec F S384x256 .bf16) (x1 : Vec F S384x128 .bf16) (x2 : Vec F S4224x256 .bf16) (x3 : Vec F S4224x128 .bf16) (x4 : Vec F S4224x128 .f32) (x5 : Vec F S1x1x4224x128 .f32) :
    Σ' (L6 : List (View.Piece (Elt F) S4224x256 .f32)), Σ' (L7 : List (View.Piece (Elt F) S384x256 .f32)), Σ' (L8 : List (View.Piece (Elt F) S384x128 .f32)), Σ' (L9 : List (View.Piece (Elt F) S1x1x1x384 .f32)), { L10 : List (View.Piece (Elt F) S1x1x1x384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [H9]; · iexists _; iexact H9
    iexists _; iexact H10

end Cert.FoxBwd

end
-- ==== Proof.Tile.lean ====
module

public import proofs.«01_k».proof.Proof.RunFirst
public import Idealize.ShloMosaic.Lib.Pointwise
public import Idealize.ShloMosaic.Lib.VecWindow
public import Idealize.ShloMosaic.Lib.WholeRead

@[expose] public section

/-! # One tile of the attention backward, over the extended reals

For one pair of a tile of keys and a row of queries: the score, the weight, the weight's gradient, and what one trip of
the body's loop over the row tiles adds to each of the four running gradients. -/

set_option maxRecDepth 16384

noncomputable section

namespace Cert.FoxBwd

open Idealize.ShloMosaic Idealize.ShloMosaic.TcCoe
open Cert.KernelIdeal Cert.KernelIdeal.Gen

/-- Lane `x` of head `h` of a block that holds two heads side by side. -/
abbrev lane (h : Fin 2) (x : Fin 128) : Fin 256 := ⟨128 * h.val + x.val, by omega⟩

/-- Row `t` of row tile `n`. -/
abbrev row (n : ℕ) (hn : n < 11) (t : Fin 384) : Fin 4224 := ⟨384 * n + t.val, by omega⟩

/-- The six blocks that one grid point reads: a tile of keys and values, all rows of the queries, of the output's
gradient and of the output, and the rows' normalisers. -/
structure Blk where
  k : Vec Ideal S384x256 .bf16
  v : Vec Ideal S384x128 .bf16
  q : Vec Ideal S4224x256 .bf16
  g : Vec Ideal S4224x128 .bf16
  o : Vec Ideal S4224x128 .f32
  z : Vec Ideal S1x1x4224x128 .f32

namespace Blk
variable (B : Blk)

/-- The weight of key `s` for row `r` in head `h`, before the mask. -/
def w (h : Fin 2) (r : Fin 4224) (s : Fin 384) : EReal :=
  Ideal.exp ((∑ x, B.q (ix2 r (lane h x)) * B.k (ix2 s (lane h x))) - B.z (ix4 0 0 r ⟨h.val, by omega⟩))

/-- The output's gradient, zero outside head `h`'s lanes. -/
def gm (h : Fin 2) (r : Fin 4224) (x : Fin 128) : EReal := if x.val / 64 = h.val then B.g (ix2 r x) else 0

/-- The values, zero outside head `h`'s lanes. -/
def vm (h : Fin 2) (s : Fin 384) (x : Fin 128) : EReal := if x.val / 64 = h.val then B.v (ix2 s x) else 0

/-- The gradient of the score, before the mask. -/
def d (h : Fin 2) (r : Fin 4224) (s : Fin 384) : EReal :=
  B.w h r s * ((∑ x, B.gm h r x * B.vm h s x) - ∑ x, B.gm h r x * B.o (ix2 r x))

end Blk

theorem select_ite (p : Prop) [Decidable p] (c : BitVec 1) (h : c = if p then 1#1 else 0#1) (a b : EReal) :
    Scalar.select c a b = if p then a else b := by
  subst h; by_cases hp : p <;> simp [hp, Scalar.select]

/-- Lane 0 alone is selected. -/
theorem sel_z0 (x : Fin 128) (a b : EReal) :
    Scalar.select (IntOp.cmpi .eq (BitVec.ofNat 32 x.val) 0#32) a b = if x = ⟨0, by omega⟩ then a else b :=
  select_ite _ _ (by revert x; decide) a b

/-- Lane 1 alone is selected. -/
theorem sel_z1 (x : Fin 128) (a b : EReal) :
    Scalar.select (IntOp.cmpi .eq (BitVec.ofNat 32 x.val) 1#32) a b = if x = ⟨1, by omega⟩ then a else b :=
  select_ite _ _ (by revert x; decide) a b

/-- The first head's lanes are selected. -/
theorem sel_h0 (x : Fin 128) (a b : EReal) :
    Scalar.select (IntOp.andi (IntOp.cmpi .sge (BitVec.ofNat 32 x.val) 0#32) (IntOp.cmpi .slt (BitVec.ofNat 32 x.val) 64#32)) a b
      = if x.val / 64 = 0 then a else b :=
  select_ite _ _ (by revert x; decide) a b

/-- The second head's lanes are selected. -/
theorem sel_h1 (x : Fin 128) (a b : EReal) :
    Scalar.select (IntOp.andi (IntOp.cmpi .sge (BitVec.ofNat 32 x.val) 64#32) (IntOp.cmpi .slt (BitVec.ofNat 32 x.val) 128#32)) a b
      = if x.val / 64 = 1 then a else b :=
  select_ite _ _ (by revert x; decide) a b

section
variable {F : FTy → Type} [FloatOps F]

/-- A load of a matrix's rectangle at offsets `a`, `b`, of the whole contents `X`, at an index. -/
theorem rd2 {A C : ℕ} {e : EltTy} (m : Memref sig .tc .vmem ⟨2, ![A, C]⟩ e) (hm : m.IsWhole) (X : Vec F ⟨2, ![A, C]⟩ e)
    {off : Fin 2 → ℕ} {M N : ℕ} (inb : ∀ a, off a + (![M, N] : Fin 2 → ℕ) a ≤ (⟨2, ![A, C]⟩ : Shape).size a) {a b : ℕ} (h : off = ![a, b])
    (t : Fin M) (x : Fin N) (ht : a + t.val < A) (hx : b + x.val < C) :
    m.view.readAt (Elt F) (Rect.unit (s := ⟨2, ![A, C]⟩) off ![M, N] inb).toLoadRect (hm.unread X) (ix2 t x) = X (ix2 ⟨a + t.val, ht⟩ ⟨b + x.val, hx⟩) := by
  subst h
  rw [hm.readAt_unread]
  refine congrArg X ?_
  funext q
  match q with
  | 0 => exact Fin.ext (by show a + 1 * t.val = a + t.val; omega)
  | 1 => exact Fin.ext (by show b + 1 * x.val = b + x.val; omega)

/-- The same of a block with two leading axes of extent one. -/
theorem rd4 {A C : ℕ} {e : EltTy} (m : Memref sig .tc .vmem ⟨4, ![1, 1, A, C]⟩ e) (hm : m.IsWhole) (X : Vec F ⟨4, ![1, 1, A, C]⟩ e)
    {off : Fin 4 → ℕ} {M N : ℕ} (inb : ∀ a, off a + (![1, 1, M, N] : Fin 4 → ℕ) a ≤ (⟨4, ![1, 1, A, C]⟩ : Shape).size a) {a b : ℕ} (h : off = ![0, 0, a, b])
    (t : Fin M) (x : Fin N) (ht : a + t.val < A) (hx : b + x.val < C) :
    m.view.readAt (Elt F) (Rect.unit (s := ⟨4, ![1, 1, A, C]⟩) off ![1, 1, M, N] inb).toLoadRect (hm.unread X) (ix4 0 0 t x) = X (ix4 0 0 ⟨a + t.val, ht⟩ ⟨b + x.val, hx⟩) := by
  subst h
  rw [hm.readAt_unread]
  refine congrArg X ?_
  funext q
  match q with
  | 0 => rfl
  | 1 => rfl
  | 2 => exact Fin.ext (by show a + 1 * t.val = a + t.val; omega)
  | 3 => exact Fin.ext (by show b + 1 * x.val = b + x.val; omega)

end

section
variable (c : Dev nD) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole)
  (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole)
  (B : Blk) (arg2 : BitVec 32) (v29 : FVec Ideal S384x128 .f32) (v30 : FVec Ideal S1x384 .f32) (v32 : BitVec 32) (v78 : FVec Ideal S384x128 .f32) (v90 : FVec Ideal S1x384 .f32) (v93 : FVec Ideal S384x128 .bf16) (v121 : FVec Ideal S384x384 .f32) (v122 : FVec Ideal S384x384 .bf16) (v125 : FVec Ideal S384x128 .f32) (v140 : BitVec 32)

theorem trips1 : ∀ i : grid0.Coords, (k0_t1_loop i).trips = 10 - (i 2).val := by decide +kernel
theorem trips2 : ∀ i : grid0.Coords, (k0_t2_loop i).trips = 0 := by decide +kernel

theorem off57 (k : Fin (k0_t1_loop i).trips) : k0_off5 i k = ![384 * ((i 2).val + 1 + k.val), 0] := by
  rw [k0_off5_eq]; congr 1; omega
theorem off6' (k : Fin (k0_t1_loop i).trips) : k0_off6 i k = ![0, 0, 384 * ((i 2).val + 1 + k.val), 0] := by
  rw [k0_off6_eq, show 384 * (i 2).val + 384 * k.val + 384 = 384 * ((i 2).val + 1 + k.val) by omega]
theorem off7' (k : Fin (k0_t1_loop i).trips) : k0_off7 i k = ![384 * ((i 2).val + 1 + k.val), 0] := by
  rw [k0_off7_eq]; congr 1; omega
theorem off8' (k : Fin (k0_t1_loop i).trips) : k0_off8 i k = ![384 * ((i 2).val + 1 + k.val), 128] := by
  rw [k0_off8_eq]; congr 1; omega

variable (k : Fin (k0_t1_loop i).trips) (hn : (i 2).val + 1 + k.val < 11)

theorem rd_k0 (X : Vec Ideal S384x256 .bf16) (s : Fin 384) (x : Fin 128) (inb) :
    View.readAt (Elt Ideal) arg3.view (Rect.unit (s := S384x256) ![0, 0] S384x128.size inb).toLoadRect (harg3.unread X) (ix2 s x) = X (ix2 s (lane 0 x)) := by
  refine (rd2 (F := Ideal) arg3 harg3 X (off := ![0, 0]) inb rfl s x (by omega) (by omega)).trans (congrArg X ?_)
  congr 1 <;> exact Fin.ext (by simp)
theorem rd_k1 (X : Vec Ideal S384x256 .bf16) (s : Fin 384) (x : Fin 128) (inb) :
    View.readAt (Elt Ideal) arg3.view (Rect.unit (s := S384x256) ![0, 128] S384x128.size inb).toLoadRect (harg3.unread X) (ix2 s x) = X (ix2 s (lane 1 x)) := by
  refine (rd2 (F := Ideal) arg3 harg3 X (off := ![0, 128]) inb rfl s x (by omega) (by omega)).trans (congrArg X ?_)
  congr 1 <;> exact Fin.ext (by simp)
theorem rd_q0 (X : Vec Ideal S4224x256 .bf16) (t : Fin 384) (x : Fin 128) (inb) :
    View.readAt (Elt Ideal) arg5.view (Rect.unit (s := S4224x256) (k0_off7 i k) S384x128.size inb).toLoadRect (harg5.unread X) (ix2 t x) = X (ix2 (row _ hn t) (lane 0 x)) := by
  refine (rd2 (F := Ideal) arg5 harg5 X inb (off7' i k) t x (by omega) (by omega)).trans (congrArg X ?_)
  congr 1
theorem rd_q1 (X : Vec Ideal S4224x256 .bf16) (t : Fin 384) (x : Fin 128) (inb) :
    View.readAt (Elt Ideal) arg5.view (Rect.unit (s := S4224x256) (k0_off8 i k) S384x128.size inb).toLoadRect (harg5.unread X) (ix2 t x) = X (ix2 (row _ hn t) (lane 1 x)) := by
  refine (rd2 (F := Ideal) arg5 harg5 X inb (off8' i k) t x (by omega) (by omega)).trans (congrArg X ?_)
  congr 1
theorem rd_g (X : Vec Ideal S4224x128 .bf16) (t : Fin 384) (x : Fin 128) (inb) :
    View.readAt (Elt Ideal) arg6.view (Rect.unit (s := S4224x128) (k0_off5 i k) S384x128.size inb).toLoadRect (harg6.unread X) (ix2 t x) = X (ix2 (row _ hn t) x) := by
  refine (rd2 (F := Ideal) arg6 harg6 X inb (off57 i k) t x (by omega) (by omega)).trans (congrArg X ?_)
  congr 1; exact Fin.ext (by simp)
theorem rd_o (X : Vec Ideal S4224x128 .f32) (t : Fin 384) (x : Fin 128) (inb) :
    View.readAt (Elt Ideal) arg7.view (Rect.unit (s := S4224x128) (k0_off5 i k) S384x128.size inb).toLoadRect (harg7.unread X) (ix2 t x) = X (ix2 (row _ hn t) x) := by
  refine (rd2 (F := Ideal) arg7 harg7 X inb (off57 i k) t x (by omega) (by omega)).trans (congrArg X ?_)
  congr 1; exact Fin.ext (by simp)
theorem rd_z (X : Vec Ideal S1x1x4224x128 .f32) (t : Fin 384) (x : Fin 128) (inb) :
    View.readAt (Elt Ideal) arg8.view (Rect.unit (s := S1x1x4224x128) (k0_off6 i k) S1x1x384x128.size inb).toLoadRect (harg8.unread X) (ix4 0 0 t x) = X (ix4 0 0 (row _ hn t) x) := by
  refine (rd4 (F := Ideal) arg8 harg8 X inb (off6' i k) t x (by omega) (by omega)).trans (congrArg X ?_)
  congr 1; exact Fin.ext (by simp)

theorem trip_w0 (t s : Fin 384) :
    trip_k0_t1.sl.v192 i arg3 arg5 arg8 (iota .tc S1x128 32 [1]) (harg3.unread B.k) (harg5.unread B.q) (harg8.unread B.z) k (ix2 t s) = B.w 0 (row _ hn t) s := by
  delta trip_k0_t1.sl.v192 trip_k0_t1.sl.v191 trip_k0_t1.sl.v190 trip_k0_t1.sl.v189 trip_k0_t1.sl.v188 trip_k0_t1.sl.v187 trip_k0_t1.sl.v186 trip_k0_t1.sl.v185 trip_k0_t1.sl.v184 trip_k0_t1.sl.v183 trip_k0_t1.sl.v182 trip_k0_t1.sl.v181 trip_k0_t1.sl.v180 trip_k0_t1.sl.v170 trip_k0_t1.sl.v167 trip_k0_t1.sl.cst_77 trip_k0_t1.sl.cst_79
  pointwise
  simp only [rd_q0 _ _ _ k hn, rd_z _ _ _ k hn, sel_z0, Finset.sum_ite_eq', Finset.mem_univ, if_true]
  exact congrArg Ideal.exp (congrArg₂ (· - ·) (Finset.sum_congr rfl fun x _ => congrArg₂ (· * ·) rfl (rd_k0 _ harg3 _ _ _ _)) rfl)
theorem trip_w1 (t s : Fin 384) :
    trip_k0_t1.sl.v239 i arg3 arg5 arg8 (iota .tc S1x128 32 [1]) (harg3.unread B.k) (harg5.unread B.q) (harg8.unread B.z) k (ix2 t s) = B.w 1 (row _ hn t) s := by
  delta trip_k0_t1.sl.v239 trip_k0_t1.sl.v238 trip_k0_t1.sl.v237 trip_k0_t1.sl.v236 trip_k0_t1.sl.v235 trip_k0_t1.sl.v234 trip_k0_t1.sl.v232 trip_k0_t1.sl.v231 trip_k0_t1.sl.v230 trip_k0_t1.sl.v229 trip_k0_t1.sl.v228 trip_k0_t1.sl.v227 trip_k0_t1.sl.v217 trip_k0_t1.sl.v186 trip_k0_t1.sl.v167 trip_k0_t1.sl.cst_77 trip_k0_t1.sl.cst_79
  pointwise
  simp only [rd_q1 _ _ _ k hn, rd_z _ _ _ k hn, sel_z1, Finset.sum_ite_eq', Finset.mem_univ, if_true]
  exact congrArg Ideal.exp (congrArg₂ (· - ·) (Finset.sum_congr rfl fun x _ => congrArg₂ (· * ·) rfl (rd_k1 _ harg3 _ _ _ _)) rfl)
variable (v24 v28 : FVec Ideal S384x128 .bf16) (h24 : ∀ s x, v24 (ix2 s x) = B.vm 0 s x) (h28 : ∀ s x, v28 (ix2 s x) = B.vm 1 s x) (cst : Ideal .bf16) (hcst : cst = (0 : EReal))

include hcst in
theorem trip_gm0 (t : Fin 384) (x : Fin 128) :
    trip_k0_t1.sl.v174 i arg6 k0_pay36 cst (harg6.unread B.g) k (ix2 t x) = B.gm 0 (row _ hn t) x := by
  delta trip_k0_t1.sl.v174 trip_k0_t1.sl.v173 trip_k0_t1.sl.v172 trip_k0_t1.sl.v171 trip_k0_t1.sl.v161
  pointwise [k0_pay36]
  simp only [rd_g _ _ _ k hn, sel_h0, hcst]
  rfl
include hcst in
theorem trip_gm1 (t : Fin 384) (x : Fin 128) :
    trip_k0_t1.sl.v221 i arg6 k0_pay37 cst (harg6.unread B.g) k (ix2 t x) = B.gm 1 (row _ hn t) x := by
  delta trip_k0_t1.sl.v221 trip_k0_t1.sl.v219 trip_k0_t1.sl.v218 trip_k0_t1.sl.v173 trip_k0_t1.sl.v161
  pointwise [k0_pay37]
  simp only [rd_g _ _ _ k hn, sel_h1, hcst]
  rfl
include hcst h24 in
theorem trip_d0 (t s : Fin 384) :
    trip_k0_t1.sl.v196 i arg3 arg5 arg6 arg7 arg8 (iota .tc S1x128 32 [1]) k0_pay36 v24 cst (harg3.unread B.k) (harg5.unread B.q) (harg6.unread B.g) (harg7.unread B.o) (harg8.unread B.z) k (ix2 t s) = B.d 0 (row _ hn t) s := by
  have hw := trip_w0 i arg3 harg3 arg5 harg5 arg8 harg8 B k hn
  have hg := trip_gm0 i arg6 harg6 B k hn cst hcst
  delta trip_k0_t1.sl.v196 trip_k0_t1.sl.v195 trip_k0_t1.sl.v194 trip_k0_t1.sl.v193 trip_k0_t1.sl.v178 trip_k0_t1.sl.v177 trip_k0_t1.sl.v176 trip_k0_t1.sl.v175 trip_k0_t1.sl.v164 trip_k0_t1.sl.cst_77
  revert hw hg
  generalize trip_k0_t1.sl.v192 i arg3 arg5 arg8 (iota .tc S1x128 32 [1]) (harg3.unread B.k) (harg5.unread B.q) (harg8.unread B.z) k = P
  generalize trip_k0_t1.sl.v174 i arg6 k0_pay36 cst (harg6.unread B.g) k = G
  intro hw hg
  pointwise
  simp only [hw, hg, rd_o _ _ _ k hn, h24]
  rfl
include hcst h28 in
theorem trip_d1 (t s : Fin 384) :
    k0_pay67 (trip_k0_t1.sl.v239 i arg3 arg5 arg8 (iota .tc S1x128 32 [1]) (harg3.unread B.k) (harg5.unread B.q) (harg8.unread B.z) k)
      (trip_k0_t1.sl.v242 i arg6 arg7 k0_pay37 v28 cst (harg6.unread B.g) (harg7.unread B.o) k) (ix2 t s) = B.d 1 (row _ hn t) s := by
  have hw := trip_w1 i arg3 harg3 arg5 harg5 arg8 harg8 B k hn
  have hg := trip_gm1 i arg6 harg6 B k hn cst hcst
  delta trip_k0_t1.sl.v242 trip_k0_t1.sl.v241 trip_k0_t1.sl.v240 trip_k0_t1.sl.v225 trip_k0_t1.sl.v224 trip_k0_t1.sl.v223 trip_k0_t1.sl.v222 trip_k0_t1.sl.v164 trip_k0_t1.sl.cst_77
  revert hw hg
  generalize trip_k0_t1.sl.v239 i arg3 arg5 arg8 (iota .tc S1x128 32 [1]) (harg3.unread B.k) (harg5.unread B.q) (harg8.unread B.z) k = P
  generalize trip_k0_t1.sl.v221 i arg6 k0_pay37 cst (harg6.unread B.g) k = G
  intro hw hg
  pointwise [k0_pay67]
  simp only [hw, hg, rd_o _ _ _ k hn, h28]
  rfl
end

end Cert.FoxBwd

end
-- ==== Proof.Trip.lean ====
module

public import proofs.«01_k».proof.Proof.Tile
public import Idealize.ShloMosaic.Lib.Writes

@[expose] public section

/-! # The loop over the row tiles below the diagonal

What one trip adds to the four running gradients and to the query gradient's buffer, and what all trips together add. -/

set_option maxRecDepth 16384

noncomputable section

namespace Cert.FoxBwd

open Idealize.ShloMosaic Idealize.ShloMosaic.TcCoe
open Cert.KernelIdeal Cert.KernelIdeal.Gen

/-- Everything the loop's text names: the buffers, the blocks read, and the values of the body before the loop. -/
structure Env where
  c : Dev nD
  i : grid0.Coords
  arg3 : Memref sig .tc .vmem S384x256 .bf16
  harg3 : arg3.IsWhole
  arg4 : Memref sig .tc .vmem S384x128 .bf16
  harg4 : arg4.IsWhole
  arg5 : Memref sig .tc .vmem S4224x256 .bf16
  harg5 : arg5.IsWhole
  arg6 : Memref sig .tc .vmem S4224x128 .bf16
  harg6 : arg6.IsWhole
  arg7 : Memref sig .tc .vmem S4224x128 .f32
  harg7 : arg7.IsWhole
  arg8 : Memref sig .tc .vmem S1x1x4224x128 .f32
  harg8 : arg8.IsWhole
  arg9 : Memref sig .tc .vmem S4224x256 .f32
  harg9 : arg9.IsWhole
  arg10 : Memref sig .tc .vmem S384x256 .f32
  harg10 : arg10.IsWhole
  arg11 : Memref sig .tc .vmem S384x128 .f32
  harg11 : arg11.IsWhole
  arg12 : Memref sig .tc .vmem S1x1x1x384 .f32
  harg12 : arg12.IsWhole
  arg13 : Memref sig .tc .vmem S1x1x1x384 .f32
  harg13 : arg13.IsWhole
  B : Blk
  arg2 : BitVec 32
  v29 : FVec Ideal S384x128 .f32
  v30 : FVec Ideal S1x384 .f32
  v32 : BitVec 32
  v78 : FVec Ideal S384x128 .f32
  v90 : FVec Ideal S1x384 .f32
  v93 : FVec Ideal S384x128 .bf16
  v121 : FVec Ideal S384x384 .f32
  v122 : FVec Ideal S384x384 .bf16
  v125 : FVec Ideal S384x128 .f32
  v140 : BitVec 32
  v24 : FVec Ideal S384x128 .bf16
  v28 : FVec Ideal S384x128 .bf16
  cst : Ideal .bf16
  h24 : ∀ s x, v24 (ix2 s x) = B.vm 0 s x
  h28 : ∀ s x, v28 (ix2 s x) = B.vm 1 s x
  hcst : cst = (0 : EReal)

/-- The head of a lane of two heads side by side. -/
abbrev hd (l : Fin 256) : Fin 2 := ⟨l.val / 128, by omega⟩
/-- The lane within its head. -/
abbrev ln (l : Fin 256) : Fin 128 := ⟨l.val % 128, by omega⟩

/-- `put` into a matrix, at an index. -/
theorem put2 {A C M N : ℕ} {α : Type} (x : (⟨2, ![A, C]⟩ : Shape).Idx → α) (a b : ℕ) (w : (⟨2, ![M, N]⟩ : Shape).Idx → α)
    (r : Fin A) (l : Fin C) :
    VecWindow.put (s := ⟨2, ![A, C]⟩) x ![a, b] ![M, N] w (ix2 r l)
      = if h : (a ≤ r.val ∧ r.val < a + M) ∧ (b ≤ l.val ∧ l.val < b + N) then w (ix2 ⟨r.val - a, by omega⟩ ⟨l.val - b, by omega⟩) else x (ix2 r l) := by
  unfold VecWindow.put
  by_cases h : (a ≤ r.val ∧ r.val < a + M) ∧ (b ≤ l.val ∧ l.val < b + N)
  · have h' : ∀ q : Fin 2, (![a, b] : Fin 2 → ℕ) q ≤ ((ix2 r l : (⟨2, ![A, C]⟩ : Shape).Idx) q).val ∧ ((ix2 r l : (⟨2, ![A, C]⟩ : Shape).Idx) q).val < (![a, b] : Fin 2 → ℕ) q + (![M, N] : Fin 2 → ℕ) q := fun q => by
      match q with
      | 0 => exact h.1
      | 1 => exact h.2
    rw [dif_pos h]
    refine (dif_pos h').trans (congrArg w ?_)
    funext q
    match q with
    | 0 => rfl
    | 1 => rfl
  · rw [dif_neg h]
    refine dif_neg fun h' => h ⟨h' 0, h' 1⟩

/-- A load of a matrix's rectangle, of any contents, at an index. -/
theorem rdf2 {A C : ℕ} {e : EltTy} (m : Memref sig .tc .vmem ⟨2, ![A, C]⟩ e) (f : m.view.ty.Contents (Elt Ideal))
    {off : Fin 2 → ℕ} {M N : ℕ} (inb : ∀ a, off a + (![M, N] : Fin 2 → ℕ) a ≤ (⟨2, ![A, C]⟩ : Shape).size a) {a b : ℕ} (h : off = ![a, b])
    (t : Fin M) (x : Fin N) (ht : a + t.val < A) (hx : b + x.val < C) :
    m.view.readAt (Elt Ideal) (Rect.unit (s := ⟨2, ![A, C]⟩) off ![M, N] inb).toLoadRect f (ix2 t x) = m.view.read (Elt Ideal) f (ix2 ⟨a + t.val, ht⟩ ⟨b + x.val, hx⟩) := by
  subst h
  refine congrArg (m.view.read (Elt Ideal) f) ?_
  funext q
  match q with
  | 0 => exact Fin.ext (by show a + 1 * t.val = a + t.val; omega)
  | 1 => exact Fin.ext (by show b + 1 * x.val = b + x.val; omega)

/-- Both heads of the query gradient's buffer stored for the rows of tile `n`, each the old contents plus an addend: the buffer then reads the old
contents plus the addend on those rows, and the old contents elsewhere. -/
theorem read_two {e : EltTy} (m : Memref sig .tc .vmem S4224x256 .f32) (f : m.view.ty.Contents (Elt Ideal)) {off0 off1 : Fin 2 → ℕ}
    (inb0 : ∀ a, off0 a + S384x128.size a ≤ S4224x256.size a) (inb1 : ∀ a, off1 a + S384x128.size a ≤ S4224x256.size a)
    (n : ℕ) (hn : n < 11) (h0 : off0 = ![384 * n, 0]) (h1 : off1 = ![384 * n, 128]) (w0 w1 : Vec Ideal S384x128 .f32) (a : Fin 4224 → Fin 256 → EReal)
    (hw0 : ∀ t x, w0 (ix2 t x) = (m.view.read (Elt Ideal) f (ix2 (row n hn t) (lane 0 x)) : EReal) + a (row n hn t) (lane 0 x))
    (hw1 : ∀ t x, w1 (ix2 t x) = (m.view.read (Elt Ideal) f (ix2 (row n hn t) (lane 1 x)) : EReal) + a (row n hn t) (lane 1 x)) (r : Fin 4224) (l : Fin 256) :
    m.view.read (Elt Ideal) (m.view.writes (Elt Ideal) f [⟨Rect.unit (s := S4224x256) off1 S384x128.size inb1, w1⟩, ⟨Rect.unit (s := S4224x256) off0 S384x128.size inb0, w0⟩]) (ix2 r l)
      = (m.view.read (Elt Ideal) f (ix2 r l) : EReal) + if r.val / 384 = n then a r l else 0 := by
  rw [View.read_writes_cons_put m.view f inb1 w1 _ h1, View.read_writes_cons_put m.view f inb0 w0 _ h0, View.writes_nil]
  refine (put2 _ _ _ w1 r l).trans ?_
  by_cases hr : r.val / 384 = n
  · rw [if_pos hr]
    by_cases hl : l.val < 128
    · rw [dif_neg (by omega)]
      refine (put2 _ _ _ w0 r l).trans ?_
      rw [dif_pos (by omega), hw0]
      have e1 : row n hn ⟨r.val - 384 * n, by omega⟩ = r := Fin.ext (by show 384 * n + (r.val - 384 * n) = r.val; omega)
      have e2 : lane 0 ⟨l.val - 0, by omega⟩ = l := Fin.ext (by show 128 * 0 + (l.val - 0) = l.val; omega)
      rw [e1, e2]
    · rw [dif_pos (by omega), hw1]
      have e1 : row n hn ⟨r.val - 384 * n, by omega⟩ = r := Fin.ext (by show 384 * n + (r.val - 384 * n) = r.val; omega)
      have e2 : lane 1 ⟨l.val - 128, by omega⟩ = l := Fin.ext (by show 128 * 1 + (l.val - 128) = l.val; omega)
      rw [e1, e2]
  · rw [if_neg hr, dif_neg (by omega)]
    refine (put2 _ _ _ w0 r l).trans ?_
    rw [dif_neg (by omega)]
    exact (add_zero _).symm

/-- The sum of a function of the row over the rows of tile `n`. -/
def tile (f : Fin 4224 → EReal) (n : ℕ) : EReal := if h : n < 11 then ∑ t, f (row n h t) else 0

namespace Env
variable (E : Env)

/-- The loop's state before trip `k`: the five carried values and the stores to the query gradient's buffer so far. -/
def st (G : E.arg9.view.ty.Contents (Elt Ideal)) (init : FVec Ideal S384x128 .f32 × FVec Ideal S384x128 .f32 × FVec Ideal S384x128 .f32 × FVec Ideal S1x384 .f32 × FVec Ideal S1x384 .f32) (k : ℕ) :=
  st_k0_t1 (F := Ideal) Variants.none E.c none E.i E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg2 (iota .tc S1x128 32 [1]) k0_pay36 k0_pay37 E.v24 E.v28 E.v29 E.v30 E.v32 E.v78 E.v90 E.v93 E.v121 E.v122 E.v125 E.v140 E.cst (E.harg3.unread E.B.k) (E.harg5.unread E.B.q) (E.harg6.unread E.B.g) (E.harg7.unread E.B.o) (E.harg8.unread E.B.z) G init k

/-- What a trip makes of the carried values. -/
def R (k : Fin (k0_t1_loop E.i).trips) (acc : FVec Ideal S384x128 .f32 × FVec Ideal S384x128 .f32 × FVec Ideal S384x128 .f32 × FVec Ideal S1x384 .f32 × FVec Ideal S1x384 .f32) (f : E.arg9.view.ty.Contents (Elt Ideal)) :=
  tripR_k0_t1 (F := Ideal) Variants.none E.c none E.i E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg2 (iota .tc S1x128 32 [1]) k0_pay36 k0_pay37 E.v24 E.v28 E.v29 E.v30 E.v32 E.v78 E.v90 E.v93 E.v121 E.v122 E.v125 E.v140 E.cst (E.harg3.unread E.B.k) (E.harg5.unread E.B.q) (E.harg6.unread E.B.g) (E.harg7.unread E.B.o) (E.harg8.unread E.B.z) k acc f

/-- The stores a trip makes to the query gradient's buffer. -/
def L (k : Fin (k0_t1_loop E.i).trips) (acc : FVec Ideal S384x128 .f32 × FVec Ideal S384x128 .f32 × FVec Ideal S384x128 .f32 × FVec Ideal S1x384 .f32 × FVec Ideal S1x384 .f32) (f : E.arg9.view.ty.Contents (Elt Ideal)) :=
  tripL_k0_t1 (F := Ideal) Variants.none E.c none E.i E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg2 (iota .tc S1x128 32 [1]) k0_pay36 k0_pay37 E.v24 E.v28 E.v29 E.v30 E.v32 E.v78 E.v90 E.v93 E.v121 E.v122 E.v125 E.v140 E.cst (E.harg3.unread E.B.k) (E.harg5.unread E.B.q) (E.harg6.unread E.B.g) (E.harg7.unread E.B.o) (E.harg8.unread E.B.z) k acc f

variable (k : Fin (k0_t1_loop E.i).trips) (hn : (E.i 2).val + 1 + k.val < 11)
  (acc : FVec Ideal S384x128 .f32 × FVec Ideal S384x128 .f32 × FVec Ideal S384x128 .f32 × FVec Ideal S1x384 .f32 × FVec Ideal S1x384 .f32) (f : E.arg9.view.ty.Contents (Elt Ideal))

theorem R_dk0 (s : Fin 384) (x : Fin 128) :
    (E.R k acc f).1 (ix2 s x) = acc.1 (ix2 s x) + ∑ t, E.B.d 0 (row _ hn t) s * E.B.q (ix2 (row _ hn t) (lane 0 x)) := by
  have hd := trip_d0 E.i E.arg3 E.harg3 E.arg5 E.harg5 E.arg6 E.harg6 E.arg7 E.harg7 E.arg8 E.harg8 E.B k hn E.v24 E.h24 E.cst E.hcst
  delta R tripR_k0_t1 trip_k0_t1
  dsimp only
  delta trip_k0_t1.sl.v202 trip_k0_t1.sl.v201 trip_k0_t1.sl.v197 trip_k0_t1.sl.v170 trip_k0_t1.sl.cst_82
  revert hd
  generalize trip_k0_t1.sl.v196 E.i E.arg3 E.arg5 E.arg6 E.arg7 E.arg8 (iota .tc S1x128 32 [1]) k0_pay36 E.v24 E.cst (E.harg3.unread E.B.k) (E.harg5.unread E.B.q) (E.harg6.unread E.B.g) (E.harg7.unread E.B.o) (E.harg8.unread E.B.z) k = D
  intro hd
  pointwise
  simp only [hd, rd_q0 _ _ _ k hn]

theorem R_dk1 (s : Fin 384) (x : Fin 128) :
    (E.R k acc f).2.1 (ix2 s x) = acc.2.1 (ix2 s x) + ∑ t, E.B.d 1 (row _ hn t) s * E.B.q (ix2 (row _ hn t) (lane 1 x)) := by
  have hd := trip_d1 E.i E.arg3 E.harg3 E.arg5 E.harg5 E.arg6 E.harg6 E.arg7 E.harg7 E.arg8 E.harg8 E.B k hn E.v28 E.h28 E.cst E.hcst
  delta R tripR_k0_t1 trip_k0_t1
  dsimp only
  delta trip_k0_t1.sl.v217
  unfold k0_pay70 k0_pay68
  revert hd
  generalize k0_pay67 (trip_k0_t1.sl.v239 E.i E.arg3 E.arg5 E.arg8 (iota .tc S1x128 32 [1]) (E.harg3.unread E.B.k) (E.harg5.unread E.B.q) (E.harg8.unread E.B.z) k) (trip_k0_t1.sl.v242 E.i E.arg6 E.arg7 k0_pay37 E.v28 E.cst (E.harg6.unread E.B.g) (E.harg7.unread E.B.o) k) = D
  intro hd
  pointwise
  simp only [hd, rd_q1 _ _ _ k hn]

theorem R_dv (s : Fin 384) (x : Fin 128) :
    (E.R k acc f).2.2.1 (ix2 s x) = acc.2.2.1 (ix2 s x) + (∑ t, E.B.w 0 (row _ hn t) s * E.B.gm 0 (row _ hn t) x) + ∑ t, E.B.w 1 (row _ hn t) s * E.B.gm 1 (row _ hn t) x := by
  have hw0 := trip_w0 E.i E.arg3 E.harg3 E.arg5 E.harg5 E.arg8 E.harg8 E.B k hn
  have hw1 := trip_w1 E.i E.arg3 E.harg3 E.arg5 E.harg5 E.arg8 E.harg8 E.B k hn
  have hg0 := trip_gm0 E.i E.arg6 E.harg6 E.B k hn E.cst E.hcst
  have hg1 := trip_gm1 E.i E.arg6 E.harg6 E.B k hn E.cst E.hcst
  delta R tripR_k0_t1 trip_k0_t1
  dsimp only
  delta trip_k0_t1.sl.v200 trip_k0_t1.sl.v199 trip_k0_t1.sl.v198 trip_k0_t1.sl.cst_82
  revert hw0 hw1 hg0 hg1
  generalize trip_k0_t1.sl.v192 E.i E.arg3 E.arg5 E.arg8 (iota .tc S1x128 32 [1]) (E.harg3.unread E.B.k) (E.harg5.unread E.B.q) (E.harg8.unread E.B.z) k = W0
  generalize trip_k0_t1.sl.v239 E.i E.arg3 E.arg5 E.arg8 (iota .tc S1x128 32 [1]) (E.harg3.unread E.B.k) (E.harg5.unread E.B.q) (E.harg8.unread E.B.z) k = W1
  generalize trip_k0_t1.sl.v174 E.i E.arg6 k0_pay36 E.cst (E.harg6.unread E.B.g) k = G0
  generalize trip_k0_t1.sl.v221 E.i E.arg6 k0_pay37 E.cst (E.harg6.unread E.B.g) k = G1
  intro hw0 hw1 hg0 hg1
  pointwise [k0_pay69]
  simp only [hw0, hw1, hg0, hg1]

theorem R_dc0 (s : Fin 384) :
    (E.R k acc f).2.2.2.1 (ix2 0 s) = acc.2.2.2.1 (ix2 0 s) - ∑ t, E.B.d 0 (row _ hn t) s := by
  have hd := trip_d0 E.i E.arg3 E.harg3 E.arg5 E.harg5 E.arg6 E.harg6 E.arg7 E.harg7 E.arg8 E.harg8 E.B k hn E.v24 E.h24 E.cst E.hcst
  delta R tripR_k0_t1 trip_k0_t1
  dsimp only
  delta trip_k0_t1.sl.v214 trip_k0_t1.sl.v213 trip_k0_t1.sl.v212
  revert hd
  generalize trip_k0_t1.sl.v196 E.i E.arg3 E.arg5 E.arg6 E.arg7 E.arg8 (iota .tc S1x128 32 [1]) k0_pay36 E.v24 E.cst (E.harg3.unread E.B.k) (E.harg5.unread E.B.q) (E.harg6.unread E.B.g) (E.harg7.unread E.B.o) (E.harg8.unread E.B.z) k = D
  intro hd
  pointwise
  simp only [hd]

theorem R_dc1 (s : Fin 384) :
    (E.R k acc f).2.2.2.2 (ix2 0 s) = acc.2.2.2.2 (ix2 0 s) - ∑ t, E.B.d 1 (row _ hn t) s := by
  have hd := trip_d1 E.i E.arg3 E.harg3 E.arg5 E.harg5 E.arg6 E.harg6 E.arg7 E.harg7 E.arg8 E.harg8 E.B k hn E.v28 E.h28 E.cst E.hcst
  delta R tripR_k0_t1 trip_k0_t1
  dsimp only
  unfold k0_pay72
  revert hd
  generalize k0_pay67 (trip_k0_t1.sl.v239 E.i E.arg3 E.arg5 E.arg8 (iota .tc S1x128 32 [1]) (E.harg3.unread E.B.k) (E.harg5.unread E.B.q) (E.harg8.unread E.B.z) k) (trip_k0_t1.sl.v242 E.i E.arg6 E.arg7 k0_pay37 E.v28 E.cst (E.harg6.unread E.B.g) (E.harg7.unread E.B.o) k) = D
  intro hd
  pointwise
  simp only [hd]

include hn in
/-- After a trip's stores the query gradient's buffer reads what it read before, plus the trip's share on the trip's rows. -/
theorem L_read (r : Fin 4224) (l : Fin 256) :
    E.arg9.view.read (Elt Ideal) (E.arg9.view.writes (Elt Ideal) f (E.L k acc f)) (ix2 r l)
      = (E.arg9.view.read (Elt Ideal) f (ix2 r l) : EReal)
        + if r.val / 384 = (E.i 2).val + 1 + k.val then ∑ s, E.B.d (hd l) r s * E.B.k (ix2 s l) else 0 := by
  have hd0 := trip_d0 E.i E.arg3 E.harg3 E.arg5 E.harg5 E.arg6 E.harg6 E.arg7 E.harg7 E.arg8 E.harg8 E.B k hn E.v24 E.h24 E.cst E.hcst
  have hd1 := trip_d1 E.i E.arg3 E.harg3 E.arg5 E.harg5 E.arg6 E.harg6 E.arg7 E.harg7 E.arg8 E.harg8 E.B k hn E.v28 E.h28 E.cst E.hcst
  delta L tripL_k0_t1 trip_k0_t1
  dsimp only
  refine read_two (e := .f32) E.arg9 f _ _ _ hn (off7' E.i k) (off8' E.i k) _ _ (fun r l => ∑ s, E.B.d (hd l) r s * E.B.k (ix2 s l)) (fun t x => ?_) (fun t x => ?_) r l
  · delta trip_k0_t1.sl.v209 trip_k0_t1.sl.v208 trip_k0_t1.sl.v197 trip_k0_t1.sl.v180 trip_k0_t1.sl.v205 trip_k0_t1.sl.cst_82
    revert hd0
    generalize trip_k0_t1.sl.v196 E.i E.arg3 E.arg5 E.arg6 E.arg7 E.arg8 (iota .tc S1x128 32 [1]) k0_pay36 E.v24 E.cst (E.harg3.unread E.B.k) (E.harg5.unread E.B.q) (E.harg6.unread E.B.g) (E.harg7.unread E.B.o) (E.harg8.unread E.B.z) k = D
    intro hd0
    pointwise
    simp only [hd0]
    refine congrArg₂ (· + ·) ((rdf2 E.arg9 f _ (off7' E.i k) t x (by omega) (by omega)).trans ?_) (Finset.sum_congr rfl fun s _ => congrArg₂ (· * ·) ?_ (rd_k0 _ E.harg3 _ _ _ _))
    · exact congrArg _ (congrArg₂ ix2 rfl (Fin.ext (by simp)))
    · exact congrArg (fun h => E.B.d h _ _) (Fin.ext (by show 0 = (128 * 0 + x.val) / 128; omega))
  · delta trip_k0_t1.sl.v251
    unfold k0_pay71 k0_pay68
    revert hd1
    generalize k0_pay67 (trip_k0_t1.sl.v239 E.i E.arg3 E.arg5 E.arg8 (iota .tc S1x128 32 [1]) (E.harg3.unread E.B.k) (E.harg5.unread E.B.q) (E.harg8.unread E.B.z) k) (trip_k0_t1.sl.v242 E.i E.arg6 E.arg7 k0_pay37 E.v28 E.cst (E.harg6.unread E.B.g) (E.harg7.unread E.B.o) k) = D
    intro hd1
    pointwise
    simp only [hd1]
    refine congrArg₂ (· + ·) ((rdf2 E.arg9 f _ (off8' E.i k) t x (by omega) (by omega)).trans ?_) (Finset.sum_congr rfl fun s _ => congrArg₂ (· * ·) ?_ (rd_k1 _ E.harg3 _ _ _ _))
    · exact congrArg _ (congrArg₂ ix2 rfl (Fin.ext (by simp)))
    · exact congrArg (fun h => E.B.d h _ _) (Fin.ext (by show 1 = (128 * 1 + x.val) / 128; omega))

variable (G : E.arg9.view.ty.Contents (Elt Ideal)) (init : FVec Ideal S384x128 .f32 × FVec Ideal S384x128 .f32 × FVec Ideal S384x128 .f32 × FVec Ideal S1x384 .f32 × FVec Ideal S1x384 .f32)

theorem st_succ : E.st G init (k.val + 1)
    = (E.R k (E.st G init k.val).1 (E.arg9.view.writes (Elt Ideal) G (E.st G init k.val).2),
      E.L k (E.st G init k.val).1 (E.arg9.view.writes (Elt Ideal) G (E.st G init k.val).2) ++ (E.st G init k.val).2) :=
  st_k0_t1_succ (F := Ideal) Variants.none E.c none E.i E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg2 (iota .tc S1x128 32 [1]) k0_pay36 k0_pay37 E.v24 E.v28 E.v29 E.v30 E.v32 E.v78 E.v90 E.v93 E.v121 E.v122 E.v125 E.v140 E.cst (E.harg3.unread E.B.k) (E.harg5.unread E.B.q) (E.harg6.unread E.B.g) (E.harg7.unread E.B.o) (E.harg8.unread E.B.z) G init k

/-- Before trip `k` the carried values and the query gradient's buffer hold what they held before the loop plus the shares of the first `k` row tiles
below the diagonal. -/
theorem st_closed (k : ℕ) (hk : k ≤ 10 - (E.i 2).val) :
    (∀ s x, (E.st G init k).1.1 (ix2 s x) = (init.1 (ix2 s x) : EReal) + ∑ m ∈ Finset.range k, tile (fun r => E.B.d 0 r s * E.B.q (ix2 r (lane 0 x))) ((E.i 2).val + 1 + m))
    ∧ (∀ s x, (E.st G init k).1.2.1 (ix2 s x) = (init.2.1 (ix2 s x) : EReal) + ∑ m ∈ Finset.range k, tile (fun r => E.B.d 1 r s * E.B.q (ix2 r (lane 1 x))) ((E.i 2).val + 1 + m))
    ∧ (∀ s x, (E.st G init k).1.2.2.1 (ix2 s x) = (init.2.2.1 (ix2 s x) : EReal)
        + ∑ m ∈ Finset.range k, (tile (fun r => E.B.w 0 r s * E.B.gm 0 r x) ((E.i 2).val + 1 + m) + tile (fun r => E.B.w 1 r s * E.B.gm 1 r x) ((E.i 2).val + 1 + m)))
    ∧ (∀ s, (E.st G init k).1.2.2.2.1 (ix2 0 s) = (init.2.2.2.1 (ix2 0 s) : EReal) + ∑ m ∈ Finset.range k, - tile (fun r => E.B.d 0 r s) ((E.i 2).val + 1 + m))
    ∧ (∀ s, (E.st G init k).1.2.2.2.2 (ix2 0 s) = (init.2.2.2.2 (ix2 0 s) : EReal) + ∑ m ∈ Finset.range k, - tile (fun r => E.B.d 1 r s) ((E.i 2).val + 1 + m))
    ∧ (∀ r l, E.arg9.view.read (Elt Ideal) (E.arg9.view.writes (Elt Ideal) G (E.st G init k).2) (ix2 r l) = (E.arg9.view.read (Elt Ideal) G (ix2 r l) : EReal)
        + ∑ m ∈ Finset.range k, if r.val / 384 = (E.i 2).val + 1 + m then ∑ s, E.B.d (hd l) r s * E.B.k (ix2 s l) else 0) := by
  induction k with
  | zero => simp [st, st_k0_t1]
  | succ k ih =>
    obtain ⟨i1, i2, i3, i4, i5, i6⟩ := ih (by omega)
    have hk' : k < (k0_t1_loop E.i).trips := by rw [trips1]; omega
    have hn : (E.i 2).val + 1 + k < 11 := by omega
    have hs := E.st_succ ⟨k, hk'⟩ G init
    simp only at hs
    simp only [hs, Finset.sum_range_succ, tile, dif_pos hn]
    refine ⟨fun s x => ?_, fun s x => ?_, fun s x => ?_, fun s => ?_, fun s => ?_, fun r l => ?_⟩
    · rw [R_dk0 E ⟨k, hk'⟩ hn, i1 s x]; exact add_assoc _ _ _
    · rw [R_dk1 E ⟨k, hk'⟩ hn, i2 s x]; exact add_assoc _ _ _
    · rw [R_dv E ⟨k, hk'⟩ hn, i3 s x]; exact (add_assoc _ _ _).trans (add_assoc _ _ _)
    · rw [R_dc0 E ⟨k, hk'⟩ hn, i4 s, sub_eq_add_neg]; exact add_assoc _ _ _
    · rw [R_dc1 E ⟨k, hk'⟩ hn, i5 s, sub_eq_add_neg]; exact add_assoc _ _ _
    · rw [View.writes_append, L_read E ⟨k, hk'⟩ hn, i6 r l]; exact add_assoc _ _ _

end Env

end Cert.FoxBwd

end
-- ==== Proof.Body.lean ====
module

public import proofs.«01_k».proof.Proof.Trip

@[expose] public section

/-! # The diagonal tile, and the body in closed form

What the body computes on the diagonal tile (where a key counts for the rows at or after it), and what it leaves in the
five output buffers after the loop over the remaining row tiles. -/

set_option maxRecDepth 16384

noncomputable section

namespace Cert.FoxBwd

open Idealize.ShloMosaic Idealize.ShloMosaic.TcCoe
open Cert.KernelIdeal Cert.KernelIdeal.Gen

namespace Blk
variable (B : Blk)

/-- The weight of key `s` of tile `j` for row `r`: zero for a row before the key. -/
def P (j : ℕ) (h : Fin 2) (r : Fin 4224) (s : Fin 384) : EReal := if 384 * j + s.val ≤ r.val then B.w h r s else 0

/-- The gradient of the score of key `s` of tile `j` and row `r`: zero for a row before the key. -/
def D (j : ℕ) (h : Fin 2) (r : Fin 4224) (s : Fin 384) : EReal := if 384 * j + s.val ≤ r.val then B.d h r s else 0

end Blk

/-- The buffers and blocks of one grid point. -/
structure Mem where
  c : Dev nD
  i : grid0.Coords
  arg3 : Memref sig .tc .vmem S384x256 .bf16
  harg3 : arg3.IsWhole
  arg4 : Memref sig .tc .vmem S384x128 .bf16
  harg4 : arg4.IsWhole
  arg5 : Memref sig .tc .vmem S4224x256 .bf16
  harg5 : arg5.IsWhole
  arg6 : Memref sig .tc .vmem S4224x128 .bf16
  harg6 : arg6.IsWhole
  arg7 : Memref sig .tc .vmem S4224x128 .f32
  harg7 : arg7.IsWhole
  arg8 : Memref sig .tc .vmem S1x1x4224x128 .f32
  harg8 : arg8.IsWhole
  arg9 : Memref sig .tc .vmem S4224x256 .f32
  harg9 : arg9.IsWhole
  arg10 : Memref sig .tc .vmem S384x256 .f32
  harg10 : arg10.IsWhole
  arg11 : Memref sig .tc .vmem S384x128 .f32
  harg11 : arg11.IsWhole
  arg12 : Memref sig .tc .vmem S1x1x1x384 .f32
  harg12 : arg12.IsWhole
  arg13 : Memref sig .tc .vmem S1x1x1x384 .f32
  harg13 : arg13.IsWhole
  B : Blk

theorem toInt_small (t : Fin 384) : (BitVec.ofNat 32 t.val).toInt = t.val := by
  have h : (BitVec.ofNat 32 t.val).toNat = t.val := by rw [BitVec.toNat_ofNat]; omega
  rw [BitVec.toInt_eq_toNat_of_lt (by omega), h]

/-- Row `t` is selected where it is at or after key `s`. -/
theorem sel_tri (t s : Fin 384) (a b : EReal) :
    Scalar.select (IntOp.cmpi .sge (BitVec.ofNat 32 t.val) (BitVec.ofNat 32 s.val)) a b = if s.val ≤ t.val then a else b :=
  select_ite _ _ (by
    have ht := toInt_small t
    have hs := toInt_small s
    rw [WordCmp.cmpi_sge_eq, ht, hs]
    by_cases h : s.val ≤ t.val
    · rw [if_pos h, decide_eq_true (by omega)]; rfl
    · rw [if_neg h, decide_eq_false (by omega)]; rfl) a b

theorem rdq {e : EltTy} (h : Fin 2) (m : Memref sig .tc .vmem S4224x256 e) (hm : m.IsWhole) (X : Vec Ideal S4224x256 e) {off : Fin 2 → ℕ} {n : ℕ} (hn : n < 11)
    (ho : off = ![384 * n, 128 * h.val]) (t : Fin 384) (x : Fin 128) (inb) :
    View.readAt (Elt Ideal) m.view (Rect.unit (s := S4224x256) off S384x128.size inb).toLoadRect (hm.unread X) (ix2 t x) = X (ix2 (row n hn t) (lane h x)) :=
  rd2 (F := Ideal) m hm X inb ho t x (by omega) (by omega)
theorem rdg {e : EltTy} (m : Memref sig .tc .vmem S4224x128 e) (hm : m.IsWhole) (X : Vec Ideal S4224x128 e) {off : Fin 2 → ℕ} {n : ℕ} (hn : n < 11)
    (ho : off = ![384 * n, 0]) (t : Fin 384) (x : Fin 128) (inb) :
    View.readAt (Elt Ideal) m.view (Rect.unit (s := S4224x128) off S384x128.size inb).toLoadRect (hm.unread X) (ix2 t x) = X (ix2 (row n hn t) x) :=
  (rd2 (F := Ideal) m hm X inb ho t x (by omega) (by omega)).trans (congrArg X (congrArg₂ ix2 rfl (Fin.ext (by simp))))
theorem rdz {e : EltTy} (m : Memref sig .tc .vmem S1x1x4224x128 e) (hm : m.IsWhole) (X : Vec Ideal S1x1x4224x128 e) {off : Fin 4 → ℕ} {n : ℕ} (hn : n < 11)
    (ho : off = ![0, 0, 384 * n, 0]) (t : Fin 384) (x : Fin 128) (inb) :
    View.readAt (Elt Ideal) m.view (Rect.unit (s := S1x1x4224x128) off S1x1x384x128.size inb).toLoadRect (hm.unread X) (ix4 0 0 t x) = X (ix4 0 0 (row n hn t) x) :=
  (rd4 (F := Ideal) m hm X inb ho t x (by omega) (by omega)).trans (congrArg X (congrArg (ix4 0 0 (row n hn t)) (Fin.ext (by simp))))

theorem mask_named : Named.named (F := Ideal) κ "mask" (φ := .f32) 0xF149F2CA#32 = (⊥ : EReal) :=
  IdealRules.named_const.ideal_named_scalar _ _ _ _ rfl

namespace Mem
variable (M : Mem)

/-- The key tile. -/
abbrev j : ℕ := (M.i 2).val
theorem hj : M.j < 11 := (M.i 2).isLt

/-- The values' tile loaded. -/
abbrev tv := (View.readAt (Elt Ideal) M.arg4.view (Rect.unit (s := S384x128) ![0, 0] S384x128.size inb_S384x128_S384x128_0_0).toLoadRect (M.harg4.unread M.B.v))
/-- The keys' tile of a head loaded. -/
abbrev tk0 := (View.readAt (Elt Ideal) M.arg3.view (Rect.unit (s := S384x256) ![0, 0] S384x128.size inb_S384x256_S384x128_0_0).toLoadRect (M.harg3.unread M.B.k))
abbrev tk1 := (View.readAt (Elt Ideal) M.arg3.view (Rect.unit (s := S384x256) ![0, 128] S384x128.size inb_S384x256_S384x128_0_128).toLoadRect (M.harg3.unread M.B.k))
/-- The queries' diagonal tile of a head loaded. -/
abbrev tq0 := (View.readAt (Elt Ideal) M.arg5.view (Rect.unit (s := S4224x256) (k0_off3 M.i) S384x128.size (k0_off3_inb M.i)).toLoadRect (M.harg5.unread M.B.q))
abbrev tq1 := (View.readAt (Elt Ideal) M.arg5.view (Rect.unit (s := S4224x256) (k0_off4 M.i) S384x128.size (k0_off4_inb M.i)).toLoadRect (M.harg5.unread M.B.q))
/-- The diagonal tiles of the output's gradient, of the output and of the normalisers loaded. -/
abbrev tg := (View.readAt (Elt Ideal) M.arg6.view (Rect.unit (s := S4224x128) (k0_off1 M.i) S384x128.size (k0_off1_inb M.i)).toLoadRect (M.harg6.unread M.B.g))
abbrev tO := (View.readAt (Elt Ideal) M.arg7.view (Rect.unit (s := S4224x128) (k0_off1 M.i) S384x128.size (k0_off1_inb M.i)).toLoadRect (M.harg7.unread M.B.o))
abbrev tz := (View.readAt (Elt Ideal) M.arg8.view (Rect.unit (s := S1x1x4224x128) (k0_off2 M.i) S1x1x384x128.size (k0_off2_inb M.i)).toLoadRect (M.harg8.unread M.B.z))

abbrev w0 : IVec S1x128 32 := iota .tc S1x128 32 [1] iota_S1x128_d1_w32
abbrev p24 := k0_pay41 (F := Ideal) M.tv
abbrev p28 := k0_pay42 (F := Ideal) M.tv
abbrev p35 := k0_pay45 (F := Ideal) M.tg
abbrev p38 := k0_pay46 (F := Ideal) M.tO
abbrev p41 := k0_pay47 (F := Ideal) M.tz
abbrev pD0 := k0_pay51 (F := Ideal) w0 k0_pay36 k0_pay38 M.p24 M.p35 M.p38 M.tz M.tq0 M.tk0
abbrev pD0' := k0_pay52 (F := Ideal) w0 k0_pay36 k0_pay38 M.p24 M.p35 M.p38 M.tz M.tq0 M.tk0
abbrev pV0 := k0_pay53 (F := Ideal) w0 k0_pay36 k0_pay38 k0_pay43 M.p35 M.tz M.tq0 M.tk0
abbrev pK0 := k0_pay54 (F := Ideal) w0 k0_pay36 k0_pay38 M.p24 k0_pay43 M.p35 M.p38 M.tz M.tq0 M.tk0
abbrev pD1 := k0_pay61 (F := Ideal) w0 k0_pay37 k0_pay38 M.p28 M.p35 M.p38 M.p41 M.tq1 M.tk1
abbrev pD1' := k0_pay62 (F := Ideal) w0 k0_pay37 k0_pay38 M.p28 M.p35 M.p38 M.p41 M.tq1 M.tk1
abbrev pV := k0_pay63 (F := Ideal) w0 k0_pay37 k0_pay38 M.p35 M.p41 M.pV0 M.tq1 M.tk1

theorem tk0_at (s : Fin 384) (x : Fin 128) : M.tk0 (ix2 s x) = M.B.k (ix2 s (lane 0 x)) := rd_k0 _ M.harg3 _ _ _ _
theorem tk1_at (s : Fin 384) (x : Fin 128) : M.tk1 (ix2 s x) = M.B.k (ix2 s (lane 1 x)) := rd_k1 _ M.harg3 _ _ _ _
theorem tq0_at (t : Fin 384) (x : Fin 128) : M.tq0 (ix2 t x) = M.B.q (ix2 (row _ M.hj t) (lane 0 x)) := rdq 0 _ M.harg5 _ M.hj (k0_off3_eq M.i) _ _ _
theorem tq1_at (t : Fin 384) (x : Fin 128) : M.tq1 (ix2 t x) = M.B.q (ix2 (row _ M.hj t) (lane 1 x)) := rdq 1 _ M.harg5 _ M.hj (k0_off4_eq M.i) _ _ _
theorem tg_at (t : Fin 384) (x : Fin 128) : M.tg (ix2 t x) = M.B.g (ix2 (row _ M.hj t) x) := rdg _ M.harg6 _ M.hj (k0_off1_eq M.i) _ _ _
theorem tO_at (t : Fin 384) (x : Fin 128) : M.tO (ix2 t x) = M.B.o (ix2 (row _ M.hj t) x) := rdg _ M.harg7 _ M.hj (k0_off1_eq M.i) _ _ _
theorem tz_at (t : Fin 384) (x : Fin 128) : M.tz (ix4 0 0 t x) = M.B.z (ix4 0 0 (row _ M.hj t) x) := rdz _ M.harg8 _ M.hj (k0_off2_eq M.i) _ _ _
theorem tv_at (s : Fin 384) (x : Fin 128) : M.tv (ix2 s x) = M.B.v (ix2 s x) :=
  (rd2 (F := Ideal) M.arg4 M.harg4 M.B.v (off := ![0, 0]) _ rfl s x (by omega) (by omega)).trans (congrArg M.B.v (congrArg₂ ix2 (Fin.ext (by simp)) (Fin.ext (by simp))))

theorem p24_at (s : Fin 384) (x : Fin 128) : M.p24 (ix2 s x) = M.B.vm 0 s x := by
  have h := M.tv_at
  unfold p24
  generalize M.tv = T at h ⊢
  pointwise [k0_pay41, k0_pay40, k0_pay36]
  simp only [sel_h0, h]; rfl
theorem p28_at (s : Fin 384) (x : Fin 128) : M.p28 (ix2 s x) = M.B.vm 1 s x := by
  have h := M.tv_at
  unfold p28
  generalize M.tv = T at h ⊢
  pointwise [k0_pay42, k0_pay40, k0_pay37]
  simp only [sel_h1, h]; rfl

theorem tri (n : ℕ) (hn : n < 11) (t s : Fin 384) : (384 * n + s.val ≤ (row n hn t).val) ↔ s.val ≤ t.val := by
  show 384 * n + s.val ≤ 384 * n + t.val ↔ _; omega

/-- The exponential of the masked score is the masked weight. -/
theorem exp_mask (p : Prop) [Decidable p] (a : EReal) : Ideal.exp (if p then a else ⊥) = if p then Ideal.exp a else 0 := by
  by_cases h : p <;> simp [h]

theorem P0_at (t s : Fin 384) : k0_pay50 (F := Ideal) w0 k0_pay38 M.tz M.tq0 M.tk0 (ix2 t s) = M.B.P M.j 0 (row _ M.hj t) s := by
  have h1 := M.tz_at; have h2 := M.tq0_at; have h3 := M.tk0_at
  generalize M.tz = Z at h1 ⊢
  generalize M.tq0 = Q at h2 ⊢
  generalize M.tk0 = K at h3 ⊢
  pointwise [k0_pay50, k0_pay48, k0_pay47, k0_pay38]
  simp only [sel_tri, sel_z0, h1, h2, h3, Finset.sum_ite_eq', Finset.mem_univ, if_true]
  rw [show (Named.named κ "mask" (4048155338#32) : Ideal .f32) = (⊥ : EReal) from mask_named, exp_mask]
  unfold Blk.P Blk.w
  exact if_congr (tri M.j M.hj t s).symm rfl rfl

theorem P1_at (t s : Fin 384) : k0_pay60 (F := Ideal) w0 k0_pay38 M.p41 M.tq1 M.tk1 (ix2 t s) = M.B.P M.j 1 (row _ M.hj t) s := by
  have h1 := M.tz_at; have h2 := M.tq1_at; have h3 := M.tk1_at
  unfold p41
  generalize M.tz = Z at h1 ⊢
  generalize M.tq1 = Q at h2 ⊢
  generalize M.tk1 = K at h3 ⊢
  pointwise [k0_pay60, k0_pay58, k0_pay47, k0_pay38]
  simp only [sel_tri, sel_z1, h1, h2, h3, Finset.sum_ite_eq', Finset.mem_univ, if_true]
  rw [show (Named.named κ "mask" (4048155338#32) : Ideal .f32) = (⊥ : EReal) from mask_named, exp_mask]
  unfold Blk.P Blk.w
  exact if_congr (tri M.j M.hj t s).symm rfl rfl

theorem p35_at (t : Fin 384) (x : Fin 128) : M.p35 (ix2 t x) = M.B.g (ix2 (row _ M.hj t) x) := by
  have h := M.tg_at
  unfold p35
  generalize M.tg = T at h ⊢
  pointwise [k0_pay45]; exact h t x
theorem p38_at (t : Fin 384) (x : Fin 128) : M.p38 (ix2 t x) = M.B.o (ix2 (row _ M.hj t) x) := by
  have h := M.tO_at
  unfold p38
  generalize M.tO = T at h ⊢
  pointwise [k0_pay46]; exact h t x

theorem PD (j : ℕ) (h : Fin 2) (r : Fin 4224) (s : Fin 384) :
    M.B.P j h r s * ((∑ x, M.B.gm h r x * M.B.vm h s x) - ∑ x, M.B.gm h r x * M.B.o (ix2 r x)) = M.B.D j h r s := by
  unfold Blk.P Blk.D Blk.d
  split
  · rfl
  · exact zero_mul _

theorem D0_at (t s : Fin 384) : M.pD0 (ix2 t s) = M.B.D M.j 0 (row _ M.hj t) s := by
  have h1 := M.P0_at; have h2 := M.p24_at; have h3 := M.p35_at; have h4 := M.p38_at
  unfold pD0 k0_pay51
  generalize k0_pay50 (F := Ideal) w0 k0_pay38 M.tz M.tq0 M.tk0 = P at h1 ⊢
  generalize M.p24 = V at h2 ⊢
  generalize M.p35 = G at h3 ⊢
  generalize M.p38 = O at h4 ⊢
  pointwise [k0_pay49, k0_pay36]
  simp only [sel_h0, h1, h2, h3, h4]
  rw [← PD]
  simp only [Blk.gm, ite_mul, zero_mul]; rfl
theorem D1_at (t s : Fin 384) : M.pD1 (ix2 t s) = M.B.D M.j 1 (row _ M.hj t) s := by
  have h1 := M.P1_at; have h2 := M.p28_at; have h3 := M.p35_at; have h4 := M.p38_at
  unfold pD1 k0_pay61
  generalize k0_pay60 (F := Ideal) w0 k0_pay38 M.p41 M.tq1 M.tk1 = P at h1 ⊢
  generalize M.p28 = V at h2 ⊢
  generalize M.p35 = G at h3 ⊢
  generalize M.p38 = O at h4 ⊢
  pointwise [k0_pay59, k0_pay37]
  simp only [sel_h1, h1, h2, h3, h4]
  rw [← PD]
  simp only [Blk.gm, ite_mul, zero_mul]; rfl
theorem D0'_at (t s : Fin 384) : M.pD0' (ix2 t s) = M.B.D M.j 0 (row _ M.hj t) s := M.D0_at t s
theorem D1'_at (t s : Fin 384) : M.pD1' (ix2 t s) = M.B.D M.j 1 (row _ M.hj t) s := M.D1_at t s

/-- The key gradient's first head on the diagonal tile. -/
theorem K0_at (s : Fin 384) (x : Fin 128) : M.pK0 (ix2 s x) = ∑ t, M.B.D M.j 0 (row _ M.hj t) s * M.B.q (ix2 (row _ M.hj t) (lane 0 x)) := by
  have h1 := M.D0'_at; have h2 := M.tq0_at
  unfold pK0 k0_pay54
  rw [show k0_pay52 (F := Ideal) w0 k0_pay36 k0_pay38 M.p24 M.p35 M.p38 M.tz M.tq0 M.tk0 = M.pD0' from rfl]
  generalize M.pD0' = D at h1 ⊢
  generalize M.tq0 = Q at h2 ⊢
  pointwise [k0_pay48, k0_pay43]
  simp only [h1, h2]
/-- The key gradient's second head on the diagonal tile. -/
theorem K1_at (s : Fin 384) (x : Fin 128) : k0_pay64 (F := Ideal) k0_pay43 (k0_pay58 M.tq1) M.pD1' (ix2 s x) = ∑ t, M.B.D M.j 1 (row _ M.hj t) s * M.B.q (ix2 (row _ M.hj t) (lane 1 x)) := by
  have h1 := M.D1'_at; have h2 := M.tq1_at
  generalize M.pD1' = D at h1 ⊢
  generalize M.tq1 = Q at h2 ⊢
  pointwise [k0_pay64, k0_pay58, k0_pay43]
  simp only [h1, h2]
/-- The value gradient on the diagonal tile. -/
theorem V_at (s : Fin 384) (x : Fin 128) : M.pV (ix2 s x) = (∑ t, M.B.P M.j 0 (row _ M.hj t) s * M.B.gm 0 (row _ M.hj t) x) + ∑ t, M.B.P M.j 1 (row _ M.hj t) s * M.B.gm 1 (row _ M.hj t) x := by
  have h0 := M.P0_at; have h1 := M.P1_at; have h3 := M.p35_at
  unfold pV k0_pay63 pV0 k0_pay53
  generalize k0_pay50 (F := Ideal) w0 k0_pay38 M.tz M.tq0 M.tk0 = P0 at h0 ⊢
  generalize k0_pay60 (F := Ideal) w0 k0_pay38 M.p41 M.tq1 M.tk1 = P1 at h1 ⊢
  generalize M.p35 = G at h3 ⊢
  pointwise [k0_pay49, k0_pay59, k0_pay36, k0_pay37, k0_pay43]
  simp only [sel_h0, sel_h1, h0, h1, h3, Blk.gm, mul_ite, mul_zero]; rfl
theorem C0_at (s : Fin 384) : k0_pay57 (F := Ideal) k0_pay44 M.pD0 (ix2 0 s) = - ∑ t, M.B.D M.j 0 (row _ M.hj t) s := by
  have h1 := M.D0_at
  generalize M.pD0 = D at h1 ⊢
  pointwise [k0_pay57, k0_pay44]
  simp only [h1, zero_sub]
theorem C1_at (s : Fin 384) : k0_pay66 (F := Ideal) k0_pay44 M.pD1 (ix2 0 s) = - ∑ t, M.B.D M.j 1 (row _ M.hj t) s := by
  have h1 := M.D1_at
  generalize M.pD1 = D at h1 ⊢
  pointwise [k0_pay66, k0_pay44]
  simp only [h1, zero_sub]

end Mem

end Cert.FoxBwd

end
-- ==== Proof.RunLater.lean ====
module

public import proofs.«01_k».proof.Proof.RunFirst

@[expose] public section

/-! # The body of the idealized attention backward at a later key tile -/

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 2000000 in
/-- The body at a later key tile: as `runFirst`, the query gradient's buffer not filled with zeros first. -/
noncomputable def runLater (c : Dev nD) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole) (hc0 : ¬first i)
    (x0 : Vec F S384x256 .bf16) (x1 : Vec F S384x128 .bf16) (x2 : Vec F S4224x256 .bf16) (x3 : Vec F S4224x128 .bf16) (x4 : Vec F S4224x128 .f32) (x5 : Vec F S1x1x4224x128 .f32) (x6 : Vec F S4224x256 .f32) :
    Σ' (L6 : List (View.Piece (Elt F) S4224x256 .f32)), Σ' (L7 : List (View.Piece (Elt F) S384x256 .f32)), Σ' (L8 : List (View.Piece (Elt F) S384x128 .f32)), Σ' (L9 : List (View.Piece (Elt F) S1x1x1x384 .f32)), { L10 : List (View.Piece (Elt F) S1x1x1x384 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread x6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [H9]; · iexists _; iexact H9
    iexists _; iexact H10

end Cert.FoxBwd

end
-- ==== Proof.Post.lean ====
module

public import proofs.«01_k».proof.Proof.Body
public import proofs.«01_k».proof.Proof.RunFirst
public import proofs.«01_k».proof.Proof.RunLater

@[expose] public section

/-! # What the body leaves in its five outputs

The sums over the row tiles: the diagonal tile, then the tiles after it; the tiles before it count nothing. -/

set_option maxRecDepth 16384

noncomputable section

namespace Cert.FoxBwd

open Idealize.ShloMosaic Idealize.ShloMosaic.TcCoe
open Cert.KernelIdeal Cert.KernelIdeal.Gen

/-- Tile `j`, then the tiles after it, are all eleven where the tiles before count nothing. -/
theorem split_tiles (f : ℕ → EReal) (j : ℕ) (hj : j < 11) (h0 : ∀ n, n < j → f n = 0) :
    f j + ∑ m ∈ Finset.range (10 - j), f (j + 1 + m) = ∑ n ∈ Finset.range 11, f n := by
  obtain ⟨k, hk⟩ : ∃ k, 11 = j + (k + 1) := ⟨10 - j, by omega⟩
  rw [show 10 - j = k by omega, hk, Finset.sum_range_add, Finset.sum_eq_zero (s := Finset.range j) (fun n hn => h0 n (Finset.mem_range.mp hn)), zero_add,
    Finset.sum_range_succ', Nat.add_zero, add_comm]
  exact congrArg (· + f j) (Finset.sum_congr rfl fun m _ => congrArg f (by omega))

/-- A sum over tiles that picks the tile of a row. -/
theorem pick_tile (a : EReal) (q j n : ℕ) (hq : q < j + 1 + n) :
    (∑ m ∈ Finset.range n, if q = j + 1 + m then a else 0) = if j < q then a else 0 := by
  by_cases h : j < q
  · rw [if_pos h, Finset.sum_eq_single (q - (j + 1))]
    · rw [if_pos (by omega)]
    · intro b _ hb; rw [if_neg (by omega)]
    · intro hb; exact absurd (Finset.mem_range.mpr (by omega)) hb
  · rw [if_neg h]; exact Finset.sum_eq_zero fun m _ => if_neg (by omega)

theorem tile_zero (f : Fin 4224 → EReal) (n : ℕ) (h : ∀ (hn : n < 11) t, f (row n hn t) = 0) : tile f n = 0 := by
  unfold tile; split
  · exact Finset.sum_eq_zero fun t _ => h _ t
  · rfl
theorem tile_congr (f g : Fin 4224 → EReal) (n : ℕ) (h : ∀ (hn : n < 11) t, f (row n hn t) = g (row n hn t)) : tile f n = tile g n := by
  unfold tile; split
  · exact Finset.sum_congr rfl fun t _ => h _ t
  · rfl

namespace Blk
variable (B : Blk) (j : ℕ)

theorem D_before (h : Fin 2) (n : ℕ) (hn : n < 11) (t s : Fin 384) (hj : n < j) : B.D j h (row n hn t) s = 0 :=
  if_neg (by show ¬ 384 * j + s.val ≤ 384 * n + t.val; omega)
theorem P_before (h : Fin 2) (n : ℕ) (hn : n < 11) (t s : Fin 384) (hj : n < j) : B.P j h (row n hn t) s = 0 :=
  if_neg (by show ¬ 384 * j + s.val ≤ 384 * n + t.val; omega)
theorem D_after (h : Fin 2) (n : ℕ) (hn : n < 11) (t s : Fin 384) (hj : j < n) : B.D j h (row n hn t) s = B.d h (row n hn t) s :=
  if_pos (by show 384 * j + s.val ≤ 384 * n + t.val; omega)
theorem P_after (h : Fin 2) (n : ℕ) (hn : n < 11) (t s : Fin 384) (hj : j < n) : B.P j h (row n hn t) s = B.w h (row n hn t) s :=
  if_pos (by show 384 * j + s.val ≤ 384 * n + t.val; omega)

/-- The key gradient of key tile `j`: over the rows, the score gradients times the queries. -/
def outK : Vec Ideal S384x256 .f32 := fun y =>
  ∑ n ∈ Finset.range 11, tile (fun r => B.D j (hd (y 1)) r (y 0) * B.q (ix2 r (y 1))) n
/-- The value gradient of key tile `j`: over the rows, the weights times the output's gradient, each head on its own lanes. -/
def outV : Vec Ideal S384x128 .f32 := fun y =>
  ∑ n ∈ Finset.range 11, (tile (fun r => B.P j 0 r (y 0) * B.gm 0 r (y 1)) n + tile (fun r => B.P j 1 r (y 0) * B.gm 1 r (y 1)) n)
/-- The gate gradient of head `h` of key tile `j`: minus the sum over the rows of the score gradients. -/
def outC (h : Fin 2) : Vec Ideal S1x1x1x384 .f32 := fun y => ∑ n ∈ Finset.range 11, - tile (fun r => B.D j h r (y 3)) n
/-- What key tile `j` adds to the query gradient: over the keys, the score gradients times the keys. -/
def addQ : Vec Ideal S4224x256 .f32 := fun y => ∑ s, B.D j (hd (y 1)) (y 0) s * B.k (ix2 s (y 1))

end Blk

namespace Mem
variable (M : Mem)

/-- The loop over the later row tiles at this grid point. -/
def env : Env where
  arg3 := M.arg3
  harg3 := M.harg3
  arg4 := M.arg4
  harg4 := M.harg4
  arg5 := M.arg5
  harg5 := M.harg5
  arg6 := M.arg6
  harg6 := M.harg6
  arg7 := M.arg7
  harg7 := M.harg7
  arg8 := M.arg8
  harg8 := M.harg8
  arg9 := M.arg9
  harg9 := M.harg9
  arg10 := M.arg10
  harg10 := M.harg10
  arg11 := M.arg11
  harg11 := M.harg11
  arg12 := M.arg12
  harg12 := M.harg12
  arg13 := M.arg13
  harg13 := M.harg13
  c := M.c
  i := M.i
  B := M.B
  arg2 := BitVec.ofNat 32 (M.i 2).val
  v29 := k0_pay43
  v30 := k0_pay44
  v32 := Scalar.muli (BitVec.ofNat 32 (M.i 2).val) 384#32
  v78 := M.pK0
  v90 := k0_pay57 k0_pay44 M.pD0
  v93 := k0_pay58 M.tq1
  v121 := M.pD1
  v122 := M.pD1'
  v125 := M.pV
  v140 := Scalar.addi (BitVec.ofNat 32 (M.i 2).val) 1#32
  v24 := M.p24
  v28 := M.p28
  cst := FloatOps.ofBits .bf16 0#16
  h24 := M.p24_at
  h28 := M.p28_at
  hcst := by first | rfl | (pointwise) | simp

/-- What the loop starts from: the diagonal tile's sums. -/
def init : FVec Ideal S384x128 .f32 × FVec Ideal S384x128 .f32 × FVec Ideal S384x128 .f32 × FVec Ideal S1x384 .f32 × FVec Ideal S1x384 .f32 :=
  (M.pK0, k0_pay64 k0_pay43 (k0_pay58 M.tq1) M.pD1', M.pV, k0_pay57 k0_pay44 M.pD0, k0_pay66 k0_pay44 M.pD1)

/-- The query gradient's store of the first head on the diagonal tile. -/
def q0 (f : M.arg9.view.ty.Contents (Elt Ideal)) : View.Piece (Elt Ideal) S4224x256 .f32 :=
  ⟨Rect.unit (s := S4224x256) (k0_off3 M.i) S384x128.size (k0_off3_inb M.i), k0_pay56 M.pD0'
    (k0_pay55 (View.readAt (Elt Ideal) M.arg9.view (Rect.unit (s := S4224x256) (k0_off3 M.i) S384x128.size (k0_off3_inb M.i)).toLoadRect f)) M.tk0⟩
/-- The second head's rows as loaded from contents `f`. -/
def vb (f : M.arg9.view.ty.Contents (Elt Ideal)) : Vec Ideal S384x128 .f32 :=
  View.readAt (Elt Ideal) M.arg9.view (Rect.unit (s := S4224x256) (k0_off4 M.i) S384x128.size (k0_off4_inb M.i)).toLoadRect f
/-- The query gradient's store of the second head. -/
def q1 (b : Vec Ideal S384x128 .f32) : View.Piece (Elt Ideal) S4224x256 .f32 :=
  ⟨Rect.unit (s := S4224x256) (k0_off4 M.i) S384x128.size (k0_off4_inb M.i), k0_pay65 M.pD1' b M.tk1⟩

/-- The loop's result from contents `f` of the query gradient before the diagonal tile. -/
def fin (f : M.arg9.view.ty.Contents (Elt Ideal)) (b : Vec Ideal S384x128 .f32) :=
  M.env.st (M.arg9.view.writes (Elt Ideal) f [M.q1 b, M.q0 f]) M.init (k0_t1_loop M.i).trips

theorem pay56_at (b : Vec Ideal S384x128 .f32) (t : Fin 384) (x : Fin 128) :
    k0_pay56 (F := Ideal) M.pD0' (k0_pay55 b) M.tk0 (ix2 t x) = (b (ix2 t x) : EReal) + ∑ s, M.B.D M.j 0 (row _ M.hj t) s * M.B.k (ix2 s (lane 0 x)) := by
  have h1 := M.D0'_at; have h2 := M.tk0_at
  generalize M.pD0' = D at h1 ⊢
  generalize M.tk0 = K at h2 ⊢
  pointwise [k0_pay56, k0_pay55]
  simp only [h1, h2]
theorem pay65_at (b : Vec Ideal S384x128 .f32) (t : Fin 384) (x : Fin 128) :
    k0_pay65 (F := Ideal) M.pD1' b M.tk1 (ix2 t x) = (b (ix2 t x) : EReal) + ∑ s, M.B.D M.j 1 (row _ M.hj t) s * M.B.k (ix2 s (lane 1 x)) := by
  have h1 := M.D1'_at; have h2 := M.tk1_at
  generalize M.pD1' = D at h1 ⊢
  generalize M.tk1 = K at h2 ⊢
  pointwise [k0_pay65]
  simp only [h1, h2]

theorem vb_at (f) (t : Fin 384) (x : Fin 128) : M.vb f (ix2 t x) = M.arg9.view.read (Elt Ideal) f (ix2 (row _ M.hj t) (lane 1 x)) :=
  rdf2 (e := .f32) M.arg9 f _ (k0_off4_eq M.i) t x (by have : (M.i 2).val < 11 := M.hj; omega) (by omega)
/-- The second head's rows are untouched by the first head's store. -/
theorem vb_q0 (f g) (t : Fin 384) (x : Fin 128) : M.vb (M.arg9.view.writes (Elt Ideal) f [M.q0 g]) (ix2 t x) = M.arg9.view.read (Elt Ideal) f (ix2 (row _ M.hj t) (lane 1 x)) := by
  rw [vb_at]; unfold q0
  rw [View.read_writes_cons_put M.arg9.view f (k0_off3_inb M.i) _ _ (k0_off3_eq M.i), View.writes_nil]
  refine (put2 _ _ _ _ _ _).trans ?_
  rw [dif_neg]; simp only [lane]; omega

theorem fin_q (f) (b) (hb : ∀ t x, b (ix2 t x) = M.arg9.view.read (Elt Ideal) f (ix2 (row _ M.hj t) (lane 1 x))) (y : S4224x256.Idx) :
    M.arg9.view.read (Elt Ideal) (M.arg9.view.writes (Elt Ideal) f ((M.fin f b).2 ++ [M.q1 b, M.q0 f])) y
      = (M.arg9.view.read (Elt Ideal) f y : EReal) + M.B.addQ M.j y := by
  obtain ⟨r, l, rfl⟩ : ∃ r l, y = ix2 r l := ⟨y 0, y 1, funext fun a => by fin_cases a <;> rfl⟩
  rw [View.writes_append]
  have hj := M.hj
  have h6 := (M.env.st_closed (M.arg9.view.writes (Elt Ideal) f [M.q1 b, M.q0 f]) M.init (10 - M.j) le_rfl).2.2.2.2.2 r l
  unfold fin
  rw [trips1]
  refine h6.trans ?_
  have h2 := read_two (e := .f32) M.arg9 f (k0_off3_inb M.i) (k0_off4_inb M.i) M.j hj (k0_off3_eq M.i) (k0_off4_eq M.i)
    (k0_pay56 M.pD0' (k0_pay55 (View.readAt (Elt Ideal) M.arg9.view (Rect.unit (s := S4224x256) (k0_off3 M.i) S384x128.size (k0_off3_inb M.i)).toLoadRect f)) M.tk0)
    (k0_pay65 M.pD1' b M.tk1) (fun r l => ∑ s, M.B.D M.j (hd l) r s * M.B.k (ix2 s l))
    (fun t x => by
      rw [pay56_at, rdf2 (e := .f32) M.arg9 f _ (k0_off3_eq M.i) t x (by have : (M.i 2).val < 11 := hj; omega) (by omega)]
      rw [show hd (lane 0 x) = 0 from Fin.ext (by simp [lane])]; rfl)
    (fun t x => by rw [pay65_at, hb, show hd (lane 1 x) = 1 from Fin.ext (by show (128 * 1 + x.val) / 128 = 1; omega)]) r l
  refine (congrArg (· + _) h2).trans ?_
  rw [add_assoc]
  refine congrArg _ ?_
  rw [show (∑ m ∈ Finset.range (10 - M.j), if r.val / 384 = (M.env.i 2).val + 1 + m then ∑ s, M.env.B.d (hd l) r s * M.env.B.k (ix2 s l) else 0)
    = if M.j < r.val / 384 then ∑ s, M.B.d (hd l) r s * M.B.k (ix2 s l) else 0 from pick_tile _ _ _ _ (by have := r.isLt; have : (M.i 2).val < 11 := hj; show r.val / 384 < (M.i 2).val + 1 + (10 - (M.i 2).val); omega)]
  unfold Blk.addQ
  rcases lt_trichotomy (r.val / 384) M.j with h | h | h
  · rw [if_neg (by omega), if_neg (by omega), add_zero]
    refine (Finset.sum_eq_zero fun s _ => ?_).symm
    exact (congrArg (· * _) (show M.B.D M.j (hd l) r s = 0 from if_neg (by omega))).trans (zero_mul _)
  · rw [if_pos h, if_neg (by omega), add_zero]; rfl
  · rw [if_neg (by omega), if_pos h, zero_add]
    refine Finset.sum_congr rfl fun s _ => congrArg (· * _) ?_
    exact (if_pos (by omega) : M.B.D M.j (hd l) r s = _).symm

section fin
variable (f : M.arg9.view.ty.Contents (Elt Ideal)) (b : Vec Ideal S384x128 .f32)

theorem fin_k (y : S384x256.Idx) (g) : M.arg10.view.read (Elt Ideal) (M.arg10.view.writes (Elt Ideal) g
      [⟨Rect.unit (s := S384x256) ![0, 128] S384x128.size inb_S384x256_S384x128_0_128, (M.fin f b).1.2.1⟩,
       ⟨Rect.unit (s := S384x256) ![0, 0] S384x128.size inb_S384x256_S384x128_0_0, (M.fin f b).1.1⟩]) y = M.B.outK M.j y := by
  obtain ⟨s, l, rfl⟩ : ∃ r l, y = ix2 r l := ⟨y 0, y 1, funext fun a => by fin_cases a <;> rfl⟩
  have hj := M.hj
  obtain ⟨h1, h2, -⟩ := M.env.st_closed (M.arg9.view.writes (Elt Ideal) f [M.q1 b, M.q0 f]) M.init (10 - M.j) le_rfl
  rw [View.read_writes_cons_put M.arg10.view g inb_S384x256_S384x128_0_128 _ _ rfl, View.read_writes_cons_put M.arg10.view g inb_S384x256_S384x128_0_0 _ _ rfl, View.writes_nil]
  unfold fin
  rw [trips1]
  refine (put2 _ _ _ _ s l).trans ?_
  have key : ∀ (h : Fin 2) (x : Fin 128), (∑ t, M.B.D M.j h (row _ M.hj t) s * M.B.q (ix2 (row _ M.hj t) (lane h x)))
      + ∑ m ∈ Finset.range (10 - M.j), tile (fun r => M.B.d h r s * M.B.q (ix2 r (lane h x))) (M.j + 1 + m)
      = ∑ n ∈ Finset.range 11, tile (fun r => M.B.D M.j h r s * M.B.q (ix2 r (lane h x))) n := fun h x => by
    rw [← split_tiles (fun n => tile (fun r => M.B.D M.j h r s * M.B.q (ix2 r (lane h x))) n) M.j hj
      (fun n hn => tile_zero _ _ fun h' t => by rw [Blk.D_before _ _ _ _ _ _ _ hn]; exact zero_mul _)]
    refine congrArg₂ _ ?_ (Finset.sum_congr rfl fun m _ => tile_congr _ _ _ fun hn t => by rw [Blk.D_after _ _ _ _ _ _ _ (by omega)])
    unfold tile; rw [dif_pos hj]
  by_cases hl : l.val < 128
  · rw [dif_neg (by omega)]
    refine (put2 _ _ _ _ s l).trans ?_
    rw [dif_pos (by omega)]
    have e : lane 0 ⟨l.val, hl⟩ = l := Fin.ext (by simp [lane])
    have e2 : hd l = 0 := Fin.ext (by simp; omega)
    refine (congrArg _ (congrArg₂ ix2 (Fin.ext ?_) (Fin.ext ?_))).trans ((h1 s ⟨l.val, hl⟩).trans ?_)
    · simp
    · simp
    refine (congrArg (· + _) (M.K0_at s ⟨l.val, hl⟩)).trans ((key 0 ⟨l.val, hl⟩).trans ?_)
    show _ = ∑ n ∈ Finset.range 11, tile (fun r => M.B.D M.j (hd l) r s * M.B.q (ix2 r l)) n
    rw [e, e2]
  · rw [dif_pos (by omega)]
    have e : lane 1 ⟨l.val - 128, by omega⟩ = l := Fin.ext (by simp [lane]; omega)
    have e2 : hd l = 1 := Fin.ext (by simp; omega)
    refine (congrArg _ (congrArg₂ ix2 (Fin.ext ?_) (Fin.ext ?_))).trans ((h2 s ⟨l.val - 128, by omega⟩).trans ?_)
    · simp
    · simp
    refine (congrArg (· + _) (M.K1_at s ⟨l.val - 128, by omega⟩)).trans ((key 1 ⟨l.val - 128, by omega⟩).trans ?_)
    show _ = ∑ n ∈ Finset.range 11, tile (fun r => M.B.D M.j (hd l) r s * M.B.q (ix2 r l)) n
    rw [e, e2]

theorem fin_v (y : S384x128.Idx) (g) : M.arg11.view.read (Elt Ideal) (M.arg11.view.writes (Elt Ideal) g
      [⟨Rect.unit (s := S384x128) ![0, 0] S384x128.size inb_S384x128_S384x128_0_0, (M.fin f b).1.2.2.1⟩]) y = M.B.outV M.j y := by
  obtain ⟨s, l, rfl⟩ : ∃ r l, y = ix2 r l := ⟨y 0, y 1, funext fun a => by fin_cases a <;> rfl⟩
  have hj := M.hj
  obtain ⟨-, -, h3, -⟩ := M.env.st_closed (M.arg9.view.writes (Elt Ideal) f [M.q1 b, M.q0 f]) M.init (10 - M.j) le_rfl
  rw [View.read_writes_cons_put M.arg11.view g inb_S384x128_S384x128_0_0 _ _ rfl, View.writes_nil]
  unfold fin
  rw [trips1]
  refine (put2 _ _ _ _ s l).trans ?_
  rw [dif_pos (by omega)]
  refine (congrArg _ (congrArg₂ ix2 (Fin.ext (by simp)) (Fin.ext (by simp)))).trans ((h3 s l).trans ?_)
  refine (congrArg (· + _) (M.V_at s l)).trans ?_
  unfold Blk.outV
  refine Eq.trans ?_ (split_tiles (fun n => tile (fun r => M.B.P M.j 0 r s * M.B.gm 0 r l) n + tile (fun r => M.B.P M.j 1 r s * M.B.gm 1 r l) n) M.j hj (fun n hn => by
    show tile _ _ + tile _ _ = 0
    rw [tile_zero _ _ fun h' t => by rw [Blk.P_before _ _ _ _ _ _ _ hn]; exact zero_mul _, tile_zero _ _ fun h' t => by rw [Blk.P_before _ _ _ _ _ _ _ hn]; exact zero_mul _, add_zero]))
  refine congrArg₂ _ ?_ (Finset.sum_congr rfl fun m _ => congrArg₂ _ (tile_congr _ _ _ fun hn t => by rw [Blk.P_after _ _ _ _ _ _ _ (by show (M.i 2).val < (M.i 2).val + 1 + m; omega)]; rfl) (tile_congr _ _ _ fun hn t => by rw [Blk.P_after _ _ _ _ _ _ _ (by show (M.i 2).val < (M.i 2).val + 1 + m; omega)]; rfl))
  simp only [tile, dif_pos hj]

theorem key_c (h : Fin 2) (s : Fin 384) : (- ∑ t, M.B.D M.j h (row _ M.hj t) s)
      + ∑ m ∈ Finset.range (10 - M.j), - tile (fun r => M.B.d h r s) (M.j + 1 + m) = ∑ n ∈ Finset.range 11, - tile (fun r => M.B.D M.j h r s) n := by
  have hj := M.hj
  rw [← split_tiles (fun n => - tile (fun r => M.B.D M.j h r s) n) M.j hj
      (fun n hn => by show - tile _ _ = 0; rw [tile_zero _ _ fun h' t => Blk.D_before _ _ _ _ _ _ _ hn, neg_zero])]
  refine congrArg₂ _ ?_ (Finset.sum_congr rfl fun m _ => congrArg _ (tile_congr _ _ _ fun hn t => by rw [Blk.D_after _ _ _ _ _ _ _ (by omega)]))
  simp only [tile, dif_pos hj]

theorem fin_c0 (s : Fin 384) : (M.fin f b).1.2.2.2.1 (ix2 0 s) = M.B.outC M.j 0 (ix4 0 0 0 s) := by
  obtain ⟨-, -, -, h4, -⟩ := M.env.st_closed (M.arg9.view.writes (Elt Ideal) f [M.q1 b, M.q0 f]) M.init (10 - M.j) le_rfl
  unfold fin
  rw [trips1]
  refine (h4 s).trans ((congrArg (· + _) (M.C0_at s)).trans (M.key_c 0 s))
theorem fin_c1 (s : Fin 384) : (M.fin f b).1.2.2.2.2 (ix2 0 s) = M.B.outC M.j 1 (ix4 0 0 0 s) := by
  obtain ⟨-, -, -, -, h5, -⟩ := M.env.st_closed (M.arg9.view.writes (Elt Ideal) f [M.q1 b, M.q0 f]) M.init (10 - M.j) le_rfl
  unfold fin
  rw [trips1]
  refine (h5 s).trans ((congrArg (· + _) (M.C1_at s)).trans (M.key_c 1 s))

end fin

end Mem

end Cert.FoxBwd

end
-- ==== Proof.Ident.lean ====
module

public import proofs.«01_k».proof.Proof.Post
import all proofs.«01_k».proof.Proof.RunFirst
import all proofs.«01_k».proof.Proof.RunLater

@[expose] public section

/-! # The runs' stores are the closed forms' -/

set_option maxRecDepth 16384

noncomputable section

namespace Cert.FoxBwd

open Idealize.ShloMosaic Idealize.ShloMosaic.TcCoe
open Cert.KernelIdeal Cert.KernelIdeal.Gen

/-- The loop over the remaining partial row tiles makes no trip: it leaves its start. -/
theorem t2_zero {F : FTy → Type} [FloatOps F] [Named F] (𝒱 : Variants) (c : Dev nD) (bd : Option 𝒱.V) (i : grid0.Coords) (arg3 : Memref sig .tc .vmem S384x256 .bf16) (harg3 : arg3.IsWhole) (arg4 : Memref sig .tc .vmem S384x128 .bf16) (harg4 : arg4.IsWhole) (arg5 : Memref sig .tc .vmem S4224x256 .bf16) (harg5 : arg5.IsWhole) (arg6 : Memref sig .tc .vmem S4224x128 .bf16) (harg6 : arg6.IsWhole) (arg7 : Memref sig .tc .vmem S4224x128 .f32) (harg7 : arg7.IsWhole) (arg8 : Memref sig .tc .vmem S1x1x4224x128 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x128 .f32) (harg11 : arg11.IsWhole) (arg12 : Memref sig .tc .vmem S1x1x1x384 .f32) (harg12 : arg12.IsWhole) (arg13 : Memref sig .tc .vmem S1x1x1x384 .f32) (harg13 : arg13.IsWhole) (arg2 : BitVec 32) (v0 : IVec S1x128 32) (v5 : IVec S1x128 1) (v10 : IVec S1x128 1) (v24 : FVec F S384x128 .bf16) (v28 : FVec F S384x128 .bf16) (v29 : FVec F S384x128 .f32) (v30 : FVec F S1x384 .f32) (v32 : BitVec 32) (v78 : FVec F S384x128 .f32) (v90 : FVec F S1x384 .f32) (v93 : FVec F S384x128 .bf16) (v121 : FVec F S384x384 .f32) (v122 : FVec F S384x384 .bf16) (v125 : FVec F S384x128 .f32) (cst_49 : F .bf16) (v145 : BitVec 32) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (init : FVec F S384x128 .f32 × FVec F S384x128 .f32 × FVec F S384x128 .f32 × FVec F S1x384 .f32 × FVec F S1x384 .f32) (n : ℕ) (hn : n = 0) :
    st_k0_t2 (F := F) 𝒱 c bd i arg3 harg3 arg4 harg4 arg5 harg5 arg6 harg6 arg7 harg7 arg8 harg8 arg9 harg9 arg10 harg10 arg11 harg11 arg12 harg12 arg13 harg13 arg2 v0 v5 v10 v24 v28 v29 v30 v32 v78 v90 v93 v121 v122 v125 cst_49 v145 X_arg3 X_arg5 X_arg6 X_arg7 X_arg8 G_arg9 init n = (init, []) := by
  subst hn; rfl

namespace Mem
variable (M : Mem)

/-- The store of zeros into the query gradient at the first key tile. -/
def zs : List (View.Piece (Elt Ideal) S4224x256 .f32) :=
  [⟨Rect.unit (s := S4224x256) ![0, 0] S4224x256.size inb_S4224x256_S4224x256_0_0, k0_pay39 (F := Ideal)⟩]
def f1 : M.arg9.view.ty.Contents (Elt Ideal) := M.arg9.view.writes (Elt Ideal) M.arg9.view.junk zs
def b1 : Vec Ideal S384x128 .f32 := M.vb (M.arg9.view.writes (Elt Ideal) M.arg9.view.junk (M.q0 M.f1 :: zs))

/-! The intermediate values of the runs. -/

theorem runFirst_r : runFirst.sl.r (F := Ideal) M.c M.arg4 M.harg4 M.B.v = M.p24 := rfl
theorem runFirst_r_1 : runFirst.sl.r_1 (F := Ideal) M.c M.arg4 M.harg4 M.B.v = M.p28 := rfl
theorem runFirst_r_2 : runFirst.sl.r_2 (F := Ideal) M.c M.i M.arg6 M.harg6 M.B.g = M.p35 := rfl
theorem runFirst_r_3 : runFirst.sl.r_3 (F := Ideal) M.c M.i M.arg7 M.harg7 M.B.o = M.p38 := rfl
theorem runFirst_r_4 : runFirst.sl.r_4 (F := Ideal) M.c M.i M.arg8 M.harg8 M.B.z = M.p41 := rfl
theorem runFirst_r_5 : runFirst.sl.r_5 (F := Ideal) M.c M.i M.arg3 M.harg3 M.arg4 M.harg4 M.arg5 M.harg5 M.arg6 M.harg6 M.arg7 M.harg7 M.arg8 M.harg8 M.B.k M.B.v M.B.q M.B.g M.B.o M.B.z = M.pD0 := rfl
theorem runFirst_r_6 : runFirst.sl.r_6 (F := Ideal) M.c M.i M.arg3 M.harg3 M.arg4 M.harg4 M.arg5 M.harg5 M.arg6 M.harg6 M.arg7 M.harg7 M.arg8 M.harg8 M.B.k M.B.v M.B.q M.B.g M.B.o M.B.z = M.pD0' := rfl
theorem runFirst_r_7 : runFirst.sl.r_7 (F := Ideal) M.c M.i M.arg3 M.harg3 M.arg5 M.harg5 M.arg6 M.harg6 M.arg8 M.harg8 M.B.k M.B.q M.B.g M.B.z = M.pV0 := rfl
theorem runFirst_r_8 : runFirst.sl.r_8 (F := Ideal) M.c M.i M.arg3 M.harg3 M.arg4 M.harg4 M.arg5 M.harg5 M.arg6 M.harg6 M.arg7 M.harg7 M.arg8 M.harg8 M.B.k M.B.v M.B.q M.B.g M.B.o M.B.z = M.pK0 := rfl
theorem runFirst_r_10 : runFirst.sl.r_10 (F := Ideal) M.c M.i M.arg3 M.harg3 M.arg4 M.harg4 M.arg5 M.harg5 M.arg6 M.harg6 M.arg7 M.harg7 M.arg8 M.harg8 M.B.k M.B.v M.B.q M.B.g M.B.o M.B.z = k0_pay57 k0_pay44 M.pD0 := rfl
theorem runFirst_r_11 : runFirst.sl.r_11 (F := Ideal) M.c M.i M.arg5 M.harg5 M.B.q = k0_pay58 M.tq1 := rfl
theorem runFirst_r_12 : runFirst.sl.r_12 (F := Ideal) M.c M.i M.arg3 M.harg3 M.arg4 M.harg4 M.arg5 M.harg5 M.arg6 M.harg6 M.arg7 M.harg7 M.arg8 M.harg8 M.B.k M.B.v M.B.q M.B.g M.B.o M.B.z = M.pD1 := rfl
theorem runFirst_r_13 : runFirst.sl.r_13 (F := Ideal) M.c M.i M.arg3 M.harg3 M.arg4 M.harg4 M.arg5 M.harg5 M.arg6 M.harg6 M.arg7 M.harg7 M.arg8 M.harg8 M.B.k M.B.v M.B.q M.B.g M.B.o M.B.z = M.pD1' := rfl
theorem runFirst_r_14 : runFirst.sl.r_14 (F := Ideal) M.c M.i M.arg3 M.harg3 M.arg5 M.harg5 M.arg6 M.harg6 M.arg8 M.harg8 M.B.k M.B.q M.B.g M.B.z = M.pV := rfl
theorem runFirst_H6_1 : runFirst.sl.H6_1 (F := Ideal) = zs := rfl
theorem runFirst_r_9 : runFirst.sl.r_9 (F := Ideal) M.c M.i M.arg9 = k0_pay55 (View.readAt (Elt Ideal) M.arg9.view (Rect.unit (s := S4224x256) (k0_off3 M.i) S384x128.size (k0_off3_inb M.i)).toLoadRect M.f1) := rfl
theorem runFirst_H6_2 : runFirst.sl.H6_2 (F := Ideal) M.c M.i M.arg3 M.harg3 M.arg4 M.harg4 M.arg5 M.harg5 M.arg6 M.harg6 M.arg7 M.harg7 M.arg8 M.harg8 M.arg9 M.B.k M.B.v M.B.q M.B.g M.B.o M.B.z = M.q0 M.f1 :: zs := rfl
theorem runFirst_v129 : runFirst.sl.v129 (F := Ideal) M.c M.i M.arg3 M.harg3 M.arg4 M.harg4 M.arg5 M.harg5 M.arg6 M.harg6 M.arg7 M.harg7 M.arg8 M.harg8 M.arg9 M.B.k M.B.v M.B.q M.B.g M.B.o M.B.z = M.b1 := rfl

theorem runLater_r : runLater.sl.r (F := Ideal) M.c M.arg4 M.harg4 M.B.v = M.p24 := rfl
theorem runLater_r_1 : runLater.sl.r_1 (F := Ideal) M.c M.arg4 M.harg4 M.B.v = M.p28 := rfl
theorem runLater_r_2 : runLater.sl.r_2 (F := Ideal) M.c M.i M.arg6 M.harg6 M.B.g = M.p35 := rfl
theorem runLater_r_3 : runLater.sl.r_3 (F := Ideal) M.c M.i M.arg7 M.harg7 M.B.o = M.p38 := rfl
theorem runLater_r_4 : runLater.sl.r_4 (F := Ideal) M.c M.i M.arg8 M.harg8 M.B.z = M.p41 := rfl
theorem runLater_r_5 : runLater.sl.r_5 (F := Ideal) M.c M.i M.arg3 M.harg3 M.arg4 M.harg4 M.arg5 M.harg5 M.arg6 M.harg6 M.arg7 M.harg7 M.arg8 M.harg8 M.B.k M.B.v M.B.q M.B.g M.B.o M.B.z = M.pD0 := rfl
theorem runLater_r_6 : runLater.sl.r_6 (F := Ideal) M.c M.i M.arg3 M.harg3 M.arg4 M.harg4 M.arg5 M.harg5 M.arg6 M.harg6 M.arg7 M.harg7 M.arg8 M.harg8 M.B.k M.B.v M.B.q M.B.g M.B.o M.B.z = M.pD0' := rfl
theorem runLater_r_7 : runLater.sl.r_7 (F := Ideal) M.c M.i M.arg3 M.harg3 M.arg5 M.harg5 M.arg6 M.harg6 M.arg8 M.harg8 M.B.k M.B.q M.B.g M.B.z = M.pV0 := rfl
theorem runLater_r_8 : runLater.sl.r_8 (F := Ideal) M.c M.i M.arg3 M.harg3 M.arg4 M.harg4 M.arg5 M.harg5 M.arg6 M.harg6 M.arg7 M.harg7 M.arg8 M.harg8 M.B.k M.B.v M.B.q M.B.g M.B.o M.B.z = M.pK0 := rfl
theorem runLater_r_10 : runLater.sl.r_10 (F := Ideal) M.c M.i M.arg3 M.harg3 M.arg4 M.harg4 M.arg5 M.harg5 M.arg6 M.harg6 M.arg7 M.harg7 M.arg8 M.harg8 M.B.k M.B.v M.B.q M.B.g M.B.o M.B.z = k0_pay57 k0_pay44 M.pD0 := rfl
theorem runLater_r_11 : runLater.sl.r_11 (F := Ideal) M.c M.i M.arg5 M.harg5 M.B.q = k0_pay58 M.tq1 := rfl
theorem runLater_r_12 : runLater.sl.r_12 (F := Ideal) M.c M.i M.arg3 M.harg3 M.arg4 M.harg4 M.arg5 M.harg5 M.arg6 M.harg6 M.arg7 M.harg7 M.arg8 M.harg8 M.B.k M.B.v M.B.q M.B.g M.B.o M.B.z = M.pD1 := rfl
theorem runLater_r_13 : runLater.sl.r_13 (F := Ideal) M.c M.i M.arg3 M.harg3 M.arg4 M.harg4 M.arg5 M.harg5 M.arg6 M.harg6 M.arg7 M.harg7 M.arg8 M.harg8 M.B.k M.B.v M.B.q M.B.g M.B.o M.B.z = M.pD1' := rfl
theorem runLater_r_14 : runLater.sl.r_14 (F := Ideal) M.c M.i M.arg3 M.harg3 M.arg5 M.harg5 M.arg6 M.harg6 M.arg8 M.harg8 M.B.k M.B.q M.B.g M.B.z = M.pV := rfl
theorem runLater_r_9 (x6 : Vec Ideal S4224x256 .f32) : runLater.sl.r_9 (F := Ideal) M.c M.i M.arg9 M.harg9 x6 = k0_pay55 (View.readAt (Elt Ideal) M.arg9.view (Rect.unit (s := S4224x256) (k0_off3 M.i) S384x128.size (k0_off3_inb M.i)).toLoadRect (M.harg9.unread x6)) := rfl
theorem runLater_v129 (x6 : Vec Ideal S4224x256 .f32) : runLater.sl.v129 (F := Ideal) M.c M.i M.arg9 M.harg9 x6 = M.vb (M.harg9.unread x6) := rfl

/-- At the first key tile: the query gradient's stores. -/
theorem first6 (hc0 : first M.i) :
    (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).1 = (M.fin M.f1 M.b1).2 ++ M.q1 M.b1 :: M.q0 M.f1 :: zs := by
  delta runFirst
  dsimp only
  simp only [runFirst_r, runFirst_r_1, runFirst_r_2, runFirst_r_3, runFirst_r_4, runFirst_r_5, runFirst_r_6, runFirst_r_7, runFirst_r_8, runFirst_r_10, runFirst_r_11, runFirst_r_12, runFirst_r_13, runFirst_r_14, runFirst_H6_1, runFirst_r_9, runFirst_H6_2, runFirst_v129]
  rw [t2_zero]
  · rfl
  · exact trips2 M.i

/-- At the first key tile: the key gradient's stores. -/
theorem first7 (hc0 : first M.i) :
    (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.1 = [⟨Rect.unit (s := S384x256) ![0, 128] S384x128.size inb_S384x256_S384x128_0_128, (M.fin (M.f1) (M.b1)).1.2.1⟩, ⟨Rect.unit (s := S384x256) ![0, 0] S384x128.size inb_S384x256_S384x128_0_0, (M.fin (M.f1) (M.b1)).1.1⟩] := by
  delta runFirst
  dsimp only
  simp only [runFirst_r, runFirst_r_1, runFirst_r_2, runFirst_r_3, runFirst_r_4, runFirst_r_5, runFirst_r_6, runFirst_r_7, runFirst_r_8, runFirst_r_10, runFirst_r_11, runFirst_r_12, runFirst_r_13, runFirst_r_14, runFirst_H6_1, runFirst_r_9, runFirst_H6_2, runFirst_v129]
  rw [t2_zero]
  · rfl
  · exact trips2 M.i

/-- At the first key tile: the value gradient's store. -/
theorem first8 (hc0 : first M.i) :
    (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.1 = [⟨Rect.unit (s := S384x128) ![0, 0] S384x128.size inb_S384x128_S384x128_0_0, (M.fin (M.f1) (M.b1)).1.2.2.1⟩] := by
  delta runFirst
  dsimp only
  simp only [runFirst_r, runFirst_r_1, runFirst_r_2, runFirst_r_3, runFirst_r_4, runFirst_r_5, runFirst_r_6, runFirst_r_7, runFirst_r_8, runFirst_r_10, runFirst_r_11, runFirst_r_12, runFirst_r_13, runFirst_r_14, runFirst_H6_1, runFirst_r_9, runFirst_H6_2, runFirst_v129]
  rw [t2_zero]
  · rfl
  · exact trips2 M.i

/-- At the first key tile: the first head's gate gradient's store. -/
theorem first9 (hc0 : first M.i) :
    (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.2.1 = [⟨Rect.unit (s := S1x1x1x384) ![0, 0, 0, 0] S1x1x1x384.size inb_S1x1x1x384_S1x1x1x384_0_0_0_0, k0_pay79 (M.fin (M.f1) (M.b1)).1.2.2.2.1⟩] := by
  delta runFirst
  dsimp only
  simp only [runFirst_r, runFirst_r_1, runFirst_r_2, runFirst_r_3, runFirst_r_4, runFirst_r_5, runFirst_r_6, runFirst_r_7, runFirst_r_8, runFirst_r_10, runFirst_r_11, runFirst_r_12, runFirst_r_13, runFirst_r_14, runFirst_H6_1, runFirst_r_9, runFirst_H6_2, runFirst_v129]
  rw [t2_zero]
  · rfl
  · exact trips2 M.i

/-- At the first key tile: the second head's gate gradient's store. -/
theorem first10 (hc0 : first M.i) :
    (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.2.2.1 = [⟨Rect.unit (s := S1x1x1x384) ![0, 0, 0, 0] S1x1x1x384.size inb_S1x1x1x384_S1x1x1x384_0_0_0_0, k0_pay1 (M.fin (M.f1) (M.b1)).1.2.2.2.2⟩] := by
  delta runFirst
  dsimp only
  delta runFirst.sl.r_15
  simp only [runFirst_r, runFirst_r_1, runFirst_r_2, runFirst_r_3, runFirst_r_4, runFirst_r_5, runFirst_r_6, runFirst_r_7, runFirst_r_8, runFirst_r_10, runFirst_r_11, runFirst_r_12, runFirst_r_13, runFirst_r_14, runFirst_H6_1, runFirst_r_9, runFirst_H6_2, runFirst_v129]
  rw [t2_zero]
  · rfl
  · exact trips2 M.i

/-- At a later key tile: the query gradient's stores. -/
theorem later6 (hc0 : ¬ first M.i) (x6 : Vec Ideal S4224x256 .f32) :
    (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).1 = (M.fin (M.harg9.unread x6) (M.vb (M.harg9.unread x6))).2 ++ [M.q1 (M.vb (M.harg9.unread x6)), M.q0 (M.harg9.unread x6)] := by
  delta runLater
  dsimp only
  simp only [runLater_r, runLater_r_1, runLater_r_2, runLater_r_3, runLater_r_4, runLater_r_5, runLater_r_6, runLater_r_7, runLater_r_8, runLater_r_10, runLater_r_11, runLater_r_12, runLater_r_13, runLater_r_14, runLater_r_9, runLater_v129]
  rw [t2_zero]
  · rfl
  · exact trips2 M.i

/-- At a later key tile: the key gradient's stores. -/
theorem later7 (hc0 : ¬ first M.i) (x6 : Vec Ideal S4224x256 .f32) :
    (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.1 = [⟨Rect.unit (s := S384x256) ![0, 128] S384x128.size inb_S384x256_S384x128_0_128, (M.fin (M.harg9.unread x6) (M.vb (M.harg9.unread x6))).1.2.1⟩, ⟨Rect.unit (s := S384x256) ![0, 0] S384x128.size inb_S384x256_S384x128_0_0, (M.fin (M.harg9.unread x6) (M.vb (M.harg9.unread x6))).1.1⟩] := by
  delta runLater
  dsimp only
  simp only [runLater_r, runLater_r_1, runLater_r_2, runLater_r_3, runLater_r_4, runLater_r_5, runLater_r_6, runLater_r_7, runLater_r_8, runLater_r_10, runLater_r_11, runLater_r_12, runLater_r_13, runLater_r_14, runLater_r_9, runLater_v129]
  rw [t2_zero]
  · rfl
  · exact trips2 M.i

/-- At a later key tile: the value gradient's store. -/
theorem later8 (hc0 : ¬ first M.i) (x6 : Vec Ideal S4224x256 .f32) :
    (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.1 = [⟨Rect.unit (s := S384x128) ![0, 0] S384x128.size inb_S384x128_S384x128_0_0, (M.fin (M.harg9.unread x6) (M.vb (M.harg9.unread x6))).1.2.2.1⟩] := by
  delta runLater
  dsimp only
  simp only [runLater_r, runLater_r_1, runLater_r_2, runLater_r_3, runLater_r_4, runLater_r_5, runLater_r_6, runLater_r_7, runLater_r_8, runLater_r_10, runLater_r_11, runLater_r_12, runLater_r_13, runLater_r_14, runLater_r_9, runLater_v129]
  rw [t2_zero]
  · rfl
  · exact trips2 M.i

/-- At a later key tile: the first head's gate gradient's store. -/
theorem later9 (hc0 : ¬ first M.i) (x6 : Vec Ideal S4224x256 .f32) :
    (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.2.1 = [⟨Rect.unit (s := S1x1x1x384) ![0, 0, 0, 0] S1x1x1x384.size inb_S1x1x1x384_S1x1x1x384_0_0_0_0, k0_pay79 (M.fin (M.harg9.unread x6) (M.vb (M.harg9.unread x6))).1.2.2.2.1⟩] := by
  delta runLater
  dsimp only
  simp only [runLater_r, runLater_r_1, runLater_r_2, runLater_r_3, runLater_r_4, runLater_r_5, runLater_r_6, runLater_r_7, runLater_r_8, runLater_r_10, runLater_r_11, runLater_r_12, runLater_r_13, runLater_r_14, runLater_r_9, runLater_v129]
  rw [t2_zero]
  · rfl
  · exact trips2 M.i

/-- At a later key tile: the second head's gate gradient's store. -/
theorem later10 (hc0 : ¬ first M.i) (x6 : Vec Ideal S4224x256 .f32) :
    (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.2.2.1 = [⟨Rect.unit (s := S1x1x1x384) ![0, 0, 0, 0] S1x1x1x384.size inb_S1x1x1x384_S1x1x1x384_0_0_0_0, k0_pay1 (M.fin (M.harg9.unread x6) (M.vb (M.harg9.unread x6))).1.2.2.2.2⟩] := by
  delta runLater
  dsimp only
  delta runLater.sl.r_15
  simp only [runLater_r, runLater_r_1, runLater_r_2, runLater_r_3, runLater_r_4, runLater_r_5, runLater_r_6, runLater_r_7, runLater_r_8, runLater_r_10, runLater_r_11, runLater_r_12, runLater_r_13, runLater_r_14, runLater_r_9, runLater_v129]
  rw [t2_zero]
  · rfl
  · exact trips2 M.i

end Mem

end Cert.FoxBwd

end
-- ==== Proof.Data.lean ====
module

public import proofs.«01_k».proof.Proof.Ident
public import proofs.«01_k».proof.Proof.Gen.KernelIdeal.Frame
public import Idealize.ShloMosaic.Lib.Claim

@[expose] public section

/-! # The proof data: what every grid point leaves

The proof data name the five outputs' blocks by the closed forms. -/

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

namespace Mem
variable (M : Mem)

theorem zs_covers (L : List (View.Piece (Elt Ideal) S4224x256 .f32)) (y : S4224x256.Idx) : ∃ p ∈ L ++ zs, y ∈ p.1.set := by
  refine ⟨_, List.mem_append_right L (List.mem_singleton.mpr rfl), ?_⟩
  refine (Rect.mem_set_unit (inb := inb_S4224x256_S4224x256_0_0)).mpr fun a => ⟨?_, ?_⟩
  · fin_cases a <;> exact Nat.zero_le _
  · have h := (y a).isLt
    fin_cases a <;> exact lt_of_lt_of_eq h (Nat.zero_add _).symm

theorem f1_read (y : S4224x256.Idx) : M.arg9.view.read (Elt Ideal) M.f1 y = (0 : EReal) := by
  refine (congrFun (View.read_writes_full (Val := Elt Ideal) M.arg9.view M.arg9.view.junk inb_S4224x256_S4224x256_0_0 (k0_pay39 (F := Ideal)) []) y).trans ?_
  pointwise [k0_pay39]

theorem b1_at (t : Fin 384) (x : Fin 128) : M.b1 (ix2 t x) = M.arg9.view.read (Elt Ideal) M.f1 (ix2 (row _ M.hj t) (lane 1 x)) :=
  M.vb_q0 M.f1 M.f1 t x

theorem pay79_at (w : FVec Ideal S1x384 .f32) (y : S1x1x1x384.Idx) : k0_pay79 (F := Ideal) w y = w (ix2 0 (y 3)) := by
  obtain ⟨s, rfl⟩ : ∃ s, y = ix4 0 0 0 s := ⟨y 3, funext fun a => by
    fin_cases a <;> first | rfl | exact Subsingleton.elim (α := Fin 1) _ _⟩
  pointwise [k0_pay79]
theorem pay1_at (w : FVec Ideal S1x384 .f32) (y : S1x1x1x384.Idx) : k0_pay1 (F := Ideal) w y = w (ix2 0 (y 3)) := pay79_at w y

/-- The query gradient's block after the first key tile. -/
theorem first_q (hc0) (f) : M.arg9.view.read (Elt Ideal) (M.arg9.view.writes (Elt Ideal) f (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).1) = M.B.addQ M.j := by
  rw [first6, show (M.fin M.f1 M.b1).2 ++ M.q1 M.b1 :: M.q0 M.f1 :: zs = ((M.fin M.f1 M.b1).2 ++ [M.q1 M.b1, M.q0 M.f1]) ++ zs by rw [List.append_assoc]; rfl]
  rw [View.read_writes_of_cover _ f M.arg9.view M.arg9.view.junk _ (zs_covers _), View.writes_append]
  funext y
  refine (M.fin_q M.f1 M.b1 M.b1_at y).trans ?_
  rw [f1_read]; exact zero_add _
theorem first_k (hc0) (f) : M.arg10.view.read (Elt Ideal) (M.arg10.view.writes (Elt Ideal) f (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.1) = M.B.outK M.j := by
  rw [first7]; funext y; exact M.fin_k _ _ y f
theorem first_v (hc0) (f) : M.arg11.view.read (Elt Ideal) (M.arg11.view.writes (Elt Ideal) f (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.1) = M.B.outV M.j := by
  rw [first8]; funext y; exact M.fin_v _ _ y f
theorem first_c0 (hc0) (f) : M.arg12.view.read (Elt Ideal) (M.arg12.view.writes (Elt Ideal) f (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.2.1) = M.B.outC M.j 0 := by
  rw [first9]; funext y
  exact (congrFun (View.read_writes_full M.arg12.view f inb_S1x1x1x384_S1x1x1x384_0_0_0_0 _ []) y).trans ((pay79_at _ y).trans (M.fin_c0 _ _ (y 3)))
theorem first_c1 (hc0) (f) : M.arg13.view.read (Elt Ideal) (M.arg13.view.writes (Elt Ideal) f (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z).2.2.2.2.1) = M.B.outC M.j 1 := by
  rw [first10]; funext y
  exact (congrFun (View.read_writes_full M.arg13.view f inb_S1x1x1x384_S1x1x1x384_0_0_0_0 _ []) y).trans ((pay1_at _ y).trans (M.fin_c1 _ _ (y 3)))

/-- The query gradient's block after a later key tile: what was there and the tile's part. -/
theorem later_q (hc0) (x6) : M.arg9.view.read (Elt Ideal) (M.arg9.view.writes (Elt Ideal) (M.harg9.unread x6) (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).1) = fun y => (x6 y : EReal) + M.B.addQ M.j y := by
  rw [later6]
  funext y
  refine (M.fin_q (M.harg9.unread x6) _ (fun t x => M.vb_at _ t x) y).trans ?_
  rw [M.harg9.read_unread]
theorem later_k (hc0) (x6) (f) : M.arg10.view.read (Elt Ideal) (M.arg10.view.writes (Elt Ideal) f (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.1) = M.B.outK M.j := by
  rw [later7]; funext y; exact M.fin_k _ _ y f
theorem later_v (hc0) (x6) (f) : M.arg11.view.read (Elt Ideal) (M.arg11.view.writes (Elt Ideal) f (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.1) = M.B.outV M.j := by
  rw [later8]; funext y; exact M.fin_v _ _ y f
theorem later_c0 (hc0) (x6) (f) : M.arg12.view.read (Elt Ideal) (M.arg12.view.writes (Elt Ideal) f (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.2.1) = M.B.outC M.j 0 := by
  rw [later9]; funext y
  exact (congrFun (View.read_writes_full M.arg12.view f inb_S1x1x1x384_S1x1x1x384_0_0_0_0 _ []) y).trans ((pay79_at _ y).trans (M.fin_c0 _ _ (y 3)))
theorem later_c1 (hc0) (x6) (f) : M.arg13.view.read (Elt Ideal) (M.arg13.view.writes (Elt Ideal) f (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6).2.2.2.2.1) = M.B.outC M.j 1 := by
  rw [later10]; funext y
  exact (congrFun (View.read_writes_full M.arg13.view f inb_S1x1x1x384_S1x1x1x384_0_0_0_0 _ []) y).trans ((pay1_at _ y).trans (M.fin_c1 _ _ (y 3)))

end Mem

variable (m : (ℓ : Loc nD τ sig) → Buf (Elt Ideal) ℓ) (ρ : Dev nD → PrngReg)

/-- The blocks of the inputs at grid point `t`. -/
def blk (c : Dev nD) (t : Fin cfg0.N) : Blk where
  k := iblk m c 0 t
  v := iblk m c 1 t
  q := iblk m c 2 t
  g := iblk m c 3 t
  o := iblk m c 4 t
  z := iblk m c 5 t

/-! The staging buffers at a grid point. -/

abbrev buf0 (t : Fin cfg0.N) : Memref sig .tc .vmem S384x256 .bf16 := win0_0.stage (cfg0.slots t 0)
abbrev whole0 (t : Fin cfg0.N) : (buf0 t).IsWhole := hstage0_0 ((cfg0.slots t 0).cast nbuf0_0)
abbrev buf1 (t : Fin cfg0.N) : Memref sig .tc .vmem S384x128 .bf16 := win0_1.stage (cfg0.slots t 1)
abbrev whole1 (t : Fin cfg0.N) : (buf1 t).IsWhole := hstage0_1 ((cfg0.slots t 1).cast nbuf0_1)
abbrev buf2 (t : Fin cfg0.N) : Memref sig .tc .vmem S4224x256 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S4224x128 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S4224x128 .f32 := win0_4.stage (cfg0.slots t 4)
abbrev whole4 (t : Fin cfg0.N) : (buf4 t).IsWhole := hstage0_4 ((cfg0.slots t 4).cast nbuf0_4)
abbrev buf5 (t : Fin cfg0.N) : Memref sig .tc .vmem S1x1x4224x128 .f32 := win0_5.stage (cfg0.slots t 5)
abbrev whole5 (t : Fin cfg0.N) : (buf5 t).IsWhole := hstage0_5 ((cfg0.slots t 5).cast nbuf0_5)
abbrev buf6 (t : Fin cfg0.N) : Memref sig .tc .vmem S4224x256 .f32 := win0_6.stage (cfg0.slots t 6)
abbrev whole6 (t : Fin cfg0.N) : (buf6 t).IsWhole := hstage0_6 ((cfg0.slots t 6).cast nbuf0_6)
abbrev buf7 (t : Fin cfg0.N) : Memref sig .tc .vmem S384x256 .f32 := win0_7.stage (cfg0.slots t 7)
abbrev whole7 (t : Fin cfg0.N) : (buf7 t).IsWhole := hstage0_7 ((cfg0.slots t 7).cast nbuf0_7)
abbrev buf8 (t : Fin cfg0.N) : Memref sig .tc .vmem S384x128 .f32 := win0_8.stage (cfg0.slots t 8)
abbrev whole8 (t : Fin cfg0.N) : (buf8 t).IsWhole := hstage0_8 ((cfg0.slots t 8).cast nbuf0_8)
abbrev buf9 (t : Fin cfg0.N) : Memref sig .tc .vmem S1x1x1x384 .f32 := win0_9.stage (cfg0.slots t 9)
abbrev whole9 (t : Fin cfg0.N) : (buf9 t).IsWhole := hstage0_9 ((cfg0.slots t 9).cast nbuf0_9)
abbrev buf10 (t : Fin cfg0.N) : Memref sig .tc .vmem S1x1x1x384 .f32 := win0_10.stage (cfg0.slots t 10)
abbrev whole10 (t : Fin cfg0.N) : (buf10 t).IsWhole := hstage0_10 ((cfg0.slots t 10).cast nbuf0_10)

/-- The buffers and blocks of grid point `t`. -/
def mem (c : Dev nD) (t : Fin cfg0.N) : Mem where
  c := c
  i := grid0.coords t
  arg3 := buf0 t
  harg3 := whole0 t
  arg4 := buf1 t
  harg4 := whole1 t
  arg5 := buf2 t
  harg5 := whole2 t
  arg6 := buf3 t
  harg6 := whole3 t
  arg7 := buf4 t
  harg7 := whole4 t
  arg8 := buf5 t
  harg8 := whole5 t
  arg9 := buf6 t
  harg9 := whole6 t
  arg10 := buf7 t
  harg10 := whole7 t
  arg11 := buf8 t
  harg11 := whole8 t
  arg12 := buf9 t
  harg12 := whole9 t
  arg13 := buf10 t
  harg13 := whole10 t
  B := blk m c t

/-- The key tile of grid point `t`. -/
theorem mem_j (c : Dev nD) (t : Fin cfg0.N) : (mem m c t).j = t.val % 11 :=
  (by decide +kernel : ∀ t : Fin cfg0.N, (grid0.coords t 2).val = t.val % 11) t

/-- What grid point number `n` adds to the query gradient's block. -/
def part (c : Dev nD) (n : ℕ) : Vec Ideal S4224x256 .f32 := fun y =>
  if h : n < cfg0.N then (blk m c ⟨n, h⟩).addQ (n % 11) y else (0 : EReal)

/-- The query gradient's block after point `t`: the parts of the key tiles up to the point's own. -/
def accQ (c : Dev nD) (t : Fin cfg0.N) : Vec Ideal S4224x256 .f32 := fun y =>
  ∑ n ∈ Finset.range (t.val % 11 + 1), (part m c (t.val - t.val % 11 + n) y : EReal)

theorem accQ_first (c : Dev nD) (t : Fin cfg0.N) (h : t.val % 11 = 0) : accQ m c t = (mem m c t).B.addQ (mem m c t).j := by
  funext y
  unfold accQ part
  rw [mem_j]
  simp only [h, Finset.sum_range_one, Nat.sub_zero, Nat.add_zero, zero_add]
  rw [dif_pos t.isLt]
  rfl
theorem accQ_later (c : Dev nD) (t : Fin cfg0.N) (h : ¬ t.val % 11 = 0) :
    accQ m c t = fun y => (accQ m c ⟨t.val - 1, Nat.lt_of_le_of_lt (Nat.sub_le _ _) t.isLt⟩ y : EReal) + (mem m c t).B.addQ (mem m c t).j y := by
  funext y
  rw [mem_j]
  unfold accQ
  rw [Finset.sum_range_succ]
  refine congrArg₂ _ ?_ ?_
  · rw [show (t.val - 1) % 11 + 1 = t.val % 11 by omega]
    exact Finset.sum_congr rfl fun n _ => by rw [show t.val - 1 - (t.val - 1) % 11 = t.val - t.val % 11 by omega]
  · unfold part
    have : t.val - t.val % 11 + t.val % 11 = t.val := by omega
    rw [dif_pos (by rw [this]; exact t.isLt)]
    simp only [this]
    rfl

/-- The proof data: the inputs keep their blocks, the outputs hold the closed forms. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accQ m c t
    | ⟨7, _⟩ => (mem m c t).B.outK (mem m c t).j
    | ⟨8, _⟩ => (mem m c t).B.outV (mem m c t).j
    | ⟨9, _⟩ => (mem m c t).B.outC (mem m c t).j 0
    | ⟨10, _⟩ => (mem m c t).B.outC (mem m c t).j 1
  Φ _ := Pipeline.ΦA spec0 c
  q _ := fullShare
  owed _ := 0

theorem A_eq (c : Dev nD) (w : Fin cfg0.W) : (dats m 0 c).A w = V m c (Pipeline.arrRef spec0 w) := by
  dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = accQ m c t := by dsimp only [dats]
theorem left_7 (c : Dev nD) (t : Fin cfg0.N) : (dats m 0 c).after 7 t = (mem m c t).B.outK (mem m c t).j := by dsimp only [dats]
theorem left_8 (c : Dev nD) (t : Fin cfg0.N) : (dats m 0 c).after 8 t = (mem m c t).B.outV (mem m c t).j := by dsimp only [dats]
theorem left_9 (c : Dev nD) (t : Fin cfg0.N) : (dats m 0 c).after 9 t = (mem m c t).B.outC (mem m c t).j 0 := by dsimp only [dats]
theorem left_10 (c : Dev nD) (t : Fin cfg0.N) : (dats m 0 c).after 10 t = (mem m c t).B.outC (mem m c t).j 1 := by dsimp only [dats]
theorem held_0 (c : Dev nD) (t : Fin cfg0.N) (d) : (dats m 0 c).before 0 t d = iblk m c 0 t := before0_0_of m (dats m 0 c) (A_eq m c 0) (left_0 m c) t d
theorem held_1 (c : Dev nD) (t : Fin cfg0.N) (d) : (dats m 0 c).before 1 t d = iblk m c 1 t := before0_1_of m (dats m 0 c) (A_eq m c 1) (left_1 m c) t d
theorem held_2 (c : Dev nD) (t : Fin cfg0.N) (d) : (dats m 0 c).before 2 t d = iblk m c 2 t := before0_2_of m (dats m 0 c) (A_eq m c 2) (left_2 m c) t d
theorem held_3 (c : Dev nD) (t : Fin cfg0.N) (d) : (dats m 0 c).before 3 t d = iblk m c 3 t := before0_3_of m (dats m 0 c) (A_eq m c 3) (left_3 m c) t d
theorem held_4 (c : Dev nD) (t : Fin cfg0.N) (d) : (dats m 0 c).before 4 t d = iblk m c 4 t := before0_4_of m (dats m 0 c) (A_eq m c 4) (left_4 m c) t d
theorem held_5 (c : Dev nD) (t : Fin cfg0.N) (d) : (dats m 0 c).before 5 t d = iblk m c 5 t := before0_5_of m (dats m 0 c) (A_eq m c 5) (left_5 m c) t d
/-- Past the first key tile the query gradient's buffer holds what the point before left. -/
theorem held_6 (c : Dev nD) (t : Fin cfg0.N) (h0 : ¬ t.val % 11 = 0) (d) :
    (dats m 0 c).before 6 t d = accQ m c ⟨t.val - 1, Nat.lt_of_le_of_lt (Nat.sub_le _ _) t.isLt⟩ := by
  have hN : t.val < 88 := lt_of_lt_of_eq t.isLt (show cfg0.N = 88 from N_0)
  rw [Dat.before_out_kept _ 6 rfl t (by omega) (Bool.eq_false_iff.mpr fun h => by have := (flush0_6 _).mp h; dsimp only at this; omega)
    (fun _ => rfl) (fun _ _ => rfl)]
  dsimp only [dats]

end Cert.FoxBwd

end
-- ==== Proof.Launch.lean ====
module

public import proofs.«01_k».proof.Proof.Data

@[expose] public section

/-! # The body meets the proof data, and the run

The body meets the data at every point, and the launch terminates with the arrays the data compute. -/

set_option maxRecDepth 16384

noncomputable section

namespace Cert.FoxBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d)))

/-- What it returns. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t))

/-- The body's triple at the first key tile, its outputs in closed form where the run's stores are. -/
theorem first_close (M : Mem) (hc0 : first M.i)
    (R : type_of% (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z))
    (hq : (∀ f, M.arg9.view.read (Elt Ideal) (M.arg9.view.writes (Elt Ideal) f R.1) = M.B.addQ M.j))
    (hk : (∀ f, M.arg10.view.read (Elt Ideal) (M.arg10.view.writes (Elt Ideal) f R.2.1) = M.B.outK M.j)) (hv : (∀ f, M.arg11.view.read (Elt Ideal) (M.arg11.view.writes (Elt Ideal) f R.2.2.1) = M.B.outV M.j))
    (hc : (∀ f, M.arg12.view.read (Elt Ideal) (M.arg12.view.writes (Elt Ideal) f R.2.2.2.1) = M.B.outC M.j 0)) (hd : (∀ f, M.arg13.view.read (Elt Ideal) (M.arg13.view.writes (Elt Ideal) f R.2.2.2.2.1) = M.B.outC M.j 1)) (E : Set ℕ) (K : PUnit → sProp 𝕄) :
    iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ (∃ d, owns (M.c : Thread nD τ) M.arg9 fullShare d) ∗ (∃ d, owns (M.c : Thread nD τ) M.arg10 fullShare d) ∗ (∃ d, owns (M.c : Thread nD τ) M.arg11 fullShare d) ∗ (∃ d, owns (M.c : Thread nD τ) M.arg12 fullShare d) ∗ (∃ d, owns (M.c : Thread nD τ) M.arg13 fullShare d)
        ∗ (iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare (M.B.addQ M.j) ∗ owns (M.c : Thread nD τ) M.arg10 fullShare (M.B.outK M.j) ∗ owns (M.c : Thread nD τ) M.arg11 fullShare (M.B.outV M.j) ∗ owns (M.c : Thread nD τ) M.arg12 fullShare (M.B.outC M.j 0) ∗ owns (M.c : Thread nD τ) M.arg13 fullShare (M.B.outC M.j 1) ) -∗ K ⟨⟩))
      ⊢ wp frame (wpE (defs₀ (F := Ideal)) Variants.none M.c none) E (cc0_fox_bwd M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13) K := by
  iintro ⟨H0, H1, H2, H3, H4, H5, H6, H7, H8, H9, H10, Hk⟩
  iapply R.2.2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, ⟨%e6, H6⟩, ⟨%e7, H7⟩, ⟨%e8, H8⟩, ⟨%e9, H9⟩, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact hq e6
  isplitl [H7]
  · unfold owns; iexists _; isplitr
    swap; · iexact H7
    ipureintro; exact hk e7
  isplitl [H8]
  · unfold owns; iexists _; isplitr
    swap; · iexact H8
    ipureintro; exact hv e8
  isplitl [H9]
  · unfold owns; iexists _; isplitr
    swap; · iexact H9
    ipureintro; exact hc e9
  unfold owns; iexists _; isplitr
  swap; · iexact H10
  ipureintro; exact hd e10

/-- The body's triple at the first key tile, its outputs in closed form. -/
theorem first_triple (M : Mem) (hc0 : first M.i) (E : Set ℕ) (K : PUnit → sProp 𝕄) :
    iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ (∃ d, owns (M.c : Thread nD τ) M.arg9 fullShare d) ∗ (∃ d, owns (M.c : Thread nD τ) M.arg10 fullShare d) ∗ (∃ d, owns (M.c : Thread nD τ) M.arg11 fullShare d) ∗ (∃ d, owns (M.c : Thread nD τ) M.arg12 fullShare d) ∗ (∃ d, owns (M.c : Thread nD τ) M.arg13 fullShare d)
        ∗ (iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare (M.B.addQ M.j) ∗ owns (M.c : Thread nD τ) M.arg10 fullShare (M.B.outK M.j) ∗ owns (M.c : Thread nD τ) M.arg11 fullShare (M.B.outV M.j) ∗ owns (M.c : Thread nD τ) M.arg12 fullShare (M.B.outC M.j 0) ∗ owns (M.c : Thread nD τ) M.arg13 fullShare (M.B.outC M.j 1) ) -∗ K ⟨⟩))
      ⊢ wp frame (wpE (defs₀ (F := Ideal)) Variants.none M.c none) E (cc0_fox_bwd M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13) K :=
  first_close M hc0 (runFirst (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z) (M.first_q hc0) (M.first_k hc0) (M.first_v hc0) (M.first_c0 hc0) (M.first_c1 hc0) E K

/-- The body's triple at a later key tile, its outputs in closed form where the run's stores are. -/
theorem later_close (M : Mem) (hc0 : ¬ first M.i) (x6 : Vec Ideal S4224x256 .f32)
    (R : type_of% (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6))
    (hq : M.arg9.view.read (Elt Ideal) (M.arg9.view.writes (Elt Ideal) (M.harg9.unread x6) R.1) = fun y => (x6 y : EReal) + M.B.addQ M.j y)
    (hk : (∀ f, M.arg10.view.read (Elt Ideal) (M.arg10.view.writes (Elt Ideal) f R.2.1) = M.B.outK M.j)) (hv : (∀ f, M.arg11.view.read (Elt Ideal) (M.arg11.view.writes (Elt Ideal) f R.2.2.1) = M.B.outV M.j))
    (hc : (∀ f, M.arg12.view.read (Elt Ideal) (M.arg12.view.writes (Elt Ideal) f R.2.2.2.1) = M.B.outC M.j 0)) (hd : (∀ f, M.arg13.view.read (Elt Ideal) (M.arg13.view.writes (Elt Ideal) f R.2.2.2.2.1) = M.B.outC M.j 1)) (E : Set ℕ) (K : PUnit → sProp 𝕄) :
    iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare x6 ∗ (∃ d, owns (M.c : Thread nD τ) M.arg10 fullShare d) ∗ (∃ d, owns (M.c : Thread nD τ) M.arg11 fullShare d) ∗ (∃ d, owns (M.c : Thread nD τ) M.arg12 fullShare d) ∗ (∃ d, owns (M.c : Thread nD τ) M.arg13 fullShare d)
        ∗ (iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare ((fun y => (x6 y : EReal) + M.B.addQ M.j y)) ∗ owns (M.c : Thread nD τ) M.arg10 fullShare (M.B.outK M.j) ∗ owns (M.c : Thread nD τ) M.arg11 fullShare (M.B.outV M.j) ∗ owns (M.c : Thread nD τ) M.arg12 fullShare (M.B.outC M.j 0) ∗ owns (M.c : Thread nD τ) M.arg13 fullShare (M.B.outC M.j 1) ) -∗ K ⟨⟩))
      ⊢ wp frame (wpE (defs₀ (F := Ideal)) Variants.none M.c none) E (cc0_fox_bwd M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13) K := by
  iintro ⟨H0, H1, H2, H3, H4, H5, H6, H7, H8, H9, H10, Hk⟩
  iapply R.2.2.2.2.2 E K
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%e7, H7⟩, ⟨%e8, H8⟩, ⟨%e9, H9⟩, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact hq
  isplitl [H7]
  · unfold owns; iexists _; isplitr
    swap; · iexact H7
    ipureintro; exact hk e7
  isplitl [H8]
  · unfold owns; iexists _; isplitr
    swap; · iexact H8
    ipureintro; exact hv e8
  isplitl [H9]
  · unfold owns; iexists _; isplitr
    swap; · iexact H9
    ipureintro; exact hc e9
  unfold owns; iexists _; isplitr
  swap; · iexact H10
  ipureintro; exact hd e10

/-- The body's triple at a later key tile, its outputs in closed form. -/
theorem later_triple (M : Mem) (hc0 : ¬ first M.i) (x6 : Vec Ideal S4224x256 .f32) (E : Set ℕ) (K : PUnit → sProp 𝕄) :
    iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare x6 ∗ (∃ d, owns (M.c : Thread nD τ) M.arg10 fullShare d) ∗ (∃ d, owns (M.c : Thread nD τ) M.arg11 fullShare d) ∗ (∃ d, owns (M.c : Thread nD τ) M.arg12 fullShare d) ∗ (∃ d, owns (M.c : Thread nD τ) M.arg13 fullShare d)
        ∗ (iprop(owns (M.c : Thread nD τ) M.arg3 fullShare M.B.k ∗ owns (M.c : Thread nD τ) M.arg4 fullShare M.B.v ∗ owns (M.c : Thread nD τ) M.arg5 fullShare M.B.q ∗ owns (M.c : Thread nD τ) M.arg6 fullShare M.B.g ∗ owns (M.c : Thread nD τ) M.arg7 fullShare M.B.o ∗ owns (M.c : Thread nD τ) M.arg8 fullShare M.B.z ∗ owns (M.c : Thread nD τ) M.arg9 fullShare ((fun y => (x6 y : EReal) + M.B.addQ M.j y)) ∗ owns (M.c : Thread nD τ) M.arg10 fullShare (M.B.outK M.j) ∗ owns (M.c : Thread nD τ) M.arg11 fullShare (M.B.outV M.j) ∗ owns (M.c : Thread nD τ) M.arg12 fullShare (M.B.outC M.j 0) ∗ owns (M.c : Thread nD τ) M.arg13 fullShare (M.B.outC M.j 1) ) -∗ K ⟨⟩))
      ⊢ wp frame (wpE (defs₀ (F := Ideal)) Variants.none M.c none) E (cc0_fox_bwd M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13) K :=
  later_close M hc0 x6 (runLater (F := Ideal) M.c M.i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 hc0 M.B.k M.B.v M.B.q M.B.g M.B.o M.B.z x6) (M.later_q hc0 x6) (M.later_k hc0 x6) (M.later_v hc0 x6) (M.later_c0 hc0 x6) (M.later_c1 hc0 x6) E K

set_option maxHeartbeats 1600000 in
/-- The body at any point, from the triple of its case. -/
theorem body_holds (c : Dev nD) (t : Fin cfg0.N) :
    given m c t ⊢ wp frame (wpE (defs₀ (F := Ideal)) Variants.none c none) Set.univ (bodyAt0 t) (fun _ => returned m c t) := by
  unfold given returned bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8, left_9, left_10]
  by_cases h0 : t.val % 11 = 0
  · rw [accQ_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (first_triple (mem m c t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [held_6 m c t h0]
    rw [accQ_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (later_triple (mem m c t) (fun h => h0 ((first_iff t).mp h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_row (t : Fin cfg0.N) : defs₀ (F := Ideal) .tc cfg0.body (cfg0.bodyArgs t (cfg0.slots t)) = bodyAt0 t := by
  unfold defs₀; rw [Defs.onTc_tc]

/-- The body meets the proof data at every point. -/
theorem body_meets (c : Dev nD) : BodyObligation (dats m 0 c) (defs₀ (F := Ideal)) Variants.none () Set.univ := fun t => by
  rw [bigSep_W0, bigSep_W0, body_row]
  exact triple_restated (body_holds m c t) rfl .rfl fun _ => .rfl

set_option backward.isDefEq.respectTransparency.types false in
set_option maxHeartbeats 800000 in
/-- The launch terminates, with the arrays at what the proof data compute, the lines after it run, and every counter at zero. -/
theorem launch_ends : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_meets m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The kernel's frame: it terminates, its arguments end unchanged and every counter at zero. -/
theorem kernel_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launch_ends m ρ)))
    ((θ_run defs _ _).mono (fun _ h => h.2) (launch_ends m ρ))

end Cert.FoxBwd

end
-- ==== Proof.Spec.lean ====
module

public import Idealize.ShloMosaic.PureOps.Ideal
public import Idealize.ShloMosaic.PureOps.Ideal.Laws
public import Idealize.ShloMosaic.Lib.IdealHost

@[expose] public section

/-! # The attention backward over the reals

What the four gradients are for finite arguments: `S` the scores, `P` the causal softmax of a row, `dP` its gradient,
`ds` the scores' gradient. -/

noncomputable section

namespace Cert.FoxBwd

/-- Finite arguments, and for every row the number subtracted from its scores before the exponential. -/
structure In where
  q : Fin 2 → Fin 4224 → Fin 8 → Fin 64 → ℝ
  k : Fin 2 → Fin 4224 → Fin 8 → Fin 64 → ℝ
  v : Fin 2 → Fin 4224 → Fin 8 → Fin 64 → ℝ
  c : Fin 2 → Fin 4224 → Fin 8 → ℝ
  g : Fin 2 → Fin 4224 → Fin 8 → Fin 64 → ℝ
  mx : Fin 2 → Fin 8 → Fin 4224 → ℝ

namespace In

variable (I : In) (b : Fin 2) (h : Fin 8) (t s : Fin 4224)

/-- The score of row `t` and key `s`. -/
def S : ℝ := (∑ d, I.q b t h d * I.k b s h d) * (1 / 8) + (I.c b t h - I.c b s h)
/-- The shifted exponential, zero above the diagonal. -/
def E : ℝ := if s ≤ t then Real.exp (I.S b h t s - I.mx b h t) else 0
/-- The normaliser of a row. -/
def L : ℝ := ∑ s, I.E b h t s
/-- The softmax. -/
def P : ℝ := I.E b h t s / I.L b h t
/-- The softmax's gradient. -/
def dP : ℝ := ∑ d, I.g b t h d * I.v b s h d
/-- The scores' gradient. -/
def ds : ℝ := I.P b h t s * (I.dP b h t s - ∑ r, I.P b h t r * I.dP b h t r)
/-- The queries' gradient. -/
def dq (d : Fin 64) : ℝ := (∑ s, I.ds b h t s * I.k b s h d) * (1 / 8)
/-- The keys' gradient. -/
def dk (d : Fin 64) : ℝ := (∑ t, I.ds b h t s * I.q b t h d) * (1 / 8)
/-- The values' gradient. -/
def dv (d : Fin 64) : ℝ := ∑ t, I.P b h t s * I.g b t h d
/-- The bias's gradient. -/
def dc : ℝ := ∑ t, -I.ds b h t s

theorem E_nonneg : 0 ≤ I.E b h t s := by
  unfold E; split
  · exact (Real.exp_pos _).le
  · exact le_rfl

theorem E_self : 0 < I.E b h t t := by
  unfold E; rw [if_pos le_rfl]; exact Real.exp_pos _

theorem E_below (hs : s ≤ t) : I.E b h t s = Real.exp (I.S b h t s - I.mx b h t) := if_pos hs

theorem E_above (hs : ¬ s ≤ t) : I.E b h t s = 0 := if_neg hs

theorem L_pos : 0 < I.L b h t :=
  Finset.sum_pos' (fun s _ => I.E_nonneg b h t s) ⟨t, Finset.mem_univ _, I.E_self b h t⟩

theorem L_ne : I.L b h t ≠ 0 := (I.L_pos b h t).ne'

theorem P_above (hs : ¬ s ≤ t) : I.P b h t s = 0 := by
  unfold P E; rw [if_neg hs, zero_div]

theorem ds_above (hs : ¬ s ≤ t) : I.ds b h t s = 0 := by
  unfold ds; rw [I.P_above b h t s hs, zero_mul]

theorem P_sum : ∑ s, I.P b h t s = 1 := by
  unfold P; rw [← Finset.sum_div]; exact div_self (I.L_ne b h t)

/-- The scores' gradients of a row sum to zero. -/
theorem ds_sum : ∑ s, I.ds b h t s = 0 := by
  unfold ds
  simp only [mul_sub]
  rw [Finset.sum_sub_distrib, ← Finset.sum_mul, I.P_sum, one_mul, sub_self]

/-- The scores' gradient as the chain rule through the quotient gives it. -/
theorem ds_quot : (I.dP b h t s / I.L b h t + -∑ r, I.dP b h t r * (1 / (I.L b h t * I.L b h t)) * I.E b h t r) * I.E b h t s
    = I.ds b h t s := by
  have hL := I.L_ne b h t
  have e : ∑ r, I.dP b h t r * (1 / (I.L b h t * I.L b h t)) * I.E b h t r = (∑ r, I.P b h t r * I.dP b h t r) / I.L b h t := by
    rw [Finset.sum_div]
    refine Finset.sum_congr rfl fun r _ => ?_
    unfold P; field_simp
  rw [e]
  unfold ds
  generalize (∑ r, I.P b h t r * I.dP b h t r) = x
  unfold P; field_simp; ring

/-- The softmax from the logarithm of the row's normaliser. -/
theorem P_exp (hs : s ≤ t) : Real.exp (I.S b h t s - (I.mx b h t + Real.log (I.L b h t))) = I.P b h t s := by
  unfold P E
  rw [if_pos hs, ← sub_sub, Real.exp_sub, Real.exp_log (I.L_pos b h t)]

/-- The output at a row times its gradient is the softmax times its own. -/
theorem delta : ∑ d, I.g b t h d * ∑ s, I.v b s h d * I.P b h t s = ∑ s, I.P b h t s * I.dP b h t s := by
  unfold dP
  simp only [Finset.mul_sum]
  rw [Finset.sum_comm]
  exact Finset.sum_congr rfl fun s _ => Finset.sum_congr rfl fun d _ => by ring

end In

open Idealize.ShloMosaic

/-- A finite sum of reals among the extended reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

theorem coe_div (x y : ℝ) (h : y ≠ 0) : Ideal.div (x : EReal) (y : EReal) = ((x / y : ℝ) : EReal) := by
  rw [Ideal.div_coe h, ← EReal.coe_mul, mul_one_div]

theorem eighth : Ideal.ofBits .f32 0x3E000000#32 = ((1 / 8 : ℝ) : EReal) := by
  simp [Ideal.ofBits, Ideal.ieee, -EReal.coe_mul]; norm_num

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

end Cert.FoxBwd
end
-- ==== Proof.Ref.lean ====
module

public import proofs.«01_k».proof.Proof.Spec
public import proofs.«01_k».proof.Proof.Gen.ReferenceIdeal.Read
public import Idealize.ShloMosaic.PureOps.Reduce
public import Idealize.ShloMosaic.Lib.Affine

@[expose] public section

/-! # The reference's four results are the gradients of `Spec` -/

set_option maxRecDepth 16384

noncomputable section

namespace Cert.FoxBwd.Ref

open Idealize.ShloMosaic Cert.ReferenceIdeal Cert.ReferenceIdeal.Gen Cert.ReferenceIdeal.Read

abbrev A4 : Type := (⟨S2x4224x8x64, .f32⟩ : BufTy).Contents (Elt Ideal)
abbrev A3 : Type := (⟨S2x4224x8, .f32⟩ : BufTy).Contents (Elt Ideal)

/-- The arguments hold `I`'s numbers. -/
structure Holds (I : In) (x0 x1 x2 : A4) (x3 : A3) (x4 : A4) : Prop where
  q : ∀ i, x0 i = ((I.q (i 0) (i 1) (i 2) (i 3) : ℝ) : EReal)
  k : ∀ i, x1 i = ((I.k (i 0) (i 1) (i 2) (i 3) : ℝ) : EReal)
  v : ∀ i, x2 i = ((I.v (i 0) (i 1) (i 2) (i 3) : ℝ) : EReal)
  c : ∀ i, x3 i = ((I.c (i 0) (i 1) (i 2) : ℝ) : EReal)
  g : ∀ i, x4 i = ((I.g (i 0) (i 1) (i 2) (i 3) : ℝ) : EReal)

variable {I : In} {x0 x1 x2 : A4} {x3 : A3} {x4 : A4} (H : Holds I x0 x1 x2 x3 x4)

section
include H

theorem v0_at (i) : val_main_v0 (F := Ideal) x0 x1 i = ((∑ d, I.q (i 0) (i 2) (i 1) d * I.k (i 0) (i 3) (i 1) d : ℝ) : EReal) := by
  rw [val_main_v0_apply, coe_sum]
  refine Finset.sum_congr rfl fun d _ => ?_
  rw [H.q, H.k, EReal.coe_mul]; rfl

/-- The scores. -/
theorem v9_at (i) : val_main_v9 (F := Ideal) x0 x1 x3 i = ((I.S (i 0) (i 1) (i 2) (i 3) : ℝ) : EReal) := by
  rw [val_main_v9_apply, val_main_v2_apply, val_main_v8_apply, v0_at H, val_main_v6_apply, val_main_v7_apply,
    val_main_v4_apply, val_main_v5_apply, val_main_v3_apply, val_main_v3_apply, H.c, H.c, val_main_v1_apply, val_main_cst_apply]
  show ((_ : ℝ) : EReal) * Ideal.ofBits .f32 0x3E000000#32 + (((_ : ℝ) : EReal) - ((_ : ℝ) : EReal)) = _
  rw [eighth, ← EReal.coe_mul, ← EReal.coe_sub, ← EReal.coe_add]
  rfl

end

theorem toInt_small (n : ℕ) (h : n < 4224) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The mask: a key no later than the row. -/
theorem mask_at (i) : val_main_v17_1 (F := Ideal) i = if (i 3).val ≤ (i 2).val then 1#1 else 0#1 := by
  rw [val_main_v17_1_apply, val_main_v16_apply, val_main_v14_apply, val_main_v15_apply, val_main_v11_apply, val_main_v13_apply,
    val_main_v10_apply, val_main_v12_apply]
  show IntOp.cmpi .sle (BitVec.ofNat 32 (i 3).val) (BitVec.ofNat 32 (i 2).val) = _
  have h2 : (i 2).val < 4224 := (i 2).isLt
  have h3 : (i 3).val < 4224 := (i 3).isLt
  have e : IntOp.cmpi .sle (BitVec.ofNat 32 (i 3).val) (BitVec.ofNat 32 (i 2).val) = 1#1 ↔ (i 3).val ≤ (i 2).val := by
    rw [IntOp.cmpi_sle]
    rw [toInt_small _ h2, toInt_small _ h3]
    omega
  split
  · rename_i hle; exact e.mpr hle
  · rename_i hle
    have : IntOp.cmpi .sle (BitVec.ofNat 32 (i 3).val) (BitVec.ofNat 32 (i 2).val) ≠ 1#1 := fun h => hle (e.mp h)
    generalize IntOp.cmpi .sle (BitVec.ofNat 32 (i 3).val) (BitVec.ofNat 32 (i 2).val) = x at this
    revert x; decide

theorem select_if (p : Prop) [Decidable p] (a b : EReal) : Scalar.select (if p then 1#1 else 0#1) a b = if p then a else b := by
  by_cases hp : p <;> simp [hp, Scalar.select]

section
include H

/-- The masked scores. -/
theorem v17_at (i) : val_main_v17_0 (F := Ideal) x0 x1 x3 i
    = if (i 3).val ≤ (i 2).val then ((I.S (i 0) (i 1) (i 2) (i 3) : ℝ) : EReal) else ⊥ := by
  rw [val_main_v17_0_apply, mask_at, v9_at H, val_main_call0_v2_apply, val_main_call0_v0_apply, val_main_cst_0_apply]
  refine (select_if _ _ _).trans ?_
  show (if _ then _ else Ideal.ofBits .f32 0xFF800000#32) = _
  rw [negInf]

/-- The greatest score of a row is a real number. -/
theorem v18_real (i : S2x8x4224.Idx) : ∃ r : ℝ, val_main_v18 (F := Ideal) x0 x1 x3 i = (r : EReal) := by
  have e : val_main_v18 (F := Ideal) x0 x1 x3 i = (Finset.univ : Finset (Fin 4224)).fold max ⊥ fun k =>
      if k.val ≤ (i 2).val then ((I.S (i 0) (i 1) (i 2) k : ℝ) : EReal) else ⊥ := by
    unfold val_main_v18
    have := v17_at H
    generalize val_main_v17_0 (F := Ideal) x0 x1 x3 = y at this
    rw [Host.reduce_eq_fold_single _ _ _ reducesTo_S2x8x4224x4224_S2x8x4224_d3 (by decide) h_S_ i]
    show Finset.fold max (Ideal.ofBits .f32 0xFF800000#32) _ _ = _
    rw [negInf]
    refine congrArg (fun f => Finset.fold max ⊥ f Finset.univ) (funext fun k => ?_)
    show y _ = _
    rw [this]; rfl
  have lo : ⊥ < val_main_v18 (F := Ideal) x0 x1 x3 i := by
    rw [e, Finset.lt_fold_max]
    exact Or.inr ⟨i 2, Finset.mem_univ _, lt_of_lt_of_eq (EReal.bot_lt_coe _) (if_pos (le_refl (i 2).val)).symm⟩
  have hi : val_main_v18 (F := Ideal) x0 x1 x3 i < ⊤ := by
    rw [e, Finset.fold_max_lt]
    refine ⟨bot_lt_top, fun k _ => ?_⟩
    split
    · exact EReal.coe_lt_top _
    · exact bot_lt_top
  exact ⟨_, (EReal.coe_toReal hi.ne lo.ne').symm⟩

end

variable (M : ∀ i : S2x8x4224.Idx, val_main_v18 (F := Ideal) x0 x1 x3 i = ((I.mx (i 0) (i 1) (i 2) : ℝ) : EReal))

section
include H M

theorem v38_at (i) : val_main_v38 (F := Ideal) x0 x1 x3 i = ((I.E (i 0) (i 1) (i 2) (i 3) : ℝ) : EReal) := by
  rw [val_main_v38_apply, val_main_v37_apply, v17_at H, val_main_v36_apply, val_main_v35_apply, val_main_v25_apply,
    M, val_main_v24_apply, val_main_cst_3_apply]
  show Ideal.exp ((if _ then _ else ⊥) - max (Ideal.ofBits .f32 0xFF800000#32) _) = _
  rw [negInf, max_eq_right bot_le]
  split
  · rename_i hle
    rw [← EReal.coe_sub]
    exact (congrArg Real.toEReal (I.E_below (i 0) (i 1) (i 2) (i 3) hle)).symm
  · rename_i hle
    rw [EReal.bot_sub]
    exact (congrArg Real.toEReal (I.E_above (i 0) (i 1) (i 2) (i 3) hle)).symm

theorem v39_at (i) : val_main_v39 (F := Ideal) x0 x1 x3 i = ((I.L (i 0) (i 1) (i 2) : ℝ) : EReal) := by
  rw [val_main_v39_apply, val_main_cst_9_apply]
  show Ideal.ofBits .f32 0x00000000#32 + _ = _
  rw [Ideal.ofBits_zero_f32, zero_add]
  unfold In.L
  rw [coe_sum]
  refine Finset.sum_congr rfl fun s _ => ?_
  rw [v38_at H M]; rfl

theorem v40_at (i) : val_main_v40 (F := Ideal) x0 x1 x3 i = ((I.L (i 0) (i 1) (i 2) : ℝ) : EReal) := by
  rw [val_main_v40_apply, v39_at H M]; rfl

theorem v42_at (i) : val_main_v42 (F := Ideal) x0 x1 x3 i = ((I.P (i 0) (i 1) (i 2) (i 3) : ℝ) : EReal) := by
  rw [val_main_v42_apply, v38_at H M, val_main_v41_apply, v40_at H M]
  exact coe_div _ _ (I.L_ne _ _ _)

theorem v49_at (i) : val_main_v49 (F := Ideal) x2 x4 i = ((I.dP (i 0) (i 1) (i 2) (i 3) : ℝ) : EReal) := by
  rw [val_main_v49_apply]
  unfold In.dP
  rw [coe_sum]
  refine Finset.sum_congr rfl fun d _ => ?_
  rw [val_main_v48_apply, H.g, H.v, EReal.coe_mul]; rfl

/-- The values' gradient. -/
theorem v51_at (i) : val_main_v51 (F := Ideal) x0 x1 x3 x4 i = ((I.dv (i 0) (i 2) (i 1) (i 3) : ℝ) : EReal) := by
  rw [val_main_v51_apply, val_main_v50_apply]
  unfold In.dv
  rw [coe_sum]
  refine Finset.sum_congr rfl fun t _ => ?_
  rw [val_main_v48_apply, H.g, v42_at H M, EReal.coe_mul, mul_comm]; rfl

omit H M in
theorem quot_two (a l e : ℝ) (hl : l ≠ 0) :
    (a : EReal) * Ideal.div (Ideal.ofBits .f32 0x3F800000#32) ((l : EReal) * (l : EReal)) * (e : EReal) = ((a * (1 / (l * l)) * e : ℝ) : EReal) := by
  rw [Ideal.ofBits_one_f32, ← EReal.coe_mul, show (1 : EReal) = ((1 : ℝ) : EReal) from rfl,
    coe_div _ _ (mul_ne_zero hl hl), ← EReal.coe_mul, ← EReal.coe_mul]

omit H M in
theorem quot_one (a l x e : ℝ) (hl : l ≠ 0) :
    (Ideal.div (a : EReal) (l : EReal) + (x : EReal)) * (e : EReal) = (((a / l + x) * e : ℝ) : EReal) := by
  rw [coe_div _ _ hl, ← EReal.coe_add, ← EReal.coe_mul]

theorem v54_at (i) : val_main_v54 (F := Ideal) x0 x1 x2 x3 x4 i
    = ((I.dP (i 0) (i 1) (i 2) (i 3) * (1 / (I.L (i 0) (i 1) (i 2) * I.L (i 0) (i 1) (i 2))) * I.E (i 0) (i 1) (i 2) (i 3) : ℝ) : EReal) := by
  rw [val_main_v54_apply, v38_at H M, val_main_v53_apply, v49_at H M, val_main_v52_apply, val_main_v45_apply, val_main_v43_apply,
    v40_at H M, val_main_v44_apply, val_main_cst_10_apply]
  exact quot_two _ _ _ (I.L_ne _ _ _)

theorem v55_at (i) : val_main_v55 (F := Ideal) x0 x1 x2 x3 x4 i
    = ((∑ r, I.dP (i 0) (i 1) (i 2) r * (1 / (I.L (i 0) (i 1) (i 2) * I.L (i 0) (i 1) (i 2))) * I.E (i 0) (i 1) (i 2) r : ℝ) : EReal) := by
  rw [val_main_v55_apply, val_main_cst_11_apply]
  show Ideal.ofBits .f32 0x00000000#32 + _ = _
  rw [Ideal.ofBits_zero_f32, zero_add, coe_sum]
  refine Finset.sum_congr rfl fun s _ => ?_
  rw [v54_at H M]; rfl

theorem flat3 (i : S2x8x4224x1.Idx) : idx_main_v56 i = fun a => match a with
    | ⟨0, _⟩ => ⟨(i 0).val, (i 0).isLt⟩ | ⟨1, _⟩ => ⟨(i 1).val, (i 1).isLt⟩ | ⟨2, _⟩ => ⟨(i 2).val, (i 2).isLt⟩ := by
  have h0 : (i 0).val < 2 := (i 0).isLt
  have h1 : (i 1).val < 8 := (i 1).isLt
  have h2 : (i 2).val < 4224 := (i 2).isLt
  have h3 : (i 3).val < 1 := (i 3).isLt
  funext a
  match a with
  | ⟨0, _⟩ => refine Fin.ext ?_; show ((((i 0).val * 8 + (i 1).val) * 4224 + (i 2).val) * 1 + (i 3).val) / 33792 = (i 0).val; omega
  | ⟨1, _⟩ => refine Fin.ext ?_; show ((((i 0).val * 8 + (i 1).val) * 4224 + (i 2).val) * 1 + (i 3).val) / 4224 % 8 = (i 1).val; omega
  | ⟨2, _⟩ => refine Fin.ext ?_; show ((((i 0).val * 8 + (i 1).val) * 4224 + (i 2).val) * 1 + (i 3).val) % 4224 = (i 2).val; omega

theorem v60_at (i) : val_main_v60 (F := Ideal) x0 x1 x2 x3 x4 i
    = ((-∑ r, I.dP (i 0) (i 1) (i 2) r * (1 / (I.L (i 0) (i 1) (i 2) * I.L (i 0) (i 1) (i 2))) * I.E (i 0) (i 1) (i 2) r : ℝ) : EReal) := by
  rw [val_main_v60_apply, val_main_cst_12_apply]
  show Ideal.ofBits .f32 0x00000000#32 + _ = _
  rw [Ideal.ofBits_zero_f32, zero_add, Fin.sum_univ_one, val_main_v57_apply, val_main_v56_apply, flat3 H M, v55_at H M, EReal.coe_neg]
  rfl

/-- The scores' gradient. -/
theorem v64_at (i) : val_main_v64 (F := Ideal) x0 x1 x2 x3 x4 i = ((I.ds (i 0) (i 1) (i 2) (i 3) : ℝ) : EReal) := by
  rw [val_main_v64_apply, mask_at, val_main_v63_apply, v38_at H M, val_main_v62_apply, val_main_v59_apply, v49_at H M, val_main_v58_apply,
    v40_at H M, val_main_v61_apply, v60_at H M, val_main_call1_v0_apply, val_main_call1_cst_apply]
  refine (select_if _ _ _).trans ?_
  show (if _ then (Ideal.div _ _ + _) * _ else Ideal.ofBits .f32 0x00000000#32) = _
  split
  · refine Eq.trans ?_ (congrArg Real.toEReal (I.ds_quot (i 0) (i 1) (i 2) (i 3)))
    exact quot_one _ _ _ _ (I.L_ne _ _ _)
  · rename_i hle
    rw [Ideal.ofBits_zero_f32]
    exact (congrArg Real.toEReal (I.ds_above (i 0) (i 1) (i 2) (i 3) hle)).symm

theorem v65_at (i) : val_main_v65 (F := Ideal) x0 x1 x2 x3 x4 i = ((0 : ℝ) : EReal) := by
  rw [val_main_v65_apply, val_main_cst_13_apply]
  show Ideal.ofBits .f32 0x00000000#32 + _ = _
  rw [Ideal.ofBits_zero_f32, zero_add]
  refine Eq.trans ?_ (congrArg Real.toEReal (I.ds_sum (i 0) (i 1) (i 2)))
  rw [coe_sum]
  refine Finset.sum_congr rfl fun s _ => ?_
  rw [v64_at H M]; rfl

theorem v68_at (i) : val_main_v68 (F := Ideal) x0 x1 x2 x3 x4 i = ((I.dc (i 0) (i 1) (i 2) : ℝ) : EReal) := by
  rw [val_main_v68_apply, val_main_cst_14_apply]
  show Ideal.ofBits .f32 0x00000000#32 + _ = _
  rw [Ideal.ofBits_zero_f32, zero_add]
  unfold In.dc
  rw [coe_sum]
  refine Finset.sum_congr rfl fun s _ => ?_
  rw [val_main_v67_apply, v64_at H M, EReal.coe_neg]; rfl

/-- The bias's gradient. -/
theorem v73_at (i) : val_main_v73 (F := Ideal) x0 x1 x2 x3 x4 i = ((I.dc (i 0) (i 2) (i 1) : ℝ) : EReal) := by
  rw [val_main_v73_apply, val_main_v72_apply, val_main_v70_apply, val_main_v71_apply, val_main_cst_15_apply, val_main_cst_16_apply]
  show (Ideal.ofBits .f32 0x00000000#32 + _) + (Ideal.ofBits .f32 0x00000000#32 + _) = _
  rw [Ideal.ofBits_zero_f32, zero_add, zero_add, Fin.sum_univ_one, Fin.sum_univ_one, val_main_v69_apply, val_main_v66_apply,
    v65_at H M, v68_at H M, EReal.coe_zero, add_zero]
  have h0 : (i 0).val < 2 := (i 0).isLt
  have h1 : (i 1).val < 4224 := (i 1).isLt
  have h2 : (i 2).val < 8 := (i 2).isLt
  have e0 : (((((i 0).val * 8 + (i 2).val) * 1 + 0) * 4224 + (i 1).val) / 33792) = (i 0).val := by omega
  have e1 : (((((i 0).val * 8 + (i 2).val) * 1 + 0) * 4224 + (i 1).val) / 4224 % 8) = (i 2).val := by omega
  have e2 : (((((i 0).val * 8 + (i 2).val) * 1 + 0) * 4224 + (i 1).val) % 4224) = (i 1).val := by omega
  exact congrArg Real.toEReal (congr (congr (congrArg I.dc (Fin.ext e0)) (Fin.ext e1)) (Fin.ext e2))

theorem v75_at (i) : val_main_v75 (F := Ideal) x0 x1 x2 x3 x4 i = ((I.ds (i 0) (i 1) (i 2) (i 3) * (1 / 8) : ℝ) : EReal) := by
  rw [val_main_v75_apply, v64_at H M, val_main_v74_apply, val_main_cst_17_apply]
  show _ * Ideal.ofBits .f32 0x3E000000#32 = _
  rw [eighth, ← EReal.coe_mul]

/-- The keys' gradient. -/
theorem v77_at (i) : val_main_v77 (F := Ideal) x0 x1 x2 x3 x4 i = ((I.dk (i 0) (i 2) (i 1) (i 3) : ℝ) : EReal) := by
  rw [val_main_v77_apply, val_main_v76_apply]
  unfold In.dk
  rw [Finset.sum_mul, coe_sum]
  refine Finset.sum_congr rfl fun t _ => ?_
  rw [v75_at H M, H.q, ← EReal.coe_mul, mul_right_comm]; rfl

/-- The queries' gradient. -/
theorem v79_at (i) : val_main_v79 (F := Ideal) x0 x1 x2 x3 x4 i = ((I.dq (i 0) (i 2) (i 1) (i 3) : ℝ) : EReal) := by
  rw [val_main_v79_apply, val_main_v78_apply]
  unfold In.dq
  rw [Finset.sum_mul, coe_sum]
  refine Finset.sum_congr rfl fun s _ => ?_
  rw [v75_at H M, H.k, ← EReal.coe_mul, mul_right_comm]; rfl

end

end Cert.FoxBwd.Ref
end
-- ==== Proof.Host.lean ====
module

public import proofs.«01_k».proof.Proof.Gen.KernelIdeal.Frame
public import proofs.«01_k».proof.Proof.Ref
public import Idealize.ShloMosaic.Lib.StableHlo.RunRead
public import Idealize.ShloMosaic.Lib.StableHlo.ReadAt

@[expose] public section

/-! # The arrays that the kernel is launched on

The host operations before the launch, as terms over the reference's own values: the scores, the softmax and the
output are the reference's. -/

set_option maxRecDepth 16384

noncomputable section

namespace Cert.FoxBwd

open Idealize.ShloMosaic Idealize.ShloMosaic.TcCoe Idealize.SL.Sem Idealize.ShloMosaic.ValueIdx
open Cert.KernelIdeal Cert.KernelIdeal.Gen
open Cert.ReferenceIdeal.Read (val_main_v17_0 val_main_v18 val_main_v25 val_main_v38 val_main_v39 val_main_v42 val_main_v46 val_main_v47)

variable (m : (ℓ : Loc nD τ sig) → Buf (Elt Ideal) ℓ) (c : Dev nD)

abbrev a0 : Ref.A4 := m ((c : Thread nD τ).loc main_arg0)
abbrev a1 : Ref.A4 := m ((c : Thread nD τ).loc main_arg1)
abbrev a2 : Ref.A4 := m ((c : Thread nD τ).loc main_arg2)
abbrev a3 : Ref.A3 := m ((c : Thread nD τ).loc main_arg3)
abbrev a4 : Ref.A4 := m ((c : Thread nD τ).loc main_arg4)

/-- The masked scores. -/
theorem host17 : V m c main_v17 = val_main_v17_0 (F := Ideal) (a0 m c) (a1 m c) (a3 m c) := by
  unfold V V0
  simp only [hostOps0, hostOps0_1, hostOps0_2, hostOps0_3, hostOps0_4, List.flatten_cons, List.flatten_nil, List.append_nil, List.cons_append, List.nil_append]
  after_reads_simp
  rfl

/-- The greatest scores. -/
theorem host18 : V m c main_v18 = val_main_v18 (F := Ideal) (a0 m c) (a1 m c) (a3 m c) := by
  unfold V V0
  simp only [hostOps0, hostOps0_1, hostOps0_2, hostOps0_3, hostOps0_4, List.flatten_cons, List.flatten_nil, List.append_nil, List.cons_append, List.nil_append]
  after_reads_simp
  rfl

theorem max18 (x0 x1 : Ref.A4) (x3 : Ref.A3) : val_main_v25 (F := Ideal) x0 x1 x3 = val_main_v18 (F := Ideal) x0 x1 x3 := by
  funext i
  rw [Cert.ReferenceIdeal.Read.val_main_v25_apply, Cert.ReferenceIdeal.Read.val_main_v24_apply, Cert.ReferenceIdeal.Read.val_main_cst_3_apply]
  show max (Ideal.ofBits .f32 0xFF800000#32) _ = _
  rw [negInf]; exact max_eq_right bot_le

theorem exp38 (x0 x1 : Ref.A4) (x3 : Ref.A3) : @Eq (FVec Ideal S2x8x4224x4224 .f32) (val_main_v38 (F := Ideal) x0 x1 x3) <| Host.exp (subf (val_main_v17_0 (F := Ideal) x0 x1 x3)
    (broadcastInDim S2x8x4224x4224 ![0, 1, 2, 3] bcast_S2x8x4224x1_S2x8x4224x4224_0_1_2_3 (broadcastInDim S2x8x4224x1 ![0, 1, 2] bcast_S2x8x4224_S2x8x4224x1_0_1_2 (val_main_v18 (F := Ideal) x0 x1 x3)))) := by
  rw [← max18]; rfl

/-- The shifted exponentials. -/
theorem host22 : V m c main_v22 = val_main_v38 (F := Ideal) (a0 m c) (a1 m c) (a3 m c) := by
  rw [exp38]
  unfold V V0
  simp only [hostOps0, hostOps0_1, hostOps0_2, hostOps0_3, hostOps0_4, List.flatten_cons, List.flatten_nil, List.append_nil, List.cons_append, List.nil_append]
  after_reads_simp
  rfl

theorem sum39 (x0 x1 : Ref.A4) (x3 : Ref.A3) : @Eq (FVec Ideal S2x8x4224 .f32) (val_main_v39 (F := Ideal) x0 x1 x3) <| Host.reduceAdd (Host.exp (subf (val_main_v17_0 (F := Ideal) x0 x1 x3)
    (broadcastInDim S2x8x4224x4224 ![0, 1, 2, 3] bcast_S2x8x4224x1_S2x8x4224x4224_0_1_2_3 (broadcastInDim S2x8x4224x1 ![0, 1, 2] bcast_S2x8x4224_S2x8x4224x1_0_1_2 (val_main_v18 (F := Ideal) x0 x1 x3))))) (constant S_ .f32 0x00000000#32) reducesTo_S2x8x4224x4224_S2x8x4224_d3 h_S_ := by
  rw [← exp38]; rfl

/-- The normalisers. -/
theorem host23 : V m c main_v23 = val_main_v39 (F := Ideal) (a0 m c) (a1 m c) (a3 m c) := by
  rw [sum39]
  unfold V V0
  simp only [hostOps0, hostOps0_1, hostOps0_2, hostOps0_3, hostOps0_4, List.flatten_cons, List.flatten_nil, List.append_nil, List.cons_append, List.nil_append]
  after_reads_simp
  rfl

/-- The output of the attention, one row per token. -/
theorem host29 : V m c main_v29 = shapeCast S8448x512 (val_main_v47 (F := Ideal) (a0 m c) (a1 m c) (a2 m c) (a3 m c)) shapeCasts_S2x4224x8x64_S8448x512 := by
  have e : val_main_v47 (F := Ideal) (a0 m c) (a1 m c) (a2 m c) (a3 m c) = transpose S2x4224x8x64 [0, 3, 1, 2] (Host.dotGeneral (F := Ideal) dot_S2x4224x8x64_S2x8x4224x4224_S2x8x64x4224_1_3_3_2_02_01 none (a2 m c)
      (Host.divf (val_main_v38 (F := Ideal) (a0 m c) (a1 m c) (a3 m c)) (broadcastInDim S2x8x4224x4224 ![0, 1, 2, 3] bcast_S2x8x4224x1_S2x8x4224x4224_0_1_2_3 (broadcastInDim S2x8x4224x1 ![0, 1, 2] bcast_S2x8x4224_S2x8x4224x1_0_1_2 (val_main_v39 (F := Ideal) (a0 m c) (a1 m c) (a3 m c)))))) transposes_S2x8x64x4224_S2x4224x8x64_0_3_1_2 := rfl
  rw [e, sum39, exp38]
  unfold V V0
  simp only [hostOps0, hostOps0_1, hostOps0_2, hostOps0_3, hostOps0_4, List.flatten_cons, List.flatten_nil, List.append_nil, List.cons_append, List.nil_append]
  after_reads_simp
  rfl

/-- The rows' normalisers in the logarithm, two lanes of a pair of heads and zeros. -/
theorem host34 : V m c main_v34 = pad S2x4x4224x128 ![0, 0, 0, 0] ![0, 0, 0, 126] ![0, 0, 0, 0]
    (transpose S2x4x4224x2 [0, 1, 3, 2] (shapeCast S2x4x2x4224 (addf (val_main_v18 (F := Ideal) (a0 m c) (a1 m c) (a3 m c)) (Host.log (val_main_v39 (F := Ideal) (a0 m c) (a1 m c) (a3 m c)))) shapeCasts_S2x8x4224_S2x4x2x4224) transposes_S2x4x2x4224_S2x4x4224x2_0_1_3_2)
    (sitofp (F := Ideal) .f32 (constantI S_ 32 0#32)) pads_S2x4x4224x2_S2x4x4224x128_000_000_000_01260 h_S_ := by
  rw [sum39]
  unfold V V0
  simp only [hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  refine congrArg₂ (fun (x y : FVec Ideal S2x8x4224 .f32) => pad S2x4x4224x128 ![0, 0, 0, 0] ![0, 0, 0, 126] ![0, 0, 0, 0]
    (transpose S2x4x4224x2 [0, 1, 3, 2] (shapeCast S2x4x2x4224 (addf x (Host.log y)) shapeCasts_S2x8x4224_S2x4x2x4224) transposes_S2x4x2x4224_S2x4x4224x2_0_1_3_2)
    (sitofp (F := Ideal) .f32 (constantI S_ 32 0#32)) pads_S2x4x4224x2_S2x4x4224x128_000_000_000_01260 h_S_) ?_ ?_
  · rfl
  · rfl

/-- The queries, scaled, beside the bias and the lanes of ones. -/
theorem host43 : V m c main_v43 = truncf .bf16 (shapeCast S8448x1024 (concatenate S2x4224x8x128 3
      [⟨S2x4224x8x64, mulf (a0 m c) (broadcastInDim S2x4224x8x64 ![] bcast_S_S2x4224x8x64 (constant (F := Ideal) S_ .f32 0x3E000000#32))⟩,
       ⟨S2x4224x8x1, broadcastInDim S2x4224x8x1 ![0, 1, 2] bcast_S2x4224x8_S2x4224x8x1_0_1_2 (a3 m c)⟩,
       ⟨S2x4224x8x1, broadcastInDim S2x4224x8x1 ![] bcast_S_S2x4224x8x1 (constant (F := Ideal) S_ .f32 0x00000000#32)⟩,
       ⟨S2x4224x8x1, broadcastInDim S2x4224x8x1 ![] bcast_S_S2x4224x8x1 (constant (F := Ideal) S_ .f32 0x00000000#32)⟩,
       ⟨S2x4224x8x3, broadcastInDim S2x4224x8x3 ![] bcast_S_S2x4224x8x3 (constant (F := Ideal) S_ .f32 0x3F800000#32)⟩,
       ⟨S2x4224x8x58, broadcastInDim S2x4224x8x58 ![] bcast_S_S2x4224x8x58 (constant (F := Ideal) S_ .f32 0x00000000#32)⟩]
      concatenates_S2x4224x8x64_S2x4224x8x1_S2x4224x8x1_S2x4224x8x1_S2x4224x8x3_S2x4224x8x58_S2x4224x8x128_d3) shapeCasts_S2x4224x8x128_S8448x1024) bitsLt_bf16_f32 := by
  unfold V V0
  simp only [hostOps0, hostOps0_1, hostOps0_2, hostOps0_3, hostOps0_4, List.flatten_cons, List.flatten_nil, List.append_nil, List.cons_append, List.nil_append]
  after_reads_simp
  rfl

/-- The keys beside the lanes of ones and the bias, negated. -/
theorem host47 : V m c main_v47 = truncf .bf16 (shapeCast S8448x1024 (concatenate S2x4224x8x128 3
      [⟨S2x4224x8x64, a1 m c⟩,
       ⟨S2x4224x8x3, broadcastInDim S2x4224x8x3 ![] bcast_S_S2x4224x8x3 (constant (F := Ideal) S_ .f32 0x3F800000#32)⟩,
       ⟨S2x4224x8x1, Host.negf (broadcastInDim S2x4224x8x1 ![0, 1, 2] bcast_S2x4224x8_S2x4224x8x1_0_1_2 (a3 m c))⟩,
       ⟨S2x4224x8x1, broadcastInDim S2x4224x8x1 ![] bcast_S_S2x4224x8x1 (constant (F := Ideal) S_ .f32 0x00000000#32)⟩,
       ⟨S2x4224x8x1, broadcastInDim S2x4224x8x1 ![] bcast_S_S2x4224x8x1 (constant (F := Ideal) S_ .f32 0x00000000#32)⟩,
       ⟨S2x4224x8x58, broadcastInDim S2x4224x8x58 ![] bcast_S_S2x4224x8x58 (constant (F := Ideal) S_ .f32 0x00000000#32)⟩]
      concatenates_S2x4224x8x64_S2x4224x8x3_S2x4224x8x1_S2x4224x8x1_S2x4224x8x1_S2x4224x8x58_S2x4224x8x128_d3) shapeCasts_S2x4224x8x128_S8448x1024) bitsLt_bf16_f32 := by
  unfold V V0
  simp only [hostOps0, hostOps0_1, hostOps0_2, hostOps0_3, hostOps0_4, List.flatten_cons, List.flatten_nil, List.append_nil, List.cons_append, List.nil_append]
  after_reads_simp
  rfl

/-- The values, one row per token. -/
theorem host49 : @Eq (FVec Ideal S8448x512 .bf16) (V m c main_v49) <| truncf (F := Ideal) .bf16 (shapeCast S8448x512 (a2 m c) shapeCasts_S2x4224x8x64_S8448x512) bitsLt_bf16_f32 := by
  unfold V V0
  simp only [hostOps0, hostOps0_1, hostOps0_2, hostOps0_3, hostOps0_4, List.flatten_cons, List.flatten_nil, List.append_nil, List.cons_append, List.nil_append]
  after_reads_simp
  rfl

/-- The output's gradient, one row per token. -/
theorem host51 : @Eq (FVec Ideal S8448x512 .bf16) (V m c main_v51) <| truncf (F := Ideal) .bf16 (shapeCast S8448x512 (a4 m c) shapeCasts_S2x4224x8x64_S8448x512) bitsLt_bf16_f32 := by
  unfold V V0
  simp only [hostOps0, hostOps0_1, hostOps0_2, hostOps0_3, hostOps0_4, List.flatten_cons, List.flatten_nil, List.append_nil, List.cons_append, List.nil_append]
  after_reads_simp
  rfl

end Cert.FoxBwd
end
-- ==== Proof.Real.lean ====
module

public import proofs.«01_k».proof.Proof.Post
public import proofs.«01_k».proof.Proof.Spec

@[expose] public section

/-! # The blocks' closed forms where the blocks hold finite numbers

If the blocks of a grid point hold `I`'s rows and keys, the closed forms are the gradients of `Spec`. -/

noncomputable section

namespace Cert.FoxBwd

open Idealize.ShloMosaic Cert.KernelIdeal

/-- Head `h` of the pair `p`. -/
abbrev pair (p : Fin 4) (h : Fin 2) : Fin 8 := ⟨2 * p.val + h.val, by omega⟩
/-- Key `s` of tile `j`. -/
abbrev key (j : Fin 11) (s : Fin 384) : Fin 4224 := ⟨384 * j.val + s.val, by omega⟩
/-- Lane `d` of head `h` among 128 lanes. -/
abbrev half (h : Fin 2) (d : Fin 64) : Fin 128 := ⟨64 * h.val + d.val, by omega⟩

namespace In
variable (I : In) (b : Fin 2) (h : Fin 8)

/-- The queries' lanes: the scaled query, the bias, two zeros, three ones, zeros. -/
def qa (t : Fin 4224) (x : Fin 128) : ℝ :=
  if hx : x.val < 64 then I.q b t h ⟨x.val, hx⟩ * (1 / 8) else if x.val = 64 then I.c b t h else if x.val < 67 then 0 else if x.val < 70 then 1 else 0
/-- The keys' lanes: the key, three ones, minus the bias, zeros. -/
def ka (s : Fin 4224) (x : Fin 128) : ℝ :=
  if hx : x.val < 64 then I.k b s h ⟨x.val, hx⟩ else if x.val < 67 then 1 else if x.val = 67 then -I.c b s h else 0
/-- A row's output. -/
def o (t : Fin 4224) (d : Fin 64) : ℝ := ∑ s, I.v b s h d * I.P b h t s

theorem halves (f : Fin 128 → ℝ) : ∑ x, f x = ∑ d : Fin 64, f (half 0 d) + ∑ d : Fin 64, f (half 1 d) := by
  refine (Fin.sum_univ_add (a := 64) (b := 64) f).trans (congrArg₂ _ (Finset.sum_congr rfl fun d _ => congrArg f (Fin.ext ?_)) (Finset.sum_congr rfl fun d _ => congrArg f (Fin.ext ?_)))
  · show d.val = 64 * 0 + d.val; omega
  · show 64 + d.val = 64 * 1 + d.val; omega

/-- The product over the lanes is the score. -/
theorem lanes_S (t s : Fin 4224) : ∑ x, I.qa b h t x * I.ka b h s x = I.S b h t s := by
  rw [halves]
  have e0 : ∀ d : Fin 64, I.qa b h t (half 0 d) * I.ka b h s (half 0 d) = I.q b t h d * I.k b s h d * (1 / 8) := fun d => by
    have hd : (half 0 d).val < 64 := by show 64 * 0 + d.val < 64; omega
    have ed : (⟨(half 0 d).val, hd⟩ : Fin 64) = d := Fin.ext (by show 64 * 0 + d.val = d.val; omega)
    unfold qa ka
    rw [dif_pos hd, dif_pos hd, ed]; ring
  have e1 : ∀ d : Fin 64, I.qa b h t (half 1 d) * I.ka b h s (half 1 d) = (if d = 0 then I.c b t h else 0) + (if d = 3 then -I.c b s h else 0) := fun d => by
    have hv : (half 1 d).val = 64 + d.val := by show 64 * 1 + d.val = _; omega
    have h0 : (d = 0) ↔ d.val = 0 := ⟨fun e => by rw [e]; rfl, fun e => Fin.ext e⟩
    have h3 : (d = 3) ↔ d.val = 3 := ⟨fun e => by rw [e]; rfl, fun e => Fin.ext e⟩
    generalize half 1 d = x at hv ⊢
    unfold qa ka
    simp only [h0, h3]
    rw [dif_neg (by omega), dif_neg (by omega)]
    by_cases c0 : d.val = 0
    · rw [if_pos (by omega), if_pos (by omega), if_pos c0, if_neg (by omega)]; ring
    · by_cases c3 : d.val = 3
      · rw [if_neg (by omega), if_neg (by omega), if_pos (by omega), if_neg (by omega), if_pos (by omega), if_neg c0, if_pos c3]; ring
      · rw [if_neg (by omega), if_neg c0, if_neg c3]
        by_cases c2 : d.val < 3
        · rw [if_pos (by omega)]; ring
        · rw [if_neg (by omega : ¬ x.val < 67), if_neg (by omega : ¬ x.val < 67), if_neg (by omega : ¬ x.val = 67)]; ring
  rw [Finset.sum_congr rfl fun d _ => e0 d, Finset.sum_congr rfl fun d _ => e1 d, Finset.sum_add_distrib, Finset.sum_ite_eq' , Finset.sum_ite_eq']
  simp only [Finset.mem_univ, if_true]
  unfold S
  rw [Finset.sum_mul]; ring

/-- A sum over the lanes of one head of the pair. -/
theorem lanes_half (h : Fin 2) (f : Fin 128 → ℝ) : ∑ x : Fin 128, (if x.val / 64 = h.val then f x else 0) = ∑ d, f (half h d) := by
  rw [halves]
  fin_cases h
  · rw [Finset.sum_congr (g := fun d => f (half 0 d)) rfl fun d _ => if_pos (by show (64 * 0 + d.val) / 64 = 0; omega)]
    rw [Finset.sum_eq_zero (f := fun d : Fin 64 => if (half 1 d).val / 64 = _ then f (half 1 d) else 0) fun d _ => if_neg (by show ¬ (64 * 1 + d.val) / 64 = 0; omega), add_zero]
    rfl
  · rw [Finset.sum_congr (s₁ := Finset.univ) (g := fun d => f (half 1 d)) (f := fun d : Fin 64 => if (half 1 d).val / 64 = _ then f (half 1 d) else 0) rfl fun d _ => if_pos (by show (64 * 1 + d.val) / 64 = 1; omega)]
    rw [Finset.sum_eq_zero (f := fun d : Fin 64 => if (half 0 d).val / 64 = _ then f (half 0 d) else 0) fun d _ => if_neg (by show ¬ (64 * 0 + d.val) / 64 = 1; omega), zero_add]
    rfl
end In

/-- The blocks hold batch `b`, the pair `p` and the key tile `j` of `I`. -/
structure Blk.Of (B : Blk) (I : In) (b : Fin 2) (p : Fin 4) (j : Fin 11) : Prop where
  k : ∀ s h x, B.k (ix2 s (lane h x)) = ((I.ka b (pair p h) (key j s) x : ℝ) : EReal)
  v : ∀ s h d, B.v (ix2 s (half h d)) = ((I.v b (key j s) (pair p h) d : ℝ) : EReal)
  q : ∀ r h x, B.q (ix2 r (lane h x)) = ((I.qa b (pair p h) r x : ℝ) : EReal)
  g : ∀ r h d, B.g (ix2 r (half h d)) = ((I.g b r (pair p h) d : ℝ) : EReal)
  o : ∀ r h d, B.o (ix2 r (half h d)) = ((I.o b (pair p h) r d : ℝ) : EReal)
  z : ∀ r (h : Fin 2), B.z (ix4 0 0 r ⟨h.val, by omega⟩) = ((I.mx b (pair p h) r + Real.log (I.L b (pair p h) r) : ℝ) : EReal)

/-- A lane of the 128 is a lane of one of the two heads. -/
theorem half_of (x : Fin 128) : ∃ h d, x = half h d :=
  ⟨⟨x.val / 64, by omega⟩, ⟨x.val % 64, by omega⟩, Fin.ext (by show x.val = 64 * (x.val / 64) + x.val % 64; omega)⟩

namespace Blk.Of
variable {B : Blk} {I : In} {b : Fin 2} {p : Fin 4} {j : Fin 11} (O : B.Of I b p j) (h : Fin 2) (r : Fin 4224) (s : Fin 384)
include O

theorem w_at : B.w h r s = ((Real.exp (I.S b (pair p h) r (key j s) - (I.mx b (pair p h) r + Real.log (I.L b (pair p h) r))) : ℝ) : EReal) := by
  unfold Blk.w
  rw [O.z, ← Ideal.exp_coe]
  refine congrArg Ideal.exp ?_
  rw [EReal.coe_sub, ← In.lanes_S, coe_sum]
  refine congrArg (· - _) (Finset.sum_congr rfl fun x _ => ?_)
  rw [O.q, O.k, EReal.coe_mul]

/-- The weights are the softmax. -/
theorem P_at : B.P j.val h r s = ((I.P b (pair p h) r (key j s) : ℝ) : EReal) := by
  unfold Blk.P
  by_cases hs : 384 * j.val + s.val ≤ r.val
  · rw [if_pos hs, O.w_at, I.P_exp b (pair p h) r (key j s) hs]
  · rw [if_neg hs, I.P_above b (pair p h) r (key j s) hs, EReal.coe_zero]

/-- A product over the lanes of a head. -/
theorem mask_sum (F : Fin 128 → EReal) (f : Fin 64 → ℝ) (hF : ∀ d, F (half h d) = ((f d : ℝ) : EReal)) (hz : ∀ x : Fin 128, ¬ x.val / 64 = h.val → F x = 0) :
    ∑ x, F x = ((∑ d, f d : ℝ) : EReal) := by
  have e := In.lanes_half h fun x => f ⟨x.val % 64, by omega⟩
  have e2 : ∀ d : Fin 64, f ⟨(half h d).val % 64, by omega⟩ = f d := fun d => congrArg f (Fin.ext (by show (64 * h.val + d.val) % 64 = d.val; omega))
  rw [Finset.sum_congr rfl fun d _ => e2 d] at e
  rw [← e, coe_sum]
  refine Finset.sum_congr rfl fun x _ => ?_
  by_cases hx : x.val / 64 = h.val
  · rw [if_pos hx, ← hF]
    exact congrArg F (Fin.ext (by show x.val = 64 * h.val + x.val % 64; omega))
  · rw [if_neg hx, hz x hx, EReal.coe_zero]

theorem gm_at (d : Fin 64) : B.gm h r (half h d) = ((I.g b r (pair p h) d : ℝ) : EReal) := by
  unfold Blk.gm
  rw [if_pos (by show (64 * h.val + d.val) / 64 = h.val; omega), O.g]
theorem vm_at (d : Fin 64) : B.vm h s (half h d) = ((I.v b (key j s) (pair p h) d : ℝ) : EReal) := by
  unfold Blk.vm
  rw [if_pos (by show (64 * h.val + d.val) / 64 = h.val; omega), O.v]
theorem gm_off (x : Fin 128) (hx : ¬ x.val / 64 = h.val) : B.gm h r x = 0 := by
  unfold Blk.gm; exact if_neg hx

/-- The scores' gradients. -/
theorem D_at : B.D j.val h r s = ((I.ds b (pair p h) r (key j s) : ℝ) : EReal) := by
  unfold Blk.D
  by_cases hs : 384 * j.val + s.val ≤ r.val
  · rw [if_pos hs]
    unfold Blk.d
    rw [O.w_at, I.P_exp b (pair p h) r (key j s) hs]
    rw [O.mask_sum h (fun x => B.gm h r x * B.vm h s x) (fun d => I.g b r (pair p h) d * I.v b (key j s) (pair p h) d)
      (fun d => by show B.gm h r _ * B.vm h s _ = _; rw [O.gm_at, O.vm_at, EReal.coe_mul]) (fun x hx => by show B.gm h r x * _ = 0; rw [O.gm_off h r x hx, zero_mul])]
    rw [O.mask_sum h (fun x => B.gm h r x * B.o (ix2 r x)) (fun d => I.g b r (pair p h) d * I.o b (pair p h) r d)
      (fun d => by show B.gm h r _ * B.o _ = _; rw [O.gm_at, O.o, EReal.coe_mul]) (fun x hx => by show B.gm h r x * _ = 0; rw [O.gm_off h r x hx, zero_mul])]
    rw [← EReal.coe_sub, ← EReal.coe_mul]
    unfold In.o In.ds
    rw [In.delta]; rfl
  · rw [if_neg hs, I.ds_above b (pair p h) r (key j s) hs, EReal.coe_zero]

end Blk.Of

/-- The sums over the eleven tiles are the sum over the rows. -/
theorem sum_tiles (f : Fin 4224 → ℝ) (F : Fin 4224 → EReal) (hF : ∀ r, F r = ((f r : ℝ) : EReal)) :
    ∑ n ∈ Finset.range 11, tile F n = ((∑ r, f r : ℝ) : EReal) := by
  rw [Finset.sum_range, coe_sum, ← (finProdFinEquiv (m := 11) (n := 384)).sum_comp, Fintype.sum_prod_type]
  refine Finset.sum_congr rfl fun n _ => ?_
  unfold tile
  rw [dif_pos n.isLt]
  refine Finset.sum_congr rfl fun t _ => ?_
  rw [hF]
  refine congrArg (fun r => ((f r : ℝ) : EReal)) (Fin.ext ?_)
  show 384 * n.val + t.val = t.val + 384 * n.val
  omega

/-- The eleven key tiles are all the keys. -/
theorem sum_keys (f : Fin 4224 → ℝ) : ∑ n : Fin 11, ∑ s : Fin 384, ((f (key n s) : ℝ) : EReal) = ((∑ s, f s : ℝ) : EReal) := by
  rw [coe_sum, ← (finProdFinEquiv (m := 11) (n := 384)).sum_comp, Fintype.sum_prod_type]
  refine Finset.sum_congr rfl fun n _ => Finset.sum_congr rfl fun t _ => ?_
  refine congrArg (fun r => ((f r : ℝ) : EReal)) (Fin.ext ?_)
  show 384 * n.val + t.val = t.val + 384 * n.val
  omega

theorem tile_coe (f : Fin 4224 → ℝ) (F : Fin 4224 → EReal) (hF : ∀ r, F r = ((f r : ℝ) : EReal)) (n : ℕ) :
    tile F n = (((if h : n < 11 then ∑ t, f (row n h t) else 0) : ℝ) : EReal) := by
  unfold tile
  split
  · rw [coe_sum]; exact Finset.sum_congr rfl fun t _ => hF _
  · exact EReal.coe_zero.symm

theorem range_coe (f : ℕ → ℝ) (n : ℕ) : ∑ i ∈ Finset.range n, ((f i : ℝ) : EReal) = ((∑ i ∈ Finset.range n, f i : ℝ) : EReal) := by
  rw [Finset.sum_range, Finset.sum_range, coe_sum]

namespace Blk.Of
variable {B : Blk} {I : In} {b : Fin 2} {p : Fin 4} {j : Fin 11} (O : B.Of I b p j) (h : Fin 2) (r : Fin 4224) (s : Fin 384)
include O

theorem hd_lane (h : Fin 2) (x : Fin 128) : hd (lane h x) = h := Fin.ext (by show (128 * h.val + x.val) / 128 = h.val; omega)

/-- The keys' gradient's block. -/
theorem outK_at (x : Fin 128) : B.outK j.val (ix2 s (lane h x)) = ((∑ r, I.ds b (pair p h) r (key j s) * I.qa b (pair p h) r x : ℝ) : EReal) := by
  refine sum_tiles _ _ fun r => ?_
  show B.D j.val (hd (lane h x)) r s * B.q (ix2 r (lane h x)) = _
  rw [O.hd_lane, O.D_at, O.q, EReal.coe_mul]

/-- What a key tile adds to the queries' gradient. -/
theorem addQ_at (x : Fin 128) : B.addQ j.val (ix2 r (lane h x)) = ∑ s, ((I.ds b (pair p h) r (key j s) * I.ka b (pair p h) (key j s) x : ℝ) : EReal) := by
  refine Finset.sum_congr rfl fun s _ => ?_
  show B.D j.val (hd (lane h x)) r s * B.k (ix2 s (lane h x)) = _
  rw [O.hd_lane, O.D_at, O.k, EReal.coe_mul]

/-- The bias's gradient's block. -/
theorem outC_at (y : S1x1x1x384.Idx) : B.outC j.val h y = ((I.dc b (pair p h) (key j (y 3)) : ℝ) : EReal) := by
  unfold Blk.outC In.dc
  have hF : ∀ r, B.D j.val h r (y 3) = ((I.ds b (pair p h) r (key j (y 3)) : ℝ) : EReal) := fun r => O.D_at h r (y 3)
  have e := sum_tiles _ _ hF
  rw [Finset.sum_congr rfl fun n _ => tile_coe _ _ hF n, range_coe] at e
  rw [Finset.sum_congr rfl fun n _ => congrArg Neg.neg (tile_coe _ _ hF n)]
  simp only [← EReal.coe_neg]
  rw [range_coe, Finset.sum_neg_distrib, EReal.coe_neg, e, Finset.sum_neg_distrib, EReal.coe_neg]

/-- The values' gradient's block. -/
theorem outV_at (d : Fin 64) : B.outV j.val (ix2 s (half h d)) = ((I.dv b (pair p h) (key j s) d : ℝ) : EReal) := by
  have own : ∀ r, B.P j.val h r s * B.gm h r (half h d) = ((I.P b (pair p h) r (key j s) * I.g b r (pair p h) d : ℝ) : EReal) := fun r => by
    rw [O.P_at, O.gm_at, EReal.coe_mul]
  have other : ∀ h', h' ≠ h → ∀ r, B.P j.val h' r s * B.gm h' r (half h d) = (((0 : ℝ)) : EReal) := fun h' hh r => by
    rw [O.gm_off h' r _ (by show ¬ (64 * h.val + d.val) / 64 = h'.val; intro e; exact hh (Fin.ext (by omega))), mul_zero, EReal.coe_zero]
  unfold Blk.outV In.dv
  rw [Finset.sum_add_distrib]
  fin_cases h
  · refine (congrArg₂ _ (sum_tiles _ _ own) (sum_tiles _ _ (other 1 (by decide)))).trans ?_
    rw [Finset.sum_const_zero, EReal.coe_zero, add_zero]
  · refine (congrArg₂ _ (sum_tiles _ _ (other 0 (by decide))) (sum_tiles _ _ own)).trans ?_
    rw [Finset.sum_const_zero, EReal.coe_zero, zero_add]

end Blk.Of
end Cert.FoxBwd
end
-- ==== Proof.Lanes.lean ====
module

public import proofs.«01_k».proof.Proof.Host
public import proofs.«01_k».proof.Proof.Real
public import Idealize.ShloMosaic.Lib.Pipeline.Value
public import Idealize.ShloMosaic.Lib.Pointwise.SelectCore

@[expose] public section

/-! # The launched arrays' entries where the arguments hold finite numbers -/

set_option maxRecDepth 16384

noncomputable section

namespace Cert.FoxBwd

open Idealize.ShloMosaic Idealize.ShloMosaic.TcCoe Idealize.SL.Sem
open Cert.KernelIdeal Cert.KernelIdeal.Gen
open Cert.ReferenceIdeal.Read (val_main_v17_0 val_main_v18 val_main_v39 val_main_v42 val_main_v46 val_main_v47)

theorem Ref.v47_at {I : In} {x0 x1 x2 : Ref.A4} {x3 : Ref.A3} {x4 : Ref.A4} (H : Ref.Holds I x0 x1 x2 x3 x4)
    (M : ∀ i, val_main_v18 (F := Ideal) x0 x1 x3 i = ((I.mx (i 0) (i 1) (i 2) : ℝ) : EReal)) (i : S2x4224x8x64.Idx) :
    val_main_v47 (F := Ideal) x0 x1 x2 x3 i = ((I.o (i 0) (i 2) (i 1) (i 3) : ℝ) : EReal) := by
  rw [Cert.ReferenceIdeal.Read.val_main_v47_apply, Cert.ReferenceIdeal.Read.val_main_v46_apply]
  unfold In.o
  rw [coe_sum]
  refine Finset.sum_congr rfl fun s _ => ?_
  rw [H.v, Ref.v42_at H M, EReal.coe_mul]; rfl

/-- Row `t` of batch `b`. -/
abbrev tok (b : Fin 2) (t : Fin 4224) : Fin 8448 := ⟨4224 * b.val + t.val, by omega⟩
/-- Lane `x` of head `h` among eight heads of 128 lanes. -/
abbrev wide (h : Fin 8) (x : Fin 128) : Fin 1024 := ⟨128 * h.val + x.val, by omega⟩
/-- Lane `d` of head `h` among eight heads of 64 lanes. -/
abbrev slim (h : Fin 8) (d : Fin 64) : Fin 512 := ⟨64 * h.val + d.val, by omega⟩

theorem merge_wide {α : Type} (A : S2x4224x8x128.Idx → α) (hc) (b : Fin 2) (t : Fin 4224) (h : Fin 8) (x : Fin 128) :
    shapeCast S8448x1024 A hc (ix2 (tok b t) (wide h x)) = A (ix4 b t h x) := by
  refine shapeCast_apply A hc _ _ ?_
  rw [Shape.rowMajor_val_two, Shape.rowMajor_val_four]
  show ((b.val * 4224 + t.val) * 8 + h.val) * 128 + x.val = (4224 * b.val + t.val) * 1024 + (128 * h.val + x.val)
  ring

theorem merge_slim {α : Type} (A : S2x4224x8x64.Idx → α) (hc) (b : Fin 2) (t : Fin 4224) (h : Fin 8) (d : Fin 64) :
    shapeCast S8448x512 A hc (ix2 (tok b t) (slim h d)) = A (ix4 b t h d) := by
  refine shapeCast_apply A hc _ _ ?_
  rw [Shape.rowMajor_val_two, Shape.rowMajor_val_four]
  show ((b.val * 4224 + t.val) * 8 + h.val) * 64 + d.val = (4224 * b.val + t.val) * 512 + (64 * h.val + d.val)
  ring

theorem split_heads {α : Type} (A : S2x8x4224.Idx → α) (hc) (b : Fin 2) (p : Fin 4) (h : Fin 2) (t : Fin 4224) :
    shapeCast S2x4x2x4224 A hc (ix4 b p h t) = A (ix3 b (pair p h) t) := by
  refine shapeCast_apply A hc _ _ ?_
  rw [Shape.rowMajor_val_three, Shape.rowMajor_val_four]
  show (b.val * 8 + (2 * p.val + h.val)) * 4224 + t.val = ((b.val * 4 + p.val) * 2 + h.val) * 4224 + t.val
  ring

theorem one_f32 : Ideal.ofBits .f32 0x3F800000#32 = ((1 : ℝ) : EReal) := by rw [Ideal.ofBits_one_f32]; rfl

theorem trunc_wide (A : FVec Ideal S2x4224x8x128 .f32) (hc) (hb) (b : Fin 2) (t : Fin 4224) (h : Fin 8) (x : Fin 128) :
    truncf (F := Ideal) .bf16 (shapeCast S8448x1024 A hc) hb (ix2 (tok b t) (wide h x)) = A (ix4 b t h x) := merge_wide A hc b t h x

/-- The padded rows' first two lanes. -/
theorem pad_lane (Z : FVec Ideal S2x4x2x4224 .f32) (v : FVec Ideal S_ .f32) (b : Fin 2) (p : Fin 4) (t : Fin 4224) (h : Fin 2) :
    pad S2x4x4224x128 ![0, 0, 0, 0] ![0, 0, 0, 126] ![0, 0, 0, 0] (transpose S2x4x4224x2 [0, 1, 3, 2] Z transposes_S2x4x2x4224_S2x4x4224x2_0_1_3_2) v
      pads_S2x4x4224x2_S2x4x4224x128_000_000_000_01260 h_S_ (ix4 b p t ⟨h.val, by omega⟩) = Z (ix4 b p h t) := by
  pointwise

theorem q_lanes (A : FVec Ideal S2x4224x8x64 .f32) (B : FVec Ideal S2x4224x8 .f32) (b : Fin 2) (t : Fin 4224) (h : Fin 8) (x : Fin 128) :
    concatenate S2x4224x8x128 3
      [⟨S2x4224x8x64, mulf A (broadcastInDim S2x4224x8x64 ![] bcast_S_S2x4224x8x64 (constant (F := Ideal) S_ .f32 0x3E000000#32))⟩,
       ⟨S2x4224x8x1, broadcastInDim S2x4224x8x1 ![0, 1, 2] bcast_S2x4224x8_S2x4224x8x1_0_1_2 B⟩,
       ⟨S2x4224x8x1, broadcastInDim S2x4224x8x1 ![] bcast_S_S2x4224x8x1 (constant (F := Ideal) S_ .f32 0x00000000#32)⟩,
       ⟨S2x4224x8x1, broadcastInDim S2x4224x8x1 ![] bcast_S_S2x4224x8x1 (constant (F := Ideal) S_ .f32 0x00000000#32)⟩,
       ⟨S2x4224x8x3, broadcastInDim S2x4224x8x3 ![] bcast_S_S2x4224x8x3 (constant (F := Ideal) S_ .f32 0x3F800000#32)⟩,
       ⟨S2x4224x8x58, broadcastInDim S2x4224x8x58 ![] bcast_S_S2x4224x8x58 (constant (F := Ideal) S_ .f32 0x00000000#32)⟩]
      concatenates_S2x4224x8x64_S2x4224x8x1_S2x4224x8x1_S2x4224x8x1_S2x4224x8x3_S2x4224x8x58_S2x4224x8x128_d3 (ix4 b t h x)
      = (if hx : x.val < 64 then A (ix4 b t h ⟨x.val, hx⟩) * Ideal.ofBits .f32 0x3E000000#32 else if x.val = 64 then B (ix3 b t h) else if x.val < 67 then 0 else if x.val < 70 then Ideal.ofBits .f32 0x3F800000#32 else 0 : EReal) := by
  pointwise
  split_ifs <;> first | rfl | (exfalso; omega)

theorem k_lanes (A : FVec Ideal S2x4224x8x64 .f32) (B : FVec Ideal S2x4224x8 .f32) (b : Fin 2) (t : Fin 4224) (h : Fin 8) (x : Fin 128) :
    concatenate S2x4224x8x128 3
      [⟨S2x4224x8x64, A⟩,
       ⟨S2x4224x8x3, broadcastInDim S2x4224x8x3 ![] bcast_S_S2x4224x8x3 (constant (F := Ideal) S_ .f32 0x3F800000#32)⟩,
       ⟨S2x4224x8x1, Host.negf (F := Ideal) (broadcastInDim S2x4224x8x1 ![0, 1, 2] bcast_S2x4224x8_S2x4224x8x1_0_1_2 B)⟩,
       ⟨S2x4224x8x1, broadcastInDim S2x4224x8x1 ![] bcast_S_S2x4224x8x1 (constant (F := Ideal) S_ .f32 0x00000000#32)⟩,
       ⟨S2x4224x8x1, broadcastInDim S2x4224x8x1 ![] bcast_S_S2x4224x8x1 (constant (F := Ideal) S_ .f32 0x00000000#32)⟩,
       ⟨S2x4224x8x58, broadcastInDim S2x4224x8x58 ![] bcast_S_S2x4224x8x58 (constant (F := Ideal) S_ .f32 0x00000000#32)⟩]
      concatenates_S2x4224x8x64_S2x4224x8x3_S2x4224x8x1_S2x4224x8x1_S2x4224x8x1_S2x4224x8x58_S2x4224x8x128_d3 (ix4 b t h x)
      = (if hx : x.val < 64 then A (ix4 b t h ⟨x.val, hx⟩) else if x.val < 67 then Ideal.ofBits .f32 0x3F800000#32 else if x.val = 67 then -B (ix3 b t h) else 0 : EReal) := by
  pointwise
  split_ifs <;> first | rfl | (exfalso; omega)

theorem add_log {X Y : FVec Ideal S2x8x4224 .f32} {i : S2x8x4224.Idx} {x y : ℝ} (hX : X i = (x : EReal)) (hY : Y i = (y : EReal)) (hy : 0 < y) :
    addf X (Host.log Y) i = ((x + Real.log y : ℝ) : EReal) := by
  show X i + Ideal.log (Y i) = _
  rw [hX, hY, Ideal.log_coe, if_neg (not_le.mpr hy), ← EReal.coe_add]

variable (m : (ℓ : Loc nD τ sig) → Buf (Elt Ideal) ℓ) (c : Dev nD)

section
variable {m c} {I : In} (H : Ref.Holds I (a0 m c) (a1 m c) (a2 m c) (a3 m c) (a4 m c))
  (M : ∀ i, val_main_v18 (F := Ideal) (a0 m c) (a1 m c) (a3 m c) i = ((I.mx (i 0) (i 1) (i 2) : ℝ) : EReal))
include H

theorem v49_at (b t h d) : V m c main_v49 (ix2 (tok b t) (slim h d)) = ((I.v b t h d : ℝ) : EReal) := by
  refine (congrFun (host49 m c) _).trans ?_
  exact (merge_slim (a2 m c) _ b t h d).trans (H.v _)

theorem v51_at (b t h d) : V m c main_v51 (ix2 (tok b t) (slim h d)) = ((I.g b t h d : ℝ) : EReal) := by
  refine (congrFun (host51 m c) _).trans ?_
  exact (merge_slim (a4 m c) _ b t h d).trans (H.g _)

theorem v43_at (b t h x) : V m c main_v43 (ix2 (tok b t) (wide h x)) = ((I.qa b h t x : ℝ) : EReal) := by
  refine (congrFun (host43 m c) _).trans ?_
  refine (trunc_wide _ _ _ b t h x).trans ?_
  refine (q_lanes (a0 m c) (a3 m c) b t h x).trans ?_
  unfold In.qa
  split
  · rw [H.q, eighth, ← EReal.coe_mul]; rfl
  · split
    · rw [H.c]; rfl
    · split
      · exact EReal.coe_zero.symm
      · split
        · exact one_f32
        · exact EReal.coe_zero.symm

theorem v47_at (b t h x) : V m c main_v47 (ix2 (tok b t) (wide h x)) = ((I.ka b h t x : ℝ) : EReal) := by
  refine (congrFun (host47 m c) _).trans ?_
  refine (trunc_wide _ _ _ b t h x).trans ?_
  refine (k_lanes (a1 m c) (a3 m c) b t h x).trans ?_
  unfold In.ka
  split
  · rw [H.k]; rfl
  · split
    · exact one_f32
    · split
      · rw [H.c, ← EReal.coe_neg]; rfl
      · exact EReal.coe_zero.symm

include M

theorem v29_at (b t h d) : V m c main_v29 (ix2 (tok b t) (slim h d)) = ((I.o b h t d : ℝ) : EReal) := by
  refine (congrFun (host29 m c) _).trans ?_
  exact (merge_slim _ _ b t h d).trans (Ref.v47_at H M _)

theorem v34_at (b p t) (h : Fin 2) : V m c main_v34 (ix4 b p t ⟨h.val, by omega⟩) = ((I.mx b (pair p h) t + Real.log (I.L b (pair p h) t) : ℝ) : EReal) := by
  refine (congrFun (host34 m c) _).trans ?_
  refine (pad_lane _ _ b p t h).trans ?_
  refine (split_heads _ _ b p h t).trans ?_
  have e1 := M (ix3 b (pair p h) t); have e2 := Ref.v39_at H M (ix3 b (pair p h) t)
  exact add_log e1 e2 (I.L_pos _ _ _)
end
end Cert.FoxBwd
end
-- ==== Proof.Blocks.lean ====
module

public import proofs.«01_k».proof.Proof.Lanes
public import proofs.«01_k».proof.Proof.Data
public import Idealize.ShloMosaic.Lib.Pipeline.ValueKit.Point

@[expose] public section

/-! # The blocks of a grid point hold its batch, pair of heads and key tile -/

set_option maxRecDepth 16384

noncomputable section

namespace Cert.FoxBwd

open Idealize.ShloMosaic Idealize.ShloMosaic.TcCoe Idealize.SL.Sem
open Cert.KernelIdeal Cert.KernelIdeal.Gen
open Cert.ReferenceIdeal.Read (val_main_v18)

/-- The batch, the pair of heads and the key tile of a grid point. -/
abbrev bOf (t : Fin cfg0.N) : Fin 2 := ⟨t.val / 44, by have := t.isLt; have : cfg0.N = 88 := N_0; omega⟩
abbrev pOf (t : Fin cfg0.N) : Fin 4 := ⟨t.val / 11 % 4, by omega⟩
abbrev jOf (t : Fin cfg0.N) : Fin 11 := ⟨t.val % 11, by omega⟩

theorem idx0 : ∀ t, win0_0.index t = ![t.val / 44 * 11 + t.val % 11, t.val / 11 % 4] := by decide +kernel
theorem idx1 : ∀ t, win0_1.index t = ![t.val / 44 * 11 + t.val % 11, t.val / 11 % 4] := by decide +kernel
theorem idx2 : ∀ t, win0_2.index t = ![t.val / 44, t.val / 11 % 4] := by decide +kernel
theorem idx3 : ∀ t, win0_3.index t = ![t.val / 44, t.val / 11 % 4] := by decide +kernel
theorem idx4 : ∀ t, win0_4.index t = ![t.val / 44, t.val / 11 % 4] := by decide +kernel
theorem idx5 : ∀ t, win0_5.index t = ![t.val / 44, t.val / 11 % 4, 0, 0] := by decide +kernel

variable {m : (ℓ : Loc nD τ sig) → Buf (Elt Ideal) ℓ} {c : Dev nD}

theorem in0 (t : Fin cfg0.N) (s : Fin 384) (h : Fin 2) (x : Fin 128) :
    iblk m c 0 t (ix2 s (lane h x)) = V m c main_v47 (ix2 (tok (bOf t) (key (jOf t) s)) (wide (pair (pOf t) h) x)) := by
  blk_ext [iblk, idx0]
theorem in1 (t : Fin cfg0.N) (s : Fin 384) (h : Fin 2) (d : Fin 64) :
    iblk m c 1 t (ix2 s (half h d)) = V m c main_v49 (ix2 (tok (bOf t) (key (jOf t) s)) (slim (pair (pOf t) h) d)) := by
  blk_ext [iblk, idx1]
theorem in2 (t : Fin cfg0.N) (r : Fin 4224) (h : Fin 2) (x : Fin 128) :
    iblk m c 2 t (ix2 r (lane h x)) = V m c main_v43 (ix2 (tok (bOf t) r) (wide (pair (pOf t) h) x)) := by
  blk_ext [iblk, idx2]
theorem in3 (t : Fin cfg0.N) (r : Fin 4224) (h : Fin 2) (d : Fin 64) :
    iblk m c 3 t (ix2 r (half h d)) = V m c main_v51 (ix2 (tok (bOf t) r) (slim (pair (pOf t) h) d)) := by
  blk_ext [iblk, idx3]
theorem in4 (t : Fin cfg0.N) (r : Fin 4224) (h : Fin 2) (d : Fin 64) :
    iblk m c 4 t (ix2 r (half h d)) = V m c main_v29 (ix2 (tok (bOf t) r) (slim (pair (pOf t) h) d)) := by
  blk_ext [iblk, idx4]
theorem in5 (t : Fin cfg0.N) (r : Fin 4224) (h : Fin 2) :
    iblk m c 5 t (ix4 0 0 r ⟨h.val, by omega⟩) = V m c main_v34 (ix4 (bOf t) (pOf t) r ⟨h.val, by omega⟩) := by
  blk_ext [iblk, idx5]

variable {I : In} (H : Ref.Holds I (a0 m c) (a1 m c) (a2 m c) (a3 m c) (a4 m c))
  (M : ∀ i, val_main_v18 (F := Ideal) (a0 m c) (a1 m c) (a3 m c) i = ((I.mx (i 0) (i 1) (i 2) : ℝ) : EReal))
include H M

omit M in
theorem of_k (t : Fin cfg0.N) (s h x) : (blk m c t).k (ix2 s (lane h x)) = ((I.ka (bOf t) (pair (pOf t) h) (key (jOf t) s) x : ℝ) : EReal) :=
  (in0 t s h x).trans (v47_at H (bOf t) (key (jOf t) s) (pair (pOf t) h) x)
omit M in
theorem of_v (t : Fin cfg0.N) (s h d) : (blk m c t).v (ix2 s (half h d)) = ((I.v (bOf t) (key (jOf t) s) (pair (pOf t) h) d : ℝ) : EReal) :=
  (in1 t s h d).trans (v49_at H (bOf t) (key (jOf t) s) (pair (pOf t) h) d)
omit M in
theorem of_q (t : Fin cfg0.N) (r h x) : (blk m c t).q (ix2 r (lane h x)) = ((I.qa (bOf t) (pair (pOf t) h) r x : ℝ) : EReal) :=
  (in2 t r h x).trans (v43_at H (bOf t) r (pair (pOf t) h) x)
omit M in
theorem of_g (t : Fin cfg0.N) (r h d) : (blk m c t).g (ix2 r (half h d)) = ((I.g (bOf t) r (pair (pOf t) h) d : ℝ) : EReal) :=
  (in3 t r h d).trans (v51_at H (bOf t) r (pair (pOf t) h) d)
theorem of_o (t : Fin cfg0.N) (r h d) : (blk m c t).o (ix2 r (half h d)) = ((I.o (bOf t) (pair (pOf t) h) r d : ℝ) : EReal) :=
  (in4 t r h d).trans (v29_at H M (bOf t) r (pair (pOf t) h) d)
theorem of_z (t : Fin cfg0.N) (r) (h : Fin 2) : (blk m c t).z (ix4 0 0 r ⟨h.val, by omega⟩) = ((I.mx (bOf t) (pair (pOf t) h) r + Real.log (I.L (bOf t) (pair (pOf t) h) r) : ℝ) : EReal) :=
  (in5 t r h).trans (v34_at H M (bOf t) (pOf t) r h)

theorem blk_of (t : Fin cfg0.N) : (blk m c t).Of I (bOf t) (pOf t) (jOf t) :=
  ⟨of_k H t, of_v H t, of_q H t, of_g H t, of_o H M t, of_z H M t⟩

end Cert.FoxBwd
end
-- ==== Proof.Arrays.lean ====
module

public import proofs.«01_k».proof.Proof.Blocks

@[expose] public section

/-! # The five arrays that the launch leaves -/

set_option maxRecDepth 16384

noncomputable section

namespace Cert.FoxBwd

open Idealize.ShloMosaic Idealize.ShloMosaic.TcCoe Idealize.SL.Sem
open Cert.KernelIdeal Cert.KernelIdeal.Gen
open Cert.ReferenceIdeal.Read (val_main_v18)

theorem idx6 : ∀ t, win0_6.index t = ![t.val / 44, t.val / 11 % 4] := by decide +kernel
theorem idx7 : ∀ t, win0_7.index t = ![t.val / 44 * 11 + t.val % 11, t.val / 11 % 4] := by decide +kernel
theorem idx8 : ∀ t, win0_8.index t = ![t.val / 44 * 11 + t.val % 11, t.val / 11 % 4] := by decide +kernel
theorem idx9 : ∀ t, win0_9.index t = ![t.val / 44, t.val / 11 % 4, 0, t.val % 11] := by decide +kernel
theorem idx10 : ∀ t, win0_10.index t = ![t.val / 44, t.val / 11 % 4, 0, t.val % 11] := by decide +kernel

/-- The array of 1024 lanes with entry `f b t h x` in row `t` of batch `b`, lane `x` of head `h`. -/
def wideArr (f : Fin 2 → Fin 4224 → Fin 8 → Fin 128 → ℝ) : FVec Ideal S8448x1024 .f32 := fun i =>
  ((f ⟨(i 0).val / 4224, by have := (i 0).isLt; change _ < 8448 at this; omega⟩ ⟨(i 0).val % 4224, by omega⟩
    ⟨(i 1).val / 128, by have := (i 1).isLt; change _ < 1024 at this; omega⟩ ⟨(i 1).val % 128, by omega⟩ : ℝ) : EReal)
/-- The array of 512 lanes with entry `f b t h d` in row `t` of batch `b`, lane `d` of head `h`. -/
def slimArr (f : Fin 2 → Fin 4224 → Fin 8 → Fin 64 → ℝ) : FVec Ideal S8448x512 .f32 := fun i =>
  ((f ⟨(i 0).val / 4224, by have := (i 0).isLt; change _ < 8448 at this; omega⟩ ⟨(i 0).val % 4224, by omega⟩
    ⟨(i 1).val / 64, by have := (i 1).isLt; change _ < 512 at this; omega⟩ ⟨(i 1).val % 64, by omega⟩ : ℝ) : EReal)
/-- The array with entry `f b p s` at key `s` of the pair `p` of batch `b`. -/
def rowArr (f : Fin 2 → Fin 4 → Fin 4224 → ℝ) : FVec Ideal S2x4x1x4224 .f32 := fun i => ((f (i 0) (i 1) (i 3) : ℝ) : EReal)

theorem wideArr_at (f) (b t h x) : wideArr f (ix2 (tok b t) (wide h x)) = ((f b t h x : ℝ) : EReal) := by
  have h1 : (tok b t).val / 4224 = b.val := by show (4224 * b.val + t.val) / 4224 = _; omega
  have h2 : (tok b t).val % 4224 = t.val := by show (4224 * b.val + t.val) % 4224 = _; omega
  have h3 : (wide h x).val / 128 = h.val := by show (128 * h.val + x.val) / 128 = _; omega
  have h4 : (wide h x).val % 128 = x.val := by show (128 * h.val + x.val) % 128 = _; omega
  show ((f ⟨(tok b t).val / 4224, _⟩ ⟨(tok b t).val % 4224, _⟩ ⟨(wide h x).val / 128, _⟩ ⟨(wide h x).val % 128, _⟩ : ℝ) : EReal) = _
  simp only [h1, h2, h3, h4]
theorem slimArr_at (f) (b t h d) : slimArr f (ix2 (tok b t) (slim h d)) = ((f b t h d : ℝ) : EReal) := by
  have h1 : (tok b t).val / 4224 = b.val := by show (4224 * b.val + t.val) / 4224 = _; omega
  have h2 : (tok b t).val % 4224 = t.val := by show (4224 * b.val + t.val) % 4224 = _; omega
  have h3 : (slim h d).val / 64 = h.val := by show (64 * h.val + d.val) / 64 = _; omega
  have h4 : (slim h d).val % 64 = d.val := by show (64 * h.val + d.val) % 64 = _; omega
  show ((f ⟨(tok b t).val / 4224, _⟩ ⟨(tok b t).val % 4224, _⟩ ⟨(slim h d).val / 64, _⟩ ⟨(slim h d).val % 64, _⟩ : ℝ) : EReal) = _
  simp only [h1, h2, h3, h4]

theorem idx_wide {n : ℕ} (y : (⟨2, ![n, 256]⟩ : Shape).Idx) : ∃ r h x, y = ix2 r (lane h x) :=
  ⟨y 0, ⟨(y 1).val / 128, by have := (y 1).isLt; change _ < 256 at this; omega⟩, ⟨(y 1).val % 128, by omega⟩, funext fun a => by
    fin_cases a
    · rfl
    · exact Fin.ext (by show (y 1).val = 128 * ((y 1).val / 128) + (y 1).val % 128; omega)⟩
theorem idx_slim {n : ℕ} (y : (⟨2, ![n, 128]⟩ : Shape).Idx) : ∃ r h d, y = ix2 r (half h d) :=
  ⟨y 0, ⟨(y 1).val / 64, by have := (y 1).isLt; change _ < 128 at this; omega⟩, ⟨(y 1).val % 64, by omega⟩, funext fun a => by
    fin_cases a
    · rfl
    · exact Fin.ext (by show (y 1).val = 64 * ((y 1).val / 64) + (y 1).val % 64; omega)⟩

/-! Where a block's entry lies in its array. -/

theorem emb6 (t : Fin cfg0.N) (r : Fin 4224) (h x) : ((cfg0.win 6).blk t).view.emb (ix2 r (lane h x)) = ix2 (tok (bOf t) r) (wide (pair (pOf t) h) x) := by
  blk_ext [idx6]
theorem emb7 (t : Fin cfg0.N) (s : Fin 384) (h x) : ((cfg0.win 7).blk t).view.emb (ix2 s (lane h x)) = ix2 (tok (bOf t) (key (jOf t) s)) (wide (pair (pOf t) h) x) := by
  blk_ext [idx7]
theorem emb8 (t : Fin cfg0.N) (s : Fin 384) (h d) : ((cfg0.win 8).blk t).view.emb (ix2 s (half h d)) = ix2 (tok (bOf t) (key (jOf t) s)) (slim (pair (pOf t) h) d) := by
  blk_ext [idx8]
theorem emb9 (t : Fin cfg0.N) (y : S1x1x1x384.Idx) : ((cfg0.win 9).blk t).view.emb y = ix4 (bOf t) (pOf t) 0 (key (jOf t) (y 3)) := by
  blk_ext [idx9]
theorem emb10 (t : Fin cfg0.N) (y : S1x1x1x384.Idx) : ((cfg0.win 10).blk t).view.emb y = ix4 (bOf t) (pOf t) 0 (key (jOf t) (y 3)) := by
  blk_ext [idx10]

variable {m : (ℓ : Loc nD τ sig) → Buf (Elt Ideal) ℓ} {c : Dev nD}
variable {I : In} (H : Ref.Holds I (a0 m c) (a1 m c) (a2 m c) (a3 m c) (a4 m c))
  (M : ∀ i, val_main_v18 (F := Ideal) (a0 m c) (a1 m c) (a3 m c) i = ((I.mx (i 0) (i 1) (i 2) : ℝ) : EReal))
include H M

/-- The last point of a pair of heads holds the sum over all the keys. -/
theorem accQ_at (t : Fin cfg0.N) (ht : t.val % 11 = 10) (r h x) :
    accQ m c t (ix2 r (lane h x)) = ((∑ s, I.ds (bOf t) (pair (pOf t) h) r s * I.ka (bOf t) (pair (pOf t) h) s x : ℝ) : EReal) := by
  have hN : cfg0.N = 88 := N_0
  have ht2 := t.isLt
  unfold accQ
  rw [ht, Finset.sum_range, ← sum_keys]
  refine Finset.sum_congr rfl fun n _ => ?_
  have hl : t.val - 10 + n.val < cfg0.N := by omega
  unfold part
  rw [dif_pos hl]
  have hj : (t.val - 10 + n.val) % 11 = n.val := by omega
  have ej : jOf ⟨t.val - 10 + n.val, hl⟩ = n := Fin.ext hj
  have eb : bOf ⟨t.val - 10 + n.val, hl⟩ = bOf t := Fin.ext (by show (t.val - 10 + n.val) / 44 = t.val / 44; omega)
  have ep : pOf ⟨t.val - 10 + n.val, hl⟩ = pOf t := Fin.ext (by show (t.val - 10 + n.val) / 11 % 4 = t.val / 11 % 4; omega)
  have O := blk_of H M ⟨t.val - 10 + n.val, hl⟩
  rw [ej, eb, ep] at O
  exact (congrFun (congrArg _ hj) _).trans (O.addQ_at h r x)

/-- The queries' gradient's array. -/
theorem out6 : (dats m 0 c).arrAt 6 (cfgs 0).N = wideArr fun b t h x => ∑ s, I.ds b h t s * I.ka b h s x := by
  refine (dats m 0 c).arrAt_eq_of_covers 6 _ (by decide +kernel) fun t hf y => ?_
  have ht : t.val % 11 = 10 := by have := (flush0_6 t).mp hf; omega
  rw [left_6]
  obtain ⟨r, h, x, rfl⟩ := idx_wide y
  rw [emb6, wideArr_at]
  exact accQ_at H M t ht r h x

/-- The keys' gradient's array. -/
theorem out7 : (dats m 0 c).arrAt 7 (cfgs 0).N = wideArr fun b s h x => ∑ r, I.ds b h r s * I.qa b h r x := by
  refine (dats m 0 c).arrAt_eq_of_covers 7 _ (by decide +kernel) fun t hf y => ?_
  rw [left_7, mem_j]
  obtain ⟨s, h, x, rfl⟩ := idx_wide y
  rw [emb7, wideArr_at]
  exact (blk_of H M t).outK_at h s x

/-- The values' gradient's array. -/
theorem out8 : (dats m 0 c).arrAt 8 (cfgs 0).N = slimArr fun b s h d => I.dv b h s d := by
  refine (dats m 0 c).arrAt_eq_of_covers 8 _ (by decide +kernel) fun t hf y => ?_
  rw [left_8, mem_j]
  obtain ⟨s, h, d, rfl⟩ := idx_slim y
  rw [emb8, slimArr_at]
  exact (blk_of H M t).outV_at h s d

/-- The bias's gradient's arrays, one per head of a pair. -/
theorem out9 : (dats m 0 c).arrAt 9 (cfgs 0).N = rowArr fun b p s => I.dc b (pair p 0) s := by
  refine (dats m 0 c).arrAt_eq_of_covers 9 _ (by decide +kernel) fun t hf y => ?_
  rw [left_9, mem_j, emb9]
  exact (blk_of H M t).outC_at 0 y
theorem out10 : (dats m 0 c).arrAt 10 (cfgs 0).N = rowArr fun b p s => I.dc b (pair p 1) s := by
  refine (dats m 0 c).arrAt_eq_of_covers 10 _ (by decide +kernel) fun t hf y => ?_
  rw [left_10, mem_j, emb10]
  exact (blk_of H M t).outC_at 1 y

end Cert.FoxBwd
end
-- ==== Proof.Tail.lean ====
module

public import proofs.«01_k».proof.Proof.Arrays

@[expose] public section

/-! # The results: the launched arrays cut and laid out as the reference's four gradients -/

set_option maxRecDepth 16384

noncomputable section

namespace Cert.FoxBwd

open Idealize.ShloMosaic Idealize.ShloMosaic.TcCoe Idealize.SL.Sem
open Cert.KernelIdeal Cert.KernelIdeal.Gen
open Cert.ReferenceIdeal.Read (val_main_v18 val_main_v51 val_main_v73 val_main_v77 val_main_v79)

/-! The host operations after the launch, over any arrays. -/

section
variable (W : Valuation τ sig (Elt Ideal))

theorem tail56 : @Eq (FVec Ideal S2x4224x8x64 .f32) (StableHlo.after ([hostOps1] : List _).flatten W (Proc.devRef .tc main_v56)) <|
    mulf (extractStridedSlice S2x4224x8x64 ![0, 0, 0, 0] (shapeCast S2x4224x8x128 (W (Proc.devRef .tc main_v52_0)) shapeCasts_S8448x1024_S2x4224x8x128) slices_S2x4224x8x128_S2x4224x8x64_0_0_0_0)
      (broadcastInDim S2x4224x8x64 ![] bcast_S_S2x4224x8x64 (constant (F := Ideal) S_ .f32 0x3E000000#32)) := by
  simp only [hostOps1, List.flatten_cons, List.flatten_nil, List.append_nil, List.cons_append, List.nil_append]
  after_reads_simp
  rfl
theorem tail58 : @Eq (FVec Ideal S2x4224x8x64 .f32) (StableHlo.after ([hostOps1] : List _).flatten W (Proc.devRef .tc main_v58)) <|
    extractStridedSlice S2x4224x8x64 ![0, 0, 0, 0] (shapeCast S2x4224x8x128 (W (Proc.devRef .tc main_v52_1)) shapeCasts_S8448x1024_S2x4224x8x128) slices_S2x4224x8x128_S2x4224x8x64_0_0_0_0 := by
  simp only [hostOps1, List.flatten_cons, List.flatten_nil, List.append_nil, List.cons_append, List.nil_append]
  after_reads_simp
  rfl
theorem tail59 : @Eq (FVec Ideal S2x4224x8x64 .f32) (StableHlo.after ([hostOps1] : List _).flatten W (Proc.devRef .tc main_v59)) <|
    shapeCast S2x4224x8x64 (W (Proc.devRef .tc main_v52_2)) shapeCasts_S8448x512_S2x4224x8x64 := by
  simp only [hostOps1, List.flatten_cons, List.flatten_nil, List.append_nil, List.cons_append, List.nil_append]
  after_reads_simp
  rfl
theorem tail62 : @Eq (FVec Ideal S2x4224x8 .f32) (StableHlo.after ([hostOps1] : List _).flatten W (Proc.devRef .tc main_v62)) <|
    transpose S2x4224x8 [0, 2, 1] (shapeCast S2x8x4224 (concatenate S2x4x2x4224 2
      [⟨S2x4x1x4224, W (Proc.devRef .tc main_v52_3)⟩, ⟨S2x4x1x4224, W (Proc.devRef .tc main_v52_4)⟩] concatenates_S2x4x1x4224_S2x4x1x4224_S2x4x2x4224_d2)
      shapeCasts_S2x4x2x4224_S2x8x4224) transposes_S2x8x4224_S2x4224x8_0_2_1 := by
  simp only [hostOps1, List.flatten_cons, List.flatten_nil, List.append_nil, List.cons_append, List.nil_append]
  after_reads_simp
  rfl
end

/-! The same operations read at an index. -/

/-- A lane below 64 among 128. -/
abbrev low (d : Fin 64) : Fin 128 := ⟨d.val, by omega⟩

theorem unmerge_wide {α : Type} (A : S8448x1024.Idx → α) (hc) (b : Fin 2) (t : Fin 4224) (h : Fin 8) (x : Fin 128) :
    shapeCast S2x4224x8x128 A hc (ix4 b t h x) = A (ix2 (tok b t) (wide h x)) := by
  refine shapeCast_apply A hc _ _ ?_
  rw [Shape.rowMajor_val_two, Shape.rowMajor_val_four]
  show (4224 * b.val + t.val) * 1024 + (128 * h.val + x.val) = ((b.val * 4224 + t.val) * 8 + h.val) * 128 + x.val
  ring
theorem unmerge_slim {α : Type} (A : S8448x512.Idx → α) (hc) (b : Fin 2) (t : Fin 4224) (h : Fin 8) (d : Fin 64) :
    shapeCast S2x4224x8x64 A hc (ix4 b t h d) = A (ix2 (tok b t) (slim h d)) := by
  refine shapeCast_apply A hc _ _ ?_
  rw [Shape.rowMajor_val_two, Shape.rowMajor_val_four]
  show (4224 * b.val + t.val) * 512 + (64 * h.val + d.val) = ((b.val * 4224 + t.val) * 8 + h.val) * 64 + d.val
  ring
theorem cut_low {α : Type} (A : S8448x1024.Idx → α) (hc) (b : Fin 2) (t : Fin 4224) (h : Fin 8) (d : Fin 64) :
    extractStridedSlice S2x4224x8x64 ![0, 0, 0, 0] (shapeCast S2x4224x8x128 A hc) slices_S2x4224x8x128_S2x4224x8x64_0_0_0_0 (ix4 b t h d) = A (ix2 (tok b t) (wide h (low d))) := by
  rw [← unmerge_wide A hc b t h (low d)]
  generalize shapeCast S2x4224x8x128 A hc = Z
  pointwise
theorem join_heads {α : Type} (A : S2x4x2x4224.Idx → α) (hc) (b : Fin 2) (h : Fin 8) (t : Fin 4224) :
    shapeCast S2x8x4224 A hc (ix3 b h t) = A (ix4 b ⟨h.val / 2, by omega⟩ ⟨h.val % 2, by omega⟩ t) := by
  refine shapeCast_apply A hc _ _ ?_
  rw [Shape.rowMajor_val_three, Shape.rowMajor_val_four]
  show ((b.val * 4 + h.val / 2) * 2 + h.val % 2) * 4224 + t.val = (b.val * 8 + h.val) * 4224 + t.val
  omega
theorem cat_heads (A B : FVec Ideal S2x4x1x4224 .f32) (b : Fin 2) (p : Fin 4) (h : Fin 2) (t : Fin 4224) :
    concatenate S2x4x2x4224 2 [⟨S2x4x1x4224, A⟩, ⟨S2x4x1x4224, B⟩] concatenates_S2x4x1x4224_S2x4x1x4224_S2x4x2x4224_d2 (ix4 b p h t)
      = if h.val < 1 then A (ix4 b p 0 t) else B (ix4 b p 0 t) := by
  pointwise
  by_cases h0 : h.val < 1
  · rw [dif_pos h0, if_pos h0]
    exact congrArg (fun z => A (ix4 b p z t)) (Subsingleton.elim (α := Fin 1) _ _)
  · rw [dif_neg h0, if_neg h0]
    exact congrArg (fun z => B (ix4 b p z t)) (Subsingleton.elim (α := Fin 1) _ _)
theorem swap_last (A : FVec Ideal S2x8x4224 .f32) (b : Fin 2) (t : Fin 4224) (h : Fin 8) :
    transpose S2x4224x8 [0, 2, 1] A transposes_S2x8x4224_S2x4224x8_0_2_1 (ix3 b t h) = A (ix3 b h t) := by
  pointwise
theorem times_eighth (A : FVec Ideal S2x4224x8x64 .f32) (i : S2x4224x8x64.Idx) :
    mulf A (broadcastInDim S2x4224x8x64 ![] bcast_S_S2x4224x8x64 (constant (F := Ideal) S_ .f32 0x3E000000#32)) i = A i * (((1 / 8 : ℝ)) : EReal) := by
  rw [← eighth]; rfl

theorem idx4_of (i : S2x4224x8x64.Idx) : ∃ b t h d, i = ix4 b t h d := ⟨i 0, i 1, i 2, i 3, funext fun a => by fin_cases a <;> rfl⟩
theorem idx3_of (i : S2x4224x8.Idx) : ∃ b t h, i = ix3 b t h := ⟨i 0, i 1, i 2, funext fun a => by fin_cases a <;> rfl⟩

theorem ka_low (I : In) (b h s d) : I.ka b h s (low d) = I.k b s h d := by unfold In.ka; exact dif_pos d.isLt
theorem qa_low (I : In) (b h t d) : I.qa b h t (low d) = I.q b t h d * (1 / 8) := by unfold In.qa; exact dif_pos d.isLt

/-! The four results' entries. -/

theorem cut_q (I : In) (b t h d) : mulf (extractStridedSlice S2x4224x8x64 ![0, 0, 0, 0] (shapeCast S2x4224x8x128 (wideArr fun b t h x => ∑ s, I.ds b h t s * I.ka b h s x) shapeCasts_S8448x1024_S2x4224x8x128) slices_S2x4224x8x128_S2x4224x8x64_0_0_0_0)
      (broadcastInDim S2x4224x8x64 ![] bcast_S_S2x4224x8x64 (constant (F := Ideal) S_ .f32 0x3E000000#32)) (ix4 b t h d) = ((I.dq b h t d : ℝ) : EReal) := by
  rw [times_eighth, cut_low, wideArr_at, ← EReal.coe_mul]
  refine congrArg Real.toEReal ?_
  unfold In.dq
  exact congrArg (· * (1 / 8 : ℝ)) (Finset.sum_congr rfl fun s _ => by rw [ka_low])
theorem cut_k (I : In) (b s h d) : extractStridedSlice S2x4224x8x64 ![0, 0, 0, 0] (shapeCast S2x4224x8x128 (wideArr fun b s h x => ∑ r, I.ds b h r s * I.qa b h r x) shapeCasts_S8448x1024_S2x4224x8x128) slices_S2x4224x8x128_S2x4224x8x64_0_0_0_0 (ix4 b s h d)
    = ((I.dk b h s d : ℝ) : EReal) := by
  rw [cut_low, wideArr_at]
  refine congrArg Real.toEReal ?_
  unfold In.dk
  rw [Finset.sum_mul]
  exact Finset.sum_congr rfl fun r _ => by rw [qa_low]; ring
theorem cut_v (I : In) (b s h d) : shapeCast S2x4224x8x64 (slimArr fun b s h d => I.dv b h s d) shapeCasts_S8448x512_S2x4224x8x64 (ix4 b s h d) = ((I.dv b h s d : ℝ) : EReal) := by
  rw [unmerge_slim, slimArr_at]
theorem cut_c (I : In) (b s h) : transpose S2x4224x8 [0, 2, 1] (shapeCast S2x8x4224 (concatenate S2x4x2x4224 2
      [⟨S2x4x1x4224, rowArr fun b p s => I.dc b (pair p 0) s⟩, ⟨S2x4x1x4224, rowArr fun b p s => I.dc b (pair p 1) s⟩] concatenates_S2x4x1x4224_S2x4x1x4224_S2x4x2x4224_d2)
      shapeCasts_S2x4x2x4224_S2x8x4224) transposes_S2x8x4224_S2x4224x8_0_2_1 (ix3 b s h) = ((I.dc b h s : ℝ) : EReal) := by
  rw [swap_last, join_heads, cat_heads]
  split
  · rename_i h0
    refine congrArg (fun x => ((I.dc b x s : ℝ) : EReal)) (Fin.ext ?_)
    change h.val % 2 < 1 at h0
    show 2 * (h.val / 2) + 0 = h.val
    omega
  · rename_i h0
    refine congrArg (fun x => ((I.dc b x s : ℝ) : EReal)) (Fin.ext ?_)
    change ¬ h.val % 2 < 1 at h0
    show 2 * (h.val / 2) + 1 = h.val
    omega

theorem arr_inj : Function.Injective (Pipeline.arrRef (cfgs 0).spec) := by decide

variable {m : (ℓ : Loc nD τ sig) → Buf (Elt Ideal) ℓ} {c : Dev nD}
variable {I : In} (H : Ref.Holds I (a0 m c) (a1 m c) (a2 m c) (a3 m c) (a4 m c))
  (M : ∀ i, val_main_v18 (F := Ideal) (a0 m c) (a1 m c) (a3 m c) i = ((I.mx (i 0) (i 1) (i 2) : ℝ) : EReal))
include H M

/-- The queries' gradient is the reference's. -/
theorem end56 : Pipeline.afterTail₀ cfgs (dats m) 0 (V0 m) [hostOps1] c main_v56 = val_main_v79 (F := Ideal) (a0 m c) (a1 m c) (a2 m c) (a3 m c) (a4 m c) := by
  unfold Pipeline.afterTail₀
  refine (tail56 _).trans ?_
  rw [show Pipeline.withArrays (cfgs 0).spec c (V0 m c) (fun w => (dats m 0 c).arrAt w (cfgs 0).N) (Proc.devRef .tc main_v52_0) = _ from
    (Pipeline.withArrays_arr (cfgs 0).spec arr_inj c (V0 m c) (fun w => (dats m 0 c).arrAt w (cfgs 0).N) 6).trans (out6 H M)]
  funext i
  rw [Ref.v79_at H M]
  obtain ⟨b, t, h, d, rfl⟩ := idx4_of i
  exact cut_q I b t h d

/-- The keys' gradient is the reference's. -/
theorem end58 : Pipeline.afterTail₀ cfgs (dats m) 0 (V0 m) [hostOps1] c main_v58 = val_main_v77 (F := Ideal) (a0 m c) (a1 m c) (a2 m c) (a3 m c) (a4 m c) := by
  unfold Pipeline.afterTail₀
  refine (tail58 _).trans ?_
  rw [show Pipeline.withArrays (cfgs 0).spec c (V0 m c) (fun w => (dats m 0 c).arrAt w (cfgs 0).N) (Proc.devRef .tc main_v52_1) = _ from
    (Pipeline.withArrays_arr (cfgs 0).spec arr_inj c (V0 m c) (fun w => (dats m 0 c).arrAt w (cfgs 0).N) 7).trans (out7 H M)]
  funext i
  rw [Ref.v77_at H M]
  obtain ⟨b, t, h, d, rfl⟩ := idx4_of i
  exact cut_k I b t h d

/-- The values' gradient is the reference's. -/
theorem end59 : Pipeline.afterTail₀ cfgs (dats m) 0 (V0 m) [hostOps1] c main_v59 = val_main_v51 (F := Ideal) (a0 m c) (a1 m c) (a3 m c) (a4 m c) := by
  unfold Pipeline.afterTail₀
  refine (tail59 _).trans ?_
  rw [show Pipeline.withArrays (cfgs 0).spec c (V0 m c) (fun w => (dats m 0 c).arrAt w (cfgs 0).N) (Proc.devRef .tc main_v52_2) = _ from
    (Pipeline.withArrays_arr (cfgs 0).spec arr_inj c (V0 m c) (fun w => (dats m 0 c).arrAt w (cfgs 0).N) 8).trans (out8 H M)]
  funext i
  rw [Ref.v51_at H M]
  obtain ⟨b, t, h, d, rfl⟩ := idx4_of i
  exact cut_v I b t h d

/-- The bias's gradient is the reference's. -/
theorem end62 : Pipeline.afterTail₀ cfgs (dats m) 0 (V0 m) [hostOps1] c main_v62 = val_main_v73 (F := Ideal) (a0 m c) (a1 m c) (a2 m c) (a3 m c) (a4 m c) := by
  unfold Pipeline.afterTail₀
  refine (tail62 _).trans ?_
  rw [show Pipeline.withArrays (cfgs 0).spec c (V0 m c) (fun w => (dats m 0 c).arrAt w (cfgs 0).N) (Proc.devRef .tc main_v52_3) = _ from
    (Pipeline.withArrays_arr (cfgs 0).spec arr_inj c (V0 m c) (fun w => (dats m 0 c).arrAt w (cfgs 0).N) 9).trans (out9 H M),
    show Pipeline.withArrays (cfgs 0).spec c (V0 m c) (fun w => (dats m 0 c).arrAt w (cfgs 0).N) (Proc.devRef .tc main_v52_4) = _ from
    (Pipeline.withArrays_arr (cfgs 0).spec arr_inj c (V0 m c) (fun w => (dats m 0 c).arrAt w (cfgs 0).N) 10).trans (out10 H M)]
  funext i
  rw [Ref.v73_at H M]
  obtain ⟨b, t, h, rfl⟩ := idx3_of i
  exact cut_c I b t h

end Cert.FoxBwd
end
-- ==== Proof.Finite.lean ====
module

public import proofs.«01_k».proof.Proof.Ref
public import proofs.«01_k».proof.Pre_finite
public import Idealize.ShloMosaic.Lib.ReduceAll
public import Idealize.ShloMosaic.Lib.Decide
public import Idealize.ShloMosaic.Lib.Pointwise.Index

@[expose] public section

/-! # The precondition read: arguments that pass it hold real numbers -/

set_option maxRecDepth 16384

noncomputable section

namespace Cert.FoxBwd

open Idealize.ShloMosaic
open Cert.ReferenceIdeal.Read (val_main_v18)

/-- The precondition's shape facts. -/
instance preFacts : Cert.Pre_finite.Facts where
  bcast_S_S2x4224x8x64 := by decide
  reducesTo_S2x4224x8x64_S_d0_1_2_3 := by decide
  h_S_ := by decide
  bcast_S_S2x4224x8 := by decide
  reducesTo_S2x4224x8_S_d0_1_2 := by decide

/-- A number whose absolute value is below infinity is a real number. -/
theorem real_of_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  rw [posInf] at h
  have h' : BitVec.ofBool (decide (max x (-x) < (⊤ : EReal))) = 1#1 := h
  have hl : max x (-x) < (⊤ : EReal) := by
    by_contra hc
    rw [decide_eq_false hc] at h'
    exact absurd h' (by decide)
  refine (EReal.coe_toReal ?_ ?_).symm
  · rintro rfl; simp at hl
  · rintro rfl; simp at hl

instance : Subsingleton Cert.Pre_finite.S_.Idx := ⟨fun a b => funext fun d => d.elim0⟩

variable {x0 x1 x2 : Ref.A4} {x3 : Ref.A3} {x4 : Ref.A4}

/-- Arguments that pass the precondition hold real numbers at every index. -/
theorem reals_of_pre (h : Cert.Pre_finite.fn (F := Ideal) x0 x1 x2 x3 x4 = fun _ => 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) ∧ (∀ i, x4 i = ((EReal.toReal (x4 i) : ℝ) : EReal)) := by
  have hj := congrFun h (fun d => d.elim0)
  dsimp only [Cert.Pre_finite.fn, Cert.Pre_finite.fn_part1] at hj
  obtain ⟨h, e4⟩ := IntOp.andi_eq_one.1 hj
  obtain ⟨h, e3⟩ := IntOp.andi_eq_one.1 h
  obtain ⟨h, e2⟩ := IntOp.andi_eq_one.1 h
  obtain ⟨e0, e1⟩ := IntOp.andi_eq_one.1 h
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

/-- The index of four coordinates is itself. -/
theorem idx4_self {a b c d : ℕ} (i : (⟨4, ![a, b, c, d]⟩ : Shape).Idx) : (ix4 (i 0) (i 1) (i 2) (i 3) : (⟨4, ![a, b, c, d]⟩ : Shape).Idx) = i := by
  funext x; fin_cases x <;> rfl

theorem idx3_self {a b c : ℕ} (i : (⟨3, ![a, b, c]⟩ : Shape).Idx) : (ix3 (i 0) (i 1) (i 2) : (⟨3, ![a, b, c]⟩ : Shape).Idx) = i := by
  funext x; fin_cases x <;> rfl

/-- Arguments that pass the precondition hold some finite inputs, whose row numbers are the reference's row maxima. -/
theorem inputs_of_pre (h : Cert.Pre_finite.fn (F := Ideal) x0 x1 x2 x3 x4 = fun _ => 1#1) :
    ∃ I : In, Ref.Holds I x0 x1 x2 x3 x4
      ∧ ∀ i, val_main_v18 (F := Ideal) x0 x1 x3 i = ((I.mx (i 0) (i 1) (i 2) : ℝ) : EReal) := by
  obtain ⟨r0, r1, r2, r3, r4⟩ := reals_of_pre h
  have hold : ∀ mx, Ref.Holds ⟨fun b t h d => EReal.toReal (x0 (ix4 b t h d)), fun b t h d => EReal.toReal (x1 (ix4 b t h d)),
      fun b t h d => EReal.toReal (x2 (ix4 b t h d)), fun b t h => EReal.toReal (x3 (ix3 b t h)),
      fun b t h d => EReal.toReal (x4 (ix4 b t h d)), mx⟩ x0 x1 x2 x3 x4 := fun mx =>
    ⟨fun i => (r0 i).trans (by rw [← idx4_self i]; rfl), fun i => (r1 i).trans (by rw [← idx4_self i]; rfl),
      fun i => (r2 i).trans (by rw [← idx4_self i]; rfl), fun i => (r3 i).trans (by rw [← idx3_self i]; rfl),
      fun i => (r4 i).trans (by rw [← idx4_self i]; rfl)⟩
  refine ⟨_, hold fun b h t => Classical.choose (Ref.v18_real (hold fun _ _ _ => 0) (ix3 b h t)), fun i => ?_⟩
  exact (congrArg _ (idx3_self i).symm).trans (Classical.choose_spec (Ref.v18_real (hold fun _ _ _ => 0) (ix3 (i 0) (i 1) (i 2))))

end Cert.FoxBwd

end
-- ==== Proof.Value.lean ====
module

public import proofs.«01_k».proof.Proof.Launch
public import proofs.«01_k».proof.Proof.Tail
public import proofs.«01_k».proof.Proof.Finite
public import proofs.«01_k».proof.Proof.Gen.ReferenceIdeal.Run

@[expose] public section

/-! # The two runs: the kernel and the reference end with the same four gradients -/

set_option maxRecDepth 16384

noncomputable section

namespace Cert.FoxBwd

open Idealize.ShloMosaic Idealize.ShloMosaic.TcCoe Idealize.SL.Sem
open Cert.ReferenceIdeal.Read (val_main_v18 val_main_v51 val_main_v73 val_main_v77 val_main_v79)

section
open Cert.KernelIdeal Cert.KernelIdeal.Gen

variable (m : (ℓ : Loc nD τ sig) → Buf (Elt Ideal) ℓ) (ρ : Dev nD → PrngReg)

/-- The kernel on finite arguments ends with the reference's four gradients and its arguments unchanged. -/
theorem kernel_values (hpre : ∀ c : Dev nD, Cert.Pre_finite.fn (F := Ideal) (a0 m c) (a1 m c) (a2 m c) (a3 m c) (a4 m c) = fun _ => 1#1) :
    θ_run defs (onTc (τ := τ) (main (F := Ideal))) ⟨m, fun _ => 0, ρ⟩ (fun r => ∀ c : Dev nD,
      r.2.mem ((c.tc : Thread nD τ).loc main_v56) = val_main_v79 (F := Ideal) (a0 m c) (a1 m c) (a2 m c) (a3 m c) (a4 m c)
      ∧ r.2.mem ((c.tc : Thread nD τ).loc main_v58) = val_main_v77 (F := Ideal) (a0 m c) (a1 m c) (a2 m c) (a3 m c) (a4 m c)
      ∧ r.2.mem ((c.tc : Thread nD τ).loc main_v59) = val_main_v51 (F := Ideal) (a0 m c) (a1 m c) (a3 m c) (a4 m c)
      ∧ r.2.mem ((c.tc : Thread nD τ).loc main_v62) = val_main_v73 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (launch_ends m ρ) (kernel_frame m ρ))
  obtain ⟨⟨hp, _⟩, hf, _⟩ := h
  obtain ⟨I, H, M⟩ := inputs_of_pre (hpre c)
  have hr := (hp c).2
  exact ⟨(hr main_v56 (Pipeline.mem_restRefs_of main_v56 (by decide) (by decide))).trans (end56 H M),
    (hr main_v58 (Pipeline.mem_restRefs_of main_v58 (by decide) (by decide))).trans (end58 H M),
    (hr main_v59 (Pipeline.mem_restRefs_of main_v59 (by decide) (by decide))).trans (end59 H M),
    (hr main_v62 (Pipeline.mem_restRefs_of main_v62 (by decide) (by decide))).trans (end62 H M), hf c⟩
end

section
open Cert.ReferenceIdeal Cert.ReferenceIdeal.Gen

variable (m : (ℓ : Loc nD τ sig) → Buf (Elt Ideal) ℓ) (ρ : Dev nD → PrngReg)

/-- The reference's frame: it terminates, its arguments end unchanged and every counter at zero. -/
theorem reference_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems (by decide) _⟩) (Cert.ReferenceIdeal.Value.run m ρ)

/-- The reference's run, its four results as functions of the arguments. -/
theorem reference_values : θ_run defs (onTc (τ := τ) (main (F := Ideal))) ⟨m, fun _ => 0, ρ⟩ (fun r => ∀ c : Dev nD,
      r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v51) = val_main_v51 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.ReferenceIdeal.Value.run m ρ)
  obtain ⟨h0, h1, h2, h3, ha⟩ := h c
  exact ⟨h0.trans (Cert.ReferenceIdeal.Read.val_main_v79_eq m c), h1.trans (Cert.ReferenceIdeal.Read.val_main_v77_eq m c),
    h2.trans (Cert.ReferenceIdeal.Read.val_main_v51_eq m c), h3.trans (Cert.ReferenceIdeal.Read.val_main_v73_eq m c), ha⟩
end

end Cert.FoxBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Products
public import proofs.«01_k».proof.Proof.Value
public import proofs.«01_k».proof.Proof.Gen.UpW
public import proofs.«01_k».proof.Proof.Gen.UpWIdeal.Value
public import proofs.«01_k».proof.Proof.Gen.UpWIdeal.Frame
public import proofs.«01_k».proof.Proof.Gen.UpWRefIdeal
public import proofs.«01_k».proof.Proof.Gen.UpWRefIdeal.Run
public import proofs.«01_k».proof.Proof.Gen.UpX
public import proofs.«01_k».proof.Proof.Gen.UpXIdeal.Value
public import proofs.«01_k».proof.Proof.Gen.UpXIdeal.Frame
public import proofs.«01_k».proof.Proof.Gen.UpXRefIdeal
public import proofs.«01_k».proof.Proof.Gen.UpXRefIdeal.Run
public import proofs.«01_k».proof.Proof.Gen.InW
public import proofs.«01_k».proof.Proof.Gen.InWIdeal.Value
public import proofs.«01_k».proof.Proof.Gen.InWIdeal.Frame
public import proofs.«01_k».proof.Proof.Gen.InWRefIdeal
public import proofs.«01_k».proof.Proof.Gen.InWRefIdeal.Run
public import proofs.«01_k».proof.Proof.Gen.InX
public import proofs.«01_k».proof.Proof.Gen.InXIdeal.Value
public import proofs.«01_k».proof.Proof.Gen.InXIdeal.Frame
public import proofs.«01_k».proof.Proof.Gen.InXRefIdeal
public import proofs.«01_k».proof.Proof.Gen.InXRefIdeal.Run
public import proofs.«01_k».proof.Proof.Gen.DownW
public import proofs.«01_k».proof.Proof.Gen.DownWIdeal.Value
public import proofs.«01_k».proof.Proof.Gen.DownWIdeal.Frame
public import proofs.«01_k».proof.Proof.Gen.DownWRefIdeal
public import proofs.«01_k».proof.Proof.Gen.DownWRefIdeal.Run
public import proofs.«01_k».proof.Proof.Gen.DownX
public import proofs.«01_k».proof.Proof.Gen.DownXIdeal.Value
public import proofs.«01_k».proof.Proof.Gen.DownXIdeal.Frame
public import proofs.«01_k».proof.Proof.Gen.DownXRefIdeal
public import proofs.«01_k».proof.Proof.Gen.DownXRefIdeal.Run
public import proofs.«01_k».proof.Proof.Gen.InY
public import proofs.«01_k».proof.Proof.Gen.InYIdeal.Value
public import proofs.«01_k».proof.Proof.Gen.InYIdeal.Frame
public import proofs.«01_k».proof.Proof.Gen.InYRefIdeal
public import proofs.«01_k».proof.Proof.Gen.InYRefIdeal.Run
public import proofs.«01_k».proof.Proof.Gen.UpY
public import proofs.«01_k».proof.Proof.Gen.UpYIdeal.Value
public import proofs.«01_k».proof.Proof.Gen.UpYIdeal.Frame
public import proofs.«01_k».proof.Proof.Gen.UpYRefIdeal
public import proofs.«01_k».proof.Proof.Gen.UpYRefIdeal.Run
public import proofs.«01_k».proof.Proof.Gen.DownY
public import proofs.«01_k».proof.Proof.Gen.DownYIdeal.Value
public import proofs.«01_k».proof.Proof.Gen.DownYIdeal.Frame
public import proofs.«01_k».proof.Proof.Gen.DownYRefIdeal
public import proofs.«01_k».proof.Proof.Gen.DownYRefIdeal.Run
public import Idealize.ShloMosaic.Adequacy
public import Idealize.ShloMosaic.Init

@[expose] public section

noncomputable section

namespace Cert.Proof

open Idealize.ShloMosaic Idealize.SL.Sem Cert.Kernel

/-- The four gradients agree: both runs end with the reference's four functions of the arguments. -/
theorem algebraic : Cert.algebraic_KernelIdeal_ReferenceIdeal_pre_finite := fun m ρ m' ρ' hpre hargs =>
  ⟨_, _, _, _, Cert.FoxBwd.kernel_values m ρ hpre,
    (θ_run Cert.ReferenceIdeal.defs _ _).mono (fun r h c => by
      have h := h c
      obtain ⟨e0, e1, e2, e3, e4⟩ := hargs c
      refine ⟨h.1.trans ?_, h.2.1.trans ?_, h.2.2.1.trans ?_, h.2.2.2.1.trans ?_, h.2.2.2.2⟩
      · rw [e0, e1, e2, e3, e4]
      · rw [e0, e1, e2, e3, e4]
      · rw [e0, e1, e3, e4]
      · rw [e0, e1, e2, e3, e4]) (Cert.FoxBwd.reference_values m' ρ')⟩

/-- The claims: the attention's frames, with and without the precondition, then the products' frames; the named constant and the
equality of the attention's results, then the equality of the products' results. -/
theorem claim : Cert.Claim :=
  ⟨Cert.Kernel.Gen.facts, Cert.KernelIdeal.Gen.facts, Cert.ReferenceIdeal.Gen.facts,
    Cert.UpW.Gen.facts, Cert.UpWIdeal.Gen.facts, Cert.UpWRefIdeal.Gen.facts,
    Cert.UpX.Gen.facts, Cert.UpXIdeal.Gen.facts, Cert.UpXRefIdeal.Gen.facts,
    Cert.InW.Gen.facts, Cert.InWIdeal.Gen.facts, Cert.InWRefIdeal.Gen.facts,
    Cert.InX.Gen.facts, Cert.InXIdeal.Gen.facts, Cert.InXRefIdeal.Gen.facts,
    Cert.DownW.Gen.facts, Cert.DownWIdeal.Gen.facts, Cert.DownWRefIdeal.Gen.facts,
    Cert.DownX.Gen.facts, Cert.DownXIdeal.Gen.facts, Cert.DownXRefIdeal.Gen.facts,
    Cert.InY.Gen.facts, Cert.InYIdeal.Gen.facts, Cert.InYRefIdeal.Gen.facts,
    Cert.UpY.Gen.facts, Cert.UpYIdeal.Gen.facts, Cert.UpYRefIdeal.Gen.facts,
    Cert.DownY.Gen.facts, Cert.DownYIdeal.Gen.facts, Cert.DownYRefIdeal.Gen.facts,
    Cert.FoxBwd.preFacts,
    fun m ρ _ => Cert.FoxBwd.Word.frame m ρ,
    fun m ρ _ => Cert.FoxBwd.kernel_frame m ρ,
    fun m ρ _ => Cert.FoxBwd.kernel_frame m ρ,
    fun m ρ _ => Cert.FoxBwd.reference_frame m ρ,
    fun m ρ _ => Cert.FoxBwd.reference_frame m ρ,
    Cert.Products.UpW.word_frame, Cert.Products.UpW.ideal_frame, Cert.Products.UpW.reference_frame,
    Cert.Products.UpX.word_frame, Cert.Products.UpX.ideal_frame, Cert.Products.UpX.reference_frame,
    Cert.Products.InW.word_frame, Cert.Products.InW.ideal_frame, Cert.Products.InW.reference_frame,
    Cert.Products.InX.word_frame, Cert.Products.InX.ideal_frame, Cert.Products.InX.reference_frame,
    Cert.Products.DownW.word_frame, Cert.Products.DownW.ideal_frame, Cert.Products.DownW.reference_frame,
    Cert.Products.DownX.word_frame, Cert.Products.DownX.ideal_frame, Cert.Products.DownX.reference_frame,
    Cert.Products.InY.word_frame, Cert.Products.InY.ideal_frame, Cert.Products.InY.reference_frame,
    Cert.Products.UpY.word_frame, Cert.Products.UpY.ideal_frame, Cert.Products.UpY.reference_frame,
    Cert.Products.DownY.word_frame, Cert.Products.DownY.ideal_frame, Cert.Products.DownY.reference_frame,
    IdealRules.named_const.statement Cert.KernelIdeal.κ "mask" .f32 0xF149F2CA#32 ⊥ rfl,
    algebraic,
    trivial, Cert.Products.UpW.algebraic,
    trivial, Cert.Products.UpX.algebraic,
    trivial, Cert.Products.InW.algebraic,
    trivial, Cert.Products.InX.algebraic,
    trivial, Cert.Products.DownW.algebraic,
    trivial, Cert.Products.DownX.algebraic,
    trivial, Cert.Products.InY.algebraic,
    trivial, Cert.Products.UpY.algebraic,
    trivial, Cert.Products.DownY.algebraic⟩

end Cert.Proof

end
